-- ==== Defs.lean ====
def Pre_Kernel [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_Kernel_none (m : (ℓ : Loc Cert.Kernel.nD Cert.Kernel.τ Cert.Kernel.sig) → Buf (Elt Bits) ℓ) : Prop :=
  True

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 [hPre_finite_small : Cert.Pre_finite_small.Facts] (m : (ℓ : Loc Cert.Kernel2.nD Cert.Kernel2.τ Cert.Kernel2.sig) → Buf (Elt Bits) ℓ) : Prop :=
  ∀ c : Dev Cert.Kernel2.nD,
    (Cert.Pre_finite_small.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2))) = (fun _ => 1#1)

def Pre_Kernel2_none (m : (ℓ : Loc Cert.Kernel2.nD Cert.Kernel2.τ Cert.Kernel2.sig) → Buf (Elt Bits) ℓ) : Prop :=
  True

def Pre_Kernel2Ideal [hPre_finite_small : Cert.Pre_finite_small.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_small.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Kernel2Ideal_none (m : (ℓ : Loc Cert.Kernel2Ideal.nD Cert.Kernel2Ideal.τ Cert.Kernel2Ideal.sig) → Buf (Elt Ideal) ℓ) : Prop :=
  True

def Pre_Reference2Ideal [hPre_finite_small : Cert.Pre_finite_small.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_small.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 [hPre_finite_mem : Cert.Pre_finite_mem.Facts] (m : (ℓ : Loc Cert.Kernel7.nD Cert.Kernel7.τ Cert.Kernel7.sig) → Buf (Elt Bits) ℓ) : Prop :=
  ∀ c : Dev Cert.Kernel7.nD,
    (Cert.Pre_finite_mem.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3))) = (fun _ => 1#1)

def Pre_Kernel7_none (m : (ℓ : Loc Cert.Kernel7.nD Cert.Kernel7.τ Cert.Kernel7.sig) → Buf (Elt Bits) ℓ) : Prop :=
  True

def Pre_Kernel7Ideal [hPre_finite_mem : Cert.Pre_finite_mem.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_mem.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Kernel7Ideal_none (m : (ℓ : Loc Cert.Kernel7Ideal.nD Cert.Kernel7Ideal.τ Cert.Kernel7Ideal.sig) → Buf (Elt Ideal) ℓ) : Prop :=
  True

def Pre_Reference7Ideal [hPre_finite_mem : Cert.Pre_finite_mem.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_mem.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel_pre_none [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel_none m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_finite_small : Cert.Pre_finite_small.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2_pre_none [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2_none m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] [hPre_finite_small : Cert.Pre_finite_small.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_none [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_none m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] [hPre_finite_small : Cert.Pre_finite_small.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] [hPre_finite_mem : Cert.Pre_finite_mem.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7_pre_none [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7_none m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] [hPre_finite_mem : Cert.Pre_finite_mem.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_none [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_none m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] [hPre_finite_mem : Cert.Pre_finite_mem.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  IdealRules.named_const.Statement Cert.KernelIdeal.κ "scale2" .f32 0x3E0293EE#32 (((11863283 / 134217728) * (Real.log 2)⁻¹ : ℝ) : EReal)
  ∧ IdealRules.named_const.Statement Cert.KernelIdeal.κ "neg" .f32 0xF149F2CA#32 ⊥

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] [hPre_finite_small : Cert.Pre_finite_small.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] [hPre_finite_mem : Cert.Pre_finite_mem.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v52) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v61) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite_small : Cert.Pre_finite_small.Facts) (hPre_finite_mem : Cert.Pre_finite_mem.Facts),
    quiescent_Kernel (hKernel := hKernel) (hPre_finite := hPre_finite)
    ∧ quiescent_Kernel_pre_none (hKernel := hKernel)
    ∧ quiescent_KernelIdeal (hKernelIdeal := hKernelIdeal) (hPre_finite := hPre_finite)
    ∧ quiescent_KernelIdeal_pre_none (hKernelIdeal := hKernelIdeal)
    ∧ quiescent_ReferenceIdeal (hReferenceIdeal := hReferenceIdeal) (hPre_finite := hPre_finite)
    ∧ quiescent_Kernel2 (hKernel2 := hKernel2) (hPre_finite_small := hPre_finite_small)
    ∧ quiescent_Kernel2_pre_none (hKernel2 := hKernel2)
    ∧ quiescent_Kernel2Ideal (hKernel2Ideal := hKernel2Ideal) (hPre_finite_small := hPre_finite_small)
    ∧ quiescent_Kernel2Ideal_pre_none (hKernel2Ideal := hKernel2Ideal)
    ∧ quiescent_Reference2Ideal (hReference2Ideal := hReference2Ideal) (hPre_finite_small := hPre_finite_small)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7) (hPre_finite_mem := hPre_finite_mem)
    ∧ quiescent_Kernel7_pre_none (hKernel7 := hKernel7)
    ∧ quiescent_Kernel7Ideal (hKernel7Ideal := hKernel7Ideal) (hPre_finite_mem := hPre_finite_mem)
    ∧ quiescent_Kernel7Ideal_pre_none (hKernel7Ideal := hKernel7Ideal)
    ∧ quiescent_Reference7Ideal (hReference7Ideal := hReference7Ideal) (hPre_finite_mem := hPre_finite_mem)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_finite_small := hPre_finite_small)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal) (hPre_finite_mem := hPre_finite_mem)
    ∧ preserves_Kernel8_Kernel8Ideal
    ∧ algebraic_Kernel8Ideal_Reference8Ideal (hKernel8Ideal := hKernel8Ideal) (hReference8Ideal := hReference8Ideal)
-- ==== Pre_finite.lean ====
abbrev S4x4096x6144 : Shape := ⟨3, ![4, 4096, 6144]⟩
abbrev S4x4096x5120 : Shape := ⟨3, ![4, 4096, 5120]⟩
abbrev S1x128 : Shape := ⟨2, ![1, 128]⟩
abbrev S4096x64 : Shape := ⟨2, ![4096, 64]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  main_v18

def fn {F : FTy → Type} [FloatOps F] (main_arg0 : FVec F S4x4096x6144 .f32) (main_arg1 : FVec F S4x4096x5120 .bf16) (main_arg2 : FVec F S1x128 .f32) (main_arg3 : FVec F S1x128 .f32) (main_arg4 : FVec F S4096x64 .f32) (main_arg5 : FVec F S4096x64 .f32) : IVec S_ 1 :=
  let main_v0 : FVec F S1x128 .f32 := Host.absf main_arg2
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S4096x64 .f32 := Host.absf main_arg4
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096x64 .f32 := Host.absf main_arg5
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_v13 main_v16
-- ==== Pre_finite_mem.lean ====
abbrev S4x4096x6144 : Shape := ⟨3, ![4, 4096, 6144]⟩
abbrev S4x256x2048 : Shape := ⟨3, ![4, 256, 2048]⟩
abbrev S256 : Shape := ⟨1, ![256]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : FVec F S4x4096x6144 .f32) (main_arg1 : FVec F S4x256x2048 .f32) (main_arg2 : FVec F S256 .f32) (main_arg3 : FVec F S256 .f32) : IVec S_ 1 :=
  let main_v0 : FVec F S256 .f32 := Host.absf main_arg2
  let main_cst : FVec F S_ .f32 := constant S_ .f32 0x7F800000#32
  let main_v1 : FVec F S256 .f32 := broadcastInDim S256 ![] bcast_S_S256 main_cst
  let main_v2 : IVec S256 1 := cmpf .olt main_v0 main_v1
  let main_c : IVec S_ 1 := constantI S_ 1 1#1
  let main_v3 : IVec S_ 1 := (fun x v => Host.reduce IntOp.andi x v reducesTo_S256_S_d0 h_S_) main_v2 main_c
  let main_v4 : FVec F S256 .f32 := Host.absf main_arg3
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  main_v8
-- ==== Pre_finite_small.lean ====
abbrev S4x4096x1024 : Shape := ⟨3, ![4, 4096, 1024]⟩
abbrev S1024 : Shape := ⟨1, ![1024]⟩
abbrev S1024x11280 : Shape := ⟨2, ![1024, 11280]⟩
abbrev S_ : Shape := ⟨0, ![]⟩
abbrev S1024x16 : Shape := ⟨2, ![1024, 16]⟩

class Facts : Prop where
  bcast_S_S1024 : S_.BroadcastsInDim S1024 (![] : Fin 0 → Fin S1024.rank)
  reducesTo_S1024_S_d0 : S1024.ReducesTo [0] S_
  h_S_ : 0 < S_.numel
  slices_S1024x11280_S1024x16_0_6144 : S1024x11280.Slices ![0, 6144] S1024x16
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S4x4096x1024 .f32) (main_arg1 : FVec F S1024 .f32) (main_arg2 : FVec F S1024x11280 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x16 .f32 := (extractStridedSlice S1024x16 ![0, 6144] · slices_S1024x11280_S1024x16_0_6144) main_arg2
  let main_v5 : FVec F S1024x16 .f32 := Host.absf main_v4
  let main_cst_0 : FVec F S_ .f32 := constant S_ .f32 0x7F800000#32
  let main_v6 : FVec F S1024x16 .f32 := broadcastInDim S1024x16 ![] bcast_S_S1024x16 main_cst_0
  let main_v7 : IVec S1024x16 1 := cmpf .olt main_v5 main_v6
  let main_c_1 : IVec S_ 1 := constantI S_ 1 1#1
  let main_v8 : IVec S_ 1 := (fun x v => Host.reduce IntOp.andi x v reducesTo_S1024x16_S_d0_1 h_S_) main_v7 main_c_1
  let main_v9 : IVec S_ 1 := andi main_v3 main_v8
  main_v9
-- ==== Kernel.lean ====
abbrev S4x4096x6144 : Shape := ⟨3, ![4, 4096, 6144]⟩
abbrev S4x4096x5120 : Shape := ⟨3, ![4, 4096, 5120]⟩
abbrev S1x128 : Shape := ⟨2, ![1, 128]⟩
abbrev S4096x64 : Shape := ⟨2, ![4096, 64]⟩
abbrev S4096x128 : Shape := ⟨2, ![4096, 128]⟩
abbrev S_ : Shape := ⟨0, ![]⟩
abbrev S4x4096x1024 : Shape := ⟨3, ![4, 4096, 1024]⟩
abbrev S4x4096x2048 : Shape := ⟨3, ![4, 4096, 2048]⟩
abbrev S4x8x16x128 : Shape := ⟨4, ![4, 8, 16, 128]⟩
abbrev S1x2048x128 : Shape := ⟨3, ![1, 2048, 128]⟩
abbrev S2048x128 : Shape := ⟨2, ![2048, 128]⟩
abbrev S1x2048x256 : Shape := ⟨3, ![1, 2048, 256]⟩
abbrev S1x1x8x128 : Shape := ⟨4, ![1, 1, 8, 128]⟩
abbrev S2048 : Shape := ⟨1, ![2048]⟩
abbrev S2048x1 : Shape := ⟨2, ![2048, 1]⟩
abbrev S8x256x128 : Shape := ⟨3, ![8, 256, 128]⟩
abbrev S8x128 : Shape := ⟨2, ![8, 128]⟩
abbrev S1x4096x128 : Shape := ⟨3, ![1, 4096, 128]⟩
abbrev S1x1x16x128 : Shape := ⟨4, ![1, 1, 16, 128]⟩
abbrev S1x4096x256 : Shape := ⟨3, ![1, 4096, 256]⟩
abbrev S16x128 : Shape := ⟨2, ![16, 128]⟩
abbrev S16x4096 : Shape := ⟨2, ![16, 4096]⟩
abbrev S1x4096 : Shape := ⟨2, ![1, 4096]⟩
abbrev S4x2048x1024 : Shape := ⟨3, ![4, 2048, 1024]⟩
abbrev S1x256x256 : Shape := ⟨3, ![1, 256, 256]⟩
abbrev S1x256x128 : Shape := ⟨3, ![1, 256, 128]⟩
abbrev S2x256x256 : Shape := ⟨3, ![2, 256, 256]⟩
abbrev S17x256x256 : Shape := ⟨3, ![17, 256, 256]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 38
  | .vmem => 38
  | .smem => 0
  | _ => 0

abbrev bufTy : (tb : Table) → Fin (tcTables nBuf tb) → BufTy
  | .hbm, ⟨0, _⟩ => ⟨S4x4096x6144, .f32⟩
  | .hbm, ⟨1, _⟩ => ⟨S4x4096x5120, .bf16⟩
  | .hbm, ⟨2, _⟩ => ⟨S1x128, .f32⟩
  | .hbm, ⟨3, _⟩ => ⟨S1x128, .f32⟩
  | .hbm, ⟨4, _⟩ => ⟨S4096x64, .f32⟩
  | .hbm, ⟨5, _⟩ => ⟨S4096x64, .f32⟩
  | .hbm, ⟨6, _⟩ => ⟨S4096x128, .f32⟩
  | .hbm, ⟨7, _⟩ => ⟨S4096x64, .f32⟩
  | .hbm, ⟨8, _⟩ => ⟨S4096x128, .f32⟩
  | .hbm, ⟨9, _⟩ => ⟨S4096x128, .i32⟩
  | .hbm, ⟨10, _⟩ => ⟨S_, .i32⟩
  | .hbm, ⟨11, _⟩ => ⟨S_, .i32⟩
  | .hbm, ⟨12, _⟩ => ⟨S4096x128, .i32⟩
  | .hbm, ⟨13, _⟩ => ⟨S4096x128, .i32⟩
  | .hbm, ⟨14, _⟩ => ⟨S4096x128, .i32⟩
  | .hbm, ⟨15, _⟩ => ⟨S_, .i32⟩
  | .hbm, ⟨16, _⟩ => ⟨S4096x128, .i32⟩
  | .hbm, ⟨17, _⟩ => ⟨S4096x128, .i1⟩
  | .hbm, ⟨18, _⟩ => ⟨S4096x128, .i32⟩
  | .hbm, ⟨19, _⟩ => ⟨S4096x128, .i32⟩
  | .hbm, ⟨20, _⟩ => ⟨S_, .i32⟩
  | .hbm, ⟨21, _⟩ => ⟨S4096x128, .i32⟩
  | .hbm, ⟨22, _⟩ => ⟨S4096x128, .i1⟩
  | .hbm, ⟨23, _⟩ => ⟨S4096x128, .i1⟩
  | .hbm, ⟨24, _⟩ => ⟨S_, .i32⟩
  | .hbm, ⟨25, _⟩ => ⟨S4096x128, .i32⟩
  | .hbm, ⟨26, _⟩ => ⟨S4096x128, .i32⟩
  | .hbm, ⟨27, _⟩ => ⟨S4096x128, .i32⟩
  | .hbm, ⟨28, _⟩ => ⟨S4096x128, .i32⟩
  | .hbm, ⟨29, _⟩ => ⟨S4096x128, .i1⟩
  | .hbm, ⟨30, _⟩ => ⟨S4096x128, .f32⟩
  | .hbm, ⟨31, _⟩ => ⟨S4096x128, .bf16⟩
  | .hbm, ⟨32, _⟩ => ⟨S4x4096x1024, .f32⟩
  | .hbm, ⟨33, _⟩ => ⟨S4x4096x2048, .bf16⟩
  | .hbm, ⟨34, _⟩ => ⟨S4x8x16x128, .f32⟩
  | .hbm, ⟨35, _⟩ => ⟨S4x4096x2048, .bf16⟩
  | .hbm, ⟨36, _⟩ => ⟨S4x2048x1024, .bf16⟩
  | .hbm, ⟨37, _⟩ => ⟨S4x2048x1024, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S1x2048x128, .f32⟩
  | .local _ .vmem, ⟨13, _⟩ => ⟨S1x2048x128, .f32⟩
  | .local _ .vmem, ⟨14, _⟩ => ⟨S1x2048x256, .bf16⟩
  | .local _ .vmem, ⟨15, _⟩ => ⟨S1x2048x256, .bf16⟩
  | .local _ .vmem, ⟨16, _⟩ => ⟨S1x1x8x128, .f32⟩
  | .local _ .vmem, ⟨17, _⟩ => ⟨S1x1x8x128, .f32⟩
  | .local _ .vmem, ⟨18, _⟩ => ⟨S1x4096x128, .f32⟩
  | .local _ .vmem, ⟨19, _⟩ => ⟨S1x4096x128, .f32⟩
  | .local _ .vmem, ⟨20, _⟩ => ⟨S1x1x16x128, .f32⟩
  | .local _ .vmem, ⟨21, _⟩ => ⟨S1x1x16x128, .f32⟩
  | .local _ .vmem, ⟨22, _⟩ => ⟨S1x4096x256, .bf16⟩
  | .local _ .vmem, ⟨23, _⟩ => ⟨S1x4096x256, .bf16⟩
  | .local _ .vmem, ⟨24, _⟩ => ⟨S1x256x256, .bf16⟩
  | .local _ .vmem, ⟨25, _⟩ => ⟨S1x256x256, .bf16⟩
  | .local _ .vmem, ⟨26, _⟩ => ⟨S1x256x256, .bf16⟩
  | .local _ .vmem, ⟨27, _⟩ => ⟨S1x256x256, .bf16⟩
  | .local _ .vmem, ⟨28, _⟩ => ⟨S1x4096x256, .bf16⟩
  | .local _ .vmem, ⟨29, _⟩ => ⟨S1x4096x256, .bf16⟩
  | .local _ .vmem, ⟨30, _⟩ => ⟨S1x4096x128, .bf16⟩
  | .local _ .vmem, ⟨31, _⟩ => ⟨S1x4096x128, .bf16⟩
  | .local _ .vmem, ⟨32, _⟩ => ⟨S1x256x128, .bf16⟩
  | .local _ .vmem, ⟨33, _⟩ => ⟨S1x256x128, .bf16⟩
  | .local _ .vmem, ⟨34, _⟩ => ⟨S1x256x128, .bf16⟩
  | .local _ .vmem, ⟨35, _⟩ => ⟨S1x256x128, .bf16⟩
  | .local _ .vmem, ⟨36, _⟩ => ⟨S2x256x256, .bf16⟩
  | .local _ .vmem, ⟨37, _⟩ => ⟨S17x256x256, .f32⟩
  | _, _ => ⟨S4x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9_0 : Ref sig .tc := ⟨.hbm, 32, rfl⟩
abbrev main_v9_1 : Ref sig .tc := ⟨.hbm, 33, rfl⟩
abbrev main_v9_2 : Ref sig .tc := ⟨.hbm, 34, rfl⟩
abbrev main_v10 : Ref sig .tc := ⟨.hbm, 35, rfl⟩
abbrev main_v11_0 : Ref sig .tc := ⟨.hbm, 36, rfl⟩
abbrev main_v11_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_scratch0 : Ref sig .tc := ⟨.vmem, 36, rfl⟩
abbrev cc2_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35

abbrev nD : Nat := 1
abbrev τ : Topo := Topo.v7x

variable {F : FTy → Type} [FloatOps F]

abbrev grid0 : Pipeline.Grid := ⟨3, ![4, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨3, ![4, 8, 8], ![false, false, false]⟩

def k2_mult1 (i : grid2.Coords) : BitVec 32 :=
  let arg2 : BitVec 32 := BitVec.ofNat 32 (i 2).val
  let c256_i32 : BitVec 32 := 256#32
  let v19 : BitVec 32 := Scalar.muli arg2 c256_i32
  v19
def k2_off1 (i : grid2.Coords) : Fin 3 → Nat :=
  let c0_14 : Index := 0#32
  let arg2 : BitVec 32 := BitVec.ofNat 32 (i 2).val
  let c256_i32 : BitVec 32 := 256#32
  let v19 : BitVec 32 := Scalar.muli arg2 c256_i32
  let v20 : BitVec 32 := v19
  let v21 : Index := Scalar.indexCast v20
  let c0_15 : Index := 0#32
  ![0, v21.toNat, 0]
def k2_mult2 (i : grid2.Coords) : BitVec 32 :=
  let c15_i32 : BitVec 32 := 15#32
  let arg2 : BitVec 32 := BitVec.ofNat 32 (i 2).val
  let v0 : BitVec 32 := Scalar.subi c15_i32 arg2
  let c256_i32_22 : BitVec 32 := 256#32
  let v34 : BitVec 32 := Scalar.muli v0 c256_i32_22
  v34
def k2_off2 (i : grid2.Coords) : Fin 3 → Nat :=
  let c0_23 : Index := 0#32
  let c15_i32 : BitVec 32 := 15#32
  let arg2 : BitVec 32 := BitVec.ofNat 32 (i 2).val
  let v0 : BitVec 32 := Scalar.subi c15_i32 arg2
  let c256_i32_22 : BitVec 32 := 256#32
  let v34 : BitVec 32 := Scalar.muli v0 c256_i32_22
  let v35 : BitVec 32 := v34
  let v36 : Index := Scalar.indexCast v35
  let c0_24 : Index := 0#32
  ![0, v36.toNat, 0]
def k2_mult3 : BitVec 32 :=
  let c0_i32 : BitVec 32 := 0#32
  c0_i32
def k2_mult4 : BitVec 32 :=
  let c256_i32_40 : BitVec 32 := 256#32
  c256_i32_40
def k2_mult5 : BitVec 32 :=
  let c512_i32 : BitVec 32 := 512#32
  c512_i32
def k2_mult6 : BitVec 32 :=
  let c768_i32 : BitVec 32 := 768#32
  c768_i32
def k2_mult7 : BitVec 32 :=
  let c1024_i32 : BitVec 32 := 1024#32
  c1024_i32
def k2_mult8 : BitVec 32 :=
  let c1280_i32 : BitVec 32 := 1280#32
  c1280_i32
def k2_mult9 : BitVec 32 :=
  let c1536_i32 : BitVec 32 := 1536#32
  c1536_i32
def k2_mult10 : BitVec 32 :=
  let c1792_i32 : BitVec 32 := 1792#32
  c1792_i32
def k2_off3 (i : grid2.Coords) (c0_i32_95 : BitVec 32) : Fin 3 → Nat :=
  let arg2 : BitVec 32 := BitVec.ofNat 32 (i 2).val
  let v159 : BitVec 1 := Scalar.cmpi .sgt arg2 c0_i32_95
  let c0_i32_96 : BitVec 32 := 0#32
  let c1_i32 : BitVec 32 := 1#32
  let v160 : BitVec 32 := Scalar.select v159 c0_i32_96 c1_i32
  let v163 : Index := Scalar.indexCast v160
  let c0_98 : Index := 0#32
  let c0_99 : Index := 0#32
  ![v163.toNat, 0, 0]
def k2_mult11 (i : grid2.Coords) : BitVec 32 :=
  let arg2 : BitVec 32 := BitVec.ofNat 32 (i 2).val
  let c0_i32_95 : BitVec 32 := 0#32
  let v159 : BitVec 1 := Scalar.cmpi .sgt arg2 c0_i32_95
  let c0_i32_97 : BitVec 32 := 0#32
  let c8_i32 : BitVec 32 := 8#32
  let v161 : BitVec 32 := Scalar.subi c8_i32 arg2
  let v162 : BitVec 32 := Scalar.select v159 c0_i32_97 v161
  let c256_i32_100 : BitVec 32 := 256#32
  let v166 : BitVec 32 := Scalar.muli v162 c256_i32_100
  v166
def k2_off4 (i : grid2.Coords) (c0_i32_95 : BitVec 32) (c0_i32_97 : BitVec 32) (c8_i32 : BitVec 32) : Fin 3 → Nat :=
  let c0_101 : Index := 0#32
  let arg2 : BitVec 32 := BitVec.ofNat 32 (i 2).val
  let v159 : BitVec 1 := Scalar.cmpi .sgt arg2 c0_i32_95
  let v161 : BitVec 32 := Scalar.subi c8_i32 arg2
  let v162 : BitVec 32 := Scalar.select v159 c0_i32_97 v161
  let c256_i32_100 : BitVec 32 := 256#32
  let v166 : BitVec 32 := Scalar.muli v162 c256_i32_100
  let v167 : BitVec 32 := v166
  let v168 : Index := Scalar.indexCast v167
  let c0_102 : Index := 0#32
  ![0, v168.toNat, 0]
def k2_off4_at (r : Fin 7) : BitVec 32 × BitVec 32 × BitVec 32 :=
  if r.val < 3 then
    if r.val < 1 then
      (0#32, 0#32, 8#32)
    else
      if r.val < 2 then
        (1#32, 1#32, 9#32)
      else
        (2#32, 2#32, 10#32)
  else
    if r.val < 5 then
      if r.val < 4 then
        (3#32, 3#32, 11#32)
      else
        (4#32, 4#32, 12#32)
    else
      if r.val < 6 then
        (5#32, 5#32, 13#32)
      else
        (6#32, 6#32, 14#32)
def k2_mult12 (i : grid2.Coords) : BitVec 32 :=
  let arg2 : BitVec 32 := BitVec.ofNat 32 (i 2).val
  let c1_i32_108 : BitVec 32 := 1#32
  let v184 : BitVec 1 := Scalar.cmpi .sgt arg2 c1_i32_108
  let c1_i32_111 : BitVec 32 := 1#32
  let c9_i32 : BitVec 32 := 9#32
  let v186 : BitVec 32 := Scalar.subi c9_i32 arg2
  let v187 : BitVec 32 := Scalar.select v184 c1_i32_111 v186
  let c256_i32_114 : BitVec 32 := 256#32
  let v191 : BitVec 32 := Scalar.muli v187 c256_i32_114
  v191
def k2_mult13 (i : grid2.Coords) : BitVec 32 :=
  let arg2 : BitVec 32 := BitVec.ofNat 32 (i 2).val
  let c2_i32 : BitVec 32 := 2#32
  let v209 : BitVec 1 := Scalar.cmpi .sgt arg2 c2_i32
  let c2_i32_124 : BitVec 32 := 2#32
  let c10_i32 : BitVec 32 := 10#32
  let v211 : BitVec 32 := Scalar.subi c10_i32 arg2
  let v212 : BitVec 32 := Scalar.select v209 c2_i32_124 v211
  let c256_i32_127 : BitVec 32 := 256#32
  let v216 : BitVec 32 := Scalar.muli v212 c256_i32_127
  v216
def k2_mult14 (i : grid2.Coords) : BitVec 32 :=
  let arg2 : BitVec 32 := BitVec.ofNat 32 (i 2).val
  let c3_i32 : BitVec 32 := 3#32
  let v234 : BitVec 1 := Scalar.cmpi .sgt arg2 c3_i32
  let c3_i32_137 : BitVec 32 := 3#32
  let c11_i32 : BitVec 32 := 11#32
  let v236 : BitVec 32 := Scalar.subi c11_i32 arg2
  let v237 : BitVec 32 := Scalar.select v234 c3_i32_137 v236
  let c256_i32_140 : BitVec 32 := 256#32
  let v241 : BitVec 32 := Scalar.muli v237 c256_i32_140
  v241
def k2_mult15 (i : grid2.Coords) : BitVec 32 :=
  let arg2 : BitVec 32 := BitVec.ofNat 32 (i 2).val
  let c4_i32 : BitVec 32 := 4#32
  let v259 : BitVec 1 := Scalar.cmpi .sgt arg2 c4_i32
  let c4_i32_150 : BitVec 32 := 4#32
  let c12_i32 : BitVec 32 := 12#32
  let v261 : BitVec 32 := Scalar.subi c12_i32 arg2
  let v262 : BitVec 32 := Scalar.select v259 c4_i32_150 v261
  let c256_i32_153 : BitVec 32 := 256#32
  let v266 : BitVec 32 := Scalar.muli v262 c256_i32_153
  v266
def k2_mult16 (i : grid2.Coords) : BitVec 32 :=
  let arg2 : BitVec 32 := BitVec.ofNat 32 (i 2).val
  let c5_i32 : BitVec 32 := 5#32
  let v284 : BitVec 1 := Scalar.cmpi .sgt arg2 c5_i32
  let c5_i32_163 : BitVec 32 := 5#32
  let c13_i32 : BitVec 32 := 13#32
  let v286 : BitVec 32 := Scalar.subi c13_i32 arg2
  let v287 : BitVec 32 := Scalar.select v284 c5_i32_163 v286
  let c256_i32_166 : BitVec 32 := 256#32
  let v291 : BitVec 32 := Scalar.muli v287 c256_i32_166
  v291
def k2_mult17 (i : grid2.Coords) : BitVec 32 :=
  let arg2 : BitVec 32 := BitVec.ofNat 32 (i 2).val
  let c6_i32 : BitVec 32 := 6#32
  let v309 : BitVec 1 := Scalar.cmpi .sgt arg2 c6_i32
  let c6_i32_176 : BitVec 32 := 6#32
  let c14_i32 : BitVec 32 := 14#32
  let v311 : BitVec 32 := Scalar.subi c14_i32 arg2
  let v312 : BitVec 32 := Scalar.select v309 c6_i32_176 v311
  let c256_i32_179 : BitVec 32 := 256#32
  let v316 : BitVec 32 := Scalar.muli v312 c256_i32_179
  v316
def k2_mult18 (i : grid2.Coords) : BitVec 32 :=
  let arg2 : BitVec 32 := BitVec.ofNat 32 (i 2).val
  let c256_i32_192 : BitVec 32 := 256#32
  let v355 : BitVec 32 := Scalar.muli arg2 c256_i32_192
  v355
def k2_off5 (i : grid2.Coords) : Fin 3 → Nat :=
  let c0_193 : Index := 0#32
  let arg2 : BitVec 32 := BitVec.ofNat 32 (i 2).val
  let c256_i32_192 : BitVec 32 := 256#32
  let v355 : BitVec 32 := Scalar.muli arg2 c256_i32_192
  let v356 : BitVec 32 := v355
  let v357 : Index := Scalar.indexCast v356
  let c0_194 : Index := 0#32
  ![0, v357.toNat, 0]
def k2_mult19 (i : grid2.Coords) : BitVec 32 :=
  let c15_i32 : BitVec 32 := 15#32
  let arg2 : BitVec 32 := BitVec.ofNat 32 (i 2).val
  let v0 : BitVec 32 := Scalar.subi c15_i32 arg2
  let c256_i32_199 : BitVec 32 := 256#32
  let v374 : BitVec 32 := Scalar.muli v0 c256_i32_199
  v374
def k2_off6 (i : grid2.Coords) : Fin 3 → Nat :=
  let c0_200 : Index := 0#32
  let c15_i32 : BitVec 32 := 15#32
  let arg2 : BitVec 32 := BitVec.ofNat 32 (i 2).val
  let v0 : BitVec 32 := Scalar.subi c15_i32 arg2
  let c256_i32_199 : BitVec 32 := 256#32
  let v374 : BitVec 32 := Scalar.muli v0 c256_i32_199
  let v375 : BitVec 32 := v374
  let v376 : Index := Scalar.indexCast v375
  let c0_201 : Index := 0#32
  ![0, v376.toNat, 0]
def k2_mult20 : BitVec 32 :=
  let c0_i32_206 : BitVec 32 := 0#32
  c0_i32_206
def k2_mult21 : BitVec 32 :=
  let c256_i32_213 : BitVec 32 := 256#32
  c256_i32_213
def k2_mult22 : BitVec 32 :=
  let c512_i32_220 : BitVec 32 := 512#32
  c512_i32_220
def k2_mult23 : BitVec 32 :=
  let c768_i32_227 : BitVec 32 := 768#32
  c768_i32_227
def k2_mult24 : BitVec 32 :=
  let c1024_i32_234 : BitVec 32 := 1024#32
  c1024_i32_234
def k2_mult25 : BitVec 32 :=
  let c1280_i32_241 : BitVec 32 := 1280#32
  c1280_i32_241
def k2_mult26 : BitVec 32 :=
  let c1536_i32_248 : BitVec 32 := 1536#32
  c1536_i32_248
def k2_mult27 : BitVec 32 :=
  let c1792_i32_255 : BitVec 32 := 1792#32
  c1792_i32_255
def k2_mult28 (i : grid2.Coords) : BitVec 32 :=
  let arg2 : BitVec 32 := BitVec.ofNat 32 (i 2).val
  let c0_i32_259 : BitVec 32 := 0#32
  let v540 : BitVec 1 := Scalar.cmpi .sgt arg2 c0_i32_259
  let c0_i32_261 : BitVec 32 := 0#32
  let c8_i32_260 : BitVec 32 := 8#32
  let v541 : BitVec 32 := Scalar.subi c8_i32_260 arg2
  let v542 : BitVec 32 := Scalar.select v540 c0_i32_261 v541
  let c256_i32_265 : BitVec 32 := 256#32
  let v557 : BitVec 32 := Scalar.muli v542 c256_i32_265
  v557
def k2_off7 (i : grid2.Coords) (c0_i32_259 : BitVec 32) (c0_i32_261 : BitVec 32) (c8_i32_260 : BitVec 32) : Fin 3 → Nat :=
  let c0_266 : Index := 0#32
  let arg2 : BitVec 32 := BitVec.ofNat 32 (i 2).val
  let v540 : BitVec 1 := Scalar.cmpi .sgt arg2 c0_i32_259
  let v541 : BitVec 32 := Scalar.subi c8_i32_260 arg2
  let v542 : BitVec 32 := Scalar.select v540 c0_i32_261 v541
  let c256_i32_265 : BitVec 32 := 256#32
  let v557 : BitVec 32 := Scalar.muli v542 c256_i32_265
  let v558 : BitVec 32 := v557
  let v559 : Index := Scalar.indexCast v558
  let c0_267 : Index := 0#32
  ![0, v559.toNat, 0]
def k2_off7_at (r : Fin 7) : BitVec 32 × BitVec 32 × BitVec 32 :=
  if r.val < 3 then
    if r.val < 1 then
      (0#32, 0#32, 8#32)
    else
      if r.val < 2 then
        (1#32, 1#32, 9#32)
      else
        (2#32, 2#32, 10#32)
  else
    if r.val < 5 then
      if r.val < 4 then
        (3#32, 3#32, 11#32)
      else
        (4#32, 4#32, 12#32)
    else
      if r.val < 6 then
        (5#32, 5#32, 13#32)
      else
        (6#32, 6#32, 14#32)
def k2_mult29 (i : grid2.Coords) : BitVec 32 :=
  let arg2 : BitVec 32 := BitVec.ofNat 32 (i 2).val
  let c1_i32_273 : BitVec 32 := 1#32
  let v575 : BitVec 1 := Scalar.cmpi .sgt arg2 c1_i32_273
  let c1_i32_275 : BitVec 32 := 1#32
  let c9_i32_274 : BitVec 32 := 9#32
  let v576 : BitVec 32 := Scalar.subi c9_i32_274 arg2
  let v577 : BitVec 32 := Scalar.select v575 c1_i32_275 v576
  let c256_i32_279 : BitVec 32 := 256#32
  let v592 : BitVec 32 := Scalar.muli v577 c256_i32_279
  v592
def k2_mult30 (i : grid2.Coords) : BitVec 32 :=
  let arg2 : BitVec 32 := BitVec.ofNat 32 (i 2).val
  let c2_i32_287 : BitVec 32 := 2#32
  let v610 : BitVec 1 := Scalar.cmpi .sgt arg2 c2_i32_287
  let c2_i32_289 : BitVec 32 := 2#32
  let c10_i32_288 : BitVec 32 := 10#32
  let v611 : BitVec 32 := Scalar.subi c10_i32_288 arg2
  let v612 : BitVec 32 := Scalar.select v610 c2_i32_289 v611
  let c256_i32_293 : BitVec 32 := 256#32
  let v627 : BitVec 32 := Scalar.muli v612 c256_i32_293
  v627
def k2_mult31 (i : grid2.Coords) : BitVec 32 :=
  let arg2 : BitVec 32 := BitVec.ofNat 32 (i 2).val
  let c3_i32_301 : BitVec 32 := 3#32
  let v645 : BitVec 1 := Scalar.cmpi .sgt arg2 c3_i32_301
  let c3_i32_303 : BitVec 32 := 3#32
  let c11_i32_302 : BitVec 32 := 11#32
  let v646 : BitVec 32 := Scalar.subi c11_i32_302 arg2
  let v647 : BitVec 32 := Scalar.select v645 c3_i32_303 v646
  let c256_i32_307 : BitVec 32 := 256#32
  let v662 : BitVec 32 := Scalar.muli v647 c256_i32_307
  v662
def k2_mult32 (i : grid2.Coords) : BitVec 32 :=
  let arg2 : BitVec 32 := BitVec.ofNat 32 (i 2).val
  let c4_i32_315 : BitVec 32 := 4#32
  let v680 : BitVec 1 := Scalar.cmpi .sgt arg2 c4_i32_315
  let c4_i32_317 : BitVec 32 := 4#32
  let c12_i32_316 : BitVec 32 := 12#32
  let v681 : BitVec 32 := Scalar.subi c12_i32_316 arg2
  let v682 : BitVec 32 := Scalar.select v680 c4_i32_317 v681
  let c256_i32_321 : BitVec 32 := 256#32
  let v697 : BitVec 32 := Scalar.muli v682 c256_i32_321
  v697
def k2_mult33 (i : grid2.Coords) : BitVec 32 :=
  let arg2 : BitVec 32 := BitVec.ofNat 32 (i 2).val
  let c5_i32_329 : BitVec 32 := 5#32
  let v715 : BitVec 1 := Scalar.cmpi .sgt arg2 c5_i32_329
  let c5_i32_331 : BitVec 32 := 5#32
  let c13_i32_330 : BitVec 32 := 13#32
  let v716 : BitVec 32 := Scalar.subi c13_i32_330 arg2
  let v717 : BitVec 32 := Scalar.select v715 c5_i32_331 v716
  let c256_i32_335 : BitVec 32 := 256#32
  let v732 : BitVec 32 := Scalar.muli v717 c256_i32_335
  v732
def k2_mult34 (i : grid2.Coords) : BitVec 32 :=
  let arg2 : BitVec 32 := BitVec.ofNat 32 (i 2).val
  let c6_i32_343 : BitVec 32 := 6#32
  let v750 : BitVec 1 := Scalar.cmpi .sgt arg2 c6_i32_343
  let c6_i32_345 : BitVec 32 := 6#32
  let c14_i32_344 : BitVec 32 := 14#32
  let v751 : BitVec 32 := Scalar.subi c14_i32_344 arg2
  let v752 : BitVec 32 := Scalar.select v750 c6_i32_345 v751
  let c256_i32_349 : BitVec 32 := 256#32
  let v767 : BitVec 32 := Scalar.muli v752 c256_i32_349
  v767
def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg0.toNat, v0.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c0_i32 : BitVec 32 := 0#32
  ![arg0.toNat, v0.toNat, arg1.toNat]

abbrev stage2_0 : Fin 2 → Memref sig .tc .vmem S1x256x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x256x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S1x4096x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x4096x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S1x256x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

abbrev stage2_5 : Fin 2 → Memref sig .tc .vmem S1x256x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, true]
-- ==== KernelIdeal.lean ====
variable {F : FTy → Type} [FloatOps F] [Named F]
def κ : String → Option EReal := fun
  | "neg" => some ⊥
  | "scale2" => some (((11863283 / 134217728) * (Real.log 2)⁻¹ : ℝ) : EReal)
  | _ => none
-- ==== ReferenceIdeal.lean ====
abbrev S4x4096x6144 : Shape := ⟨3, ![4, 4096, 6144]⟩
abbrev S4x4096x5120 : Shape := ⟨3, ![4, 4096, 5120]⟩
abbrev S1x128 : Shape := ⟨2, ![1, 128]⟩
abbrev S4096x64 : Shape := ⟨2, ![4096, 64]⟩
abbrev S4x4096x1024 : Shape := ⟨3, ![4, 4096, 1024]⟩
abbrev S4x4096x8x128 : Shape := ⟨4, ![4, 4096, 8, 128]⟩
abbrev S4x8x4096x128 : Shape := ⟨4, ![4, 8, 4096, 128]⟩
abbrev S128 : Shape := ⟨1, ![128]⟩
abbrev S_ : Shape := ⟨0, ![]⟩
abbrev S4x8x4096 : Shape := ⟨3, ![4, 8, 4096]⟩
abbrev S4x8x4096x1 : Shape := ⟨4, ![4, 8, 4096, 1]⟩
abbrev S1x1x1x128 : Shape := ⟨4, ![1, 1, 1, 128]⟩
abbrev S4x8x4096x64 : Shape := ⟨4, ![4, 8, 4096, 64]⟩
abbrev S1x1x4096x64 : Shape := ⟨4, ![1, 1, 4096, 64]⟩
abbrev S4096 : Shape := ⟨1, ![4096]⟩
abbrev S4x8x16x256x128 : Shape := ⟨5, ![4, 8, 16, 256, 128]⟩
abbrev S4x8x16x128 : Shape := ⟨4, ![4, 8, 16, 128]⟩
abbrev S4x8x4096x16 : Shape := ⟨4, ![4, 8, 4096, 16]⟩
abbrev S16 : Shape := ⟨1, ![16]⟩
abbrev S1x16 : Shape := ⟨2, ![1, 16]⟩
abbrev S4096x1 : Shape := ⟨2, ![4096, 1]⟩
abbrev S4096x16 : Shape := ⟨2, ![4096, 16]⟩
abbrev S4x8x4096x3 : Shape := ⟨4, ![4, 8, 4096, 3]⟩
abbrev S3 : Shape := ⟨1, ![3]⟩
abbrev S1x3 : Shape := ⟨2, ![1, 3]⟩
abbrev S4096x3 : Shape := ⟨2, ![4096, 3]⟩
abbrev S4x8x4096x4096 : Shape := ⟨4, ![4, 8, 4096, 4096]⟩
abbrev S1x4096 : Shape := ⟨2, ![1, 4096]⟩
abbrev S4096x4096 : Shape := ⟨2, ![4096, 4096]⟩
abbrev S1x1x1x4096 : Shape := ⟨4, ![1, 1, 1, 4096]⟩
abbrev S1x1x4096x1 : Shape := ⟨4, ![1, 1, 4096, 1]⟩
abbrev S4x2048x1024 : Shape := ⟨3, ![4, 2048, 1024]⟩

abbrev nBuf : Space → Nat
  | .hbm => 229
  | .vmem => 0
  | .smem => 0
  | _ => 0

abbrev hbmTy0_0 (i : Nat) : BufTy := match i % 128 with
  | 0 => ⟨S4x4096x6144, .f32⟩
  | 1 => ⟨S4x4096x5120, .bf16⟩
  | 2 => ⟨S1x128, .f32⟩
  | 3 => ⟨S1x128, .f32⟩
  | 4 => ⟨S4096x64, .f32⟩
  | 5 => ⟨S4096x64, .f32⟩
  | 6 => ⟨S4x4096x1024, .f32⟩
  | 7 => ⟨S4x4096x8x128, .f32⟩
  | 8 => ⟨S4x8x4096x128, .f32⟩
  | 9 => ⟨S128, .f32⟩
  | 10 => ⟨S4x8x4096x128, .f32⟩
  | 11 => ⟨S_, .f32⟩
  | 12 => ⟨S4x8x4096, .f32⟩
  | 13 => ⟨S4x8x4096x1, .f32⟩
  | 14 => ⟨S_, .f32⟩
  | 15 => ⟨S4x8x4096x1, .f32⟩
  | 16 => ⟨S4x8x4096x1, .f32⟩
  | 17 => ⟨S_, .f32⟩
  | 18 => ⟨S4x8x4096x1, .f32⟩
  | 19 => ⟨S4x8x4096x1, .f32⟩
  | 20 => ⟨S4x8x4096x1, .f32⟩
  | 21 => ⟨S4x8x4096x128, .f32⟩
  | 22 => ⟨S4x8x4096x128, .f32⟩
  | 23 => ⟨S1x1x1x128, .f32⟩
  | 24 => ⟨S4x8x4096x128, .f32⟩
  | 25 => ⟨S4x8x4096x128, .f32⟩
  | 26 => ⟨S4x8x4096x64, .f32⟩
  | 27 => ⟨S4x8x4096x64, .f32⟩
  | 28 => ⟨S1x1x4096x64, .f32⟩
  | 29 => ⟨S4x8x4096x64, .f32⟩
  | 30 => ⟨S4x8x4096x64, .f32⟩
  | 31 => ⟨S1x1x4096x64, .f32⟩
  | 32 => ⟨S4x8x4096x64, .f32⟩
  | 33 => ⟨S4x8x4096x64, .f32⟩
  | 34 => ⟨S4x8x4096x64, .f32⟩
  | 35 => ⟨S1x1x4096x64, .f32⟩
  | 36 => ⟨S4x8x4096x64, .f32⟩
  | 37 => ⟨S4x8x4096x64, .f32⟩
  | 38 => ⟨S1x1x4096x64, .f32⟩
  | 39 => ⟨S4x8x4096x64, .f32⟩
  | 40 => ⟨S4x8x4096x64, .f32⟩
  | 41 => ⟨S4x8x4096x64, .f32⟩
  | 42 => ⟨S4x8x4096x128, .f32⟩
  | 43 => ⟨S4x4096x1024, .f32⟩
  | 44 => ⟨S4x4096x8x128, .f32⟩
  | 45 => ⟨S4x8x4096x128, .f32⟩
  | 46 => ⟨S128, .f32⟩
  | 47 => ⟨S4x8x4096x128, .f32⟩
  | 48 => ⟨S_, .f32⟩
  | 49 => ⟨S4x8x4096, .f32⟩
  | 50 => ⟨S4x8x4096x1, .f32⟩
  | 51 => ⟨S_, .f32⟩
  | 52 => ⟨S4x8x4096x1, .f32⟩
  | 53 => ⟨S4x8x4096x1, .f32⟩
  | 54 => ⟨S_, .f32⟩
  | 55 => ⟨S4x8x4096x1, .f32⟩
  | 56 => ⟨S4x8x4096x1, .f32⟩
  | 57 => ⟨S4x8x4096x1, .f32⟩
  | 58 => ⟨S4x8x4096x128, .f32⟩
  | 59 => ⟨S4x8x4096x128, .f32⟩
  | 60 => ⟨S1x1x1x128, .f32⟩
  | 61 => ⟨S4x8x4096x128, .f32⟩
  | 62 => ⟨S4x8x4096x128, .f32⟩
  | 63 => ⟨S4x8x4096x64, .f32⟩
  | 64 => ⟨S4x8x4096x64, .f32⟩
  | 65 => ⟨S1x1x4096x64, .f32⟩
  | 66 => ⟨S4x8x4096x64, .f32⟩
  | 67 => ⟨S4x8x4096x64, .f32⟩
  | 68 => ⟨S1x1x4096x64, .f32⟩
  | 69 => ⟨S4x8x4096x64, .f32⟩
  | 70 => ⟨S4x8x4096x64, .f32⟩
  | 71 => ⟨S4x8x4096x64, .f32⟩
  | 72 => ⟨S1x1x4096x64, .f32⟩
  | 73 => ⟨S4x8x4096x64, .f32⟩
  | 74 => ⟨S4x8x4096x64, .f32⟩
  | 75 => ⟨S1x1x4096x64, .f32⟩
  | 76 => ⟨S4x8x4096x64, .f32⟩
  | 77 => ⟨S4x8x4096x64, .f32⟩
  | 78 => ⟨S4x8x4096x64, .f32⟩
  | 79 => ⟨S4x8x4096x128, .f32⟩
  | 80 => ⟨S4x4096x1024, .bf16⟩
  | 81 => ⟨S4x4096x1024, .f32⟩
  | 82 => ⟨S4x4096x8x128, .f32⟩
  | 83 => ⟨S4x8x4096x128, .f32⟩
  | 84 => ⟨S4096, .i32⟩
  | 85 => ⟨S_, .i32⟩
  | 86 => ⟨S_, .i32⟩
  | 87 => ⟨S4096, .i32⟩
  | 88 => ⟨S4096, .i32⟩
  | 89 => ⟨S4096, .i32⟩
  | 90 => ⟨S_, .i32⟩
  | 91 => ⟨S4096, .i32⟩
  | 92 => ⟨S4096, .i1⟩
  | 93 => ⟨S4096, .i32⟩
  | 94 => ⟨S4096, .i32⟩
  | 95 => ⟨S_, .i32⟩
  | 96 => ⟨S4096, .i32⟩
  | 97 => ⟨S4096, .i1⟩
  | 98 => ⟨S4096, .i1⟩
  | 99 => ⟨S_, .i32⟩
  | 100 => ⟨S4096, .i32⟩
  | 101 => ⟨S4096, .i32⟩
  | 102 => ⟨S4096, .i32⟩
  | 103 => ⟨S4x8x16x256x128, .f32⟩
  | 104 => ⟨S_, .f32⟩
  | 105 => ⟨S4x8x16x128, .f32⟩
  | 106 => ⟨S_, .f32⟩
  | 107 => ⟨S4x8x16x128, .f32⟩
  | 108 => ⟨S4x8x16x128, .f32⟩
  | 109 => ⟨S4x8x4096x16, .f32⟩
  | 110 => ⟨S16, .i32⟩
  | 111 => ⟨S1x16, .i32⟩
  | 112 => ⟨S4096x1, .i32⟩
  | 113 => ⟨S4096x16, .i32⟩
  | 114 => ⟨S4096x16, .i32⟩
  | 115 => ⟨S4096x16, .i1⟩
  | 116 => ⟨S_, .f32⟩
  | 117 => ⟨S_, .f32⟩
  | 118 => ⟨S4x8x4096x16, .i1⟩
  | 119 => ⟨S4x8x4096x16, .f32⟩
  | 120 => ⟨S4x8x4096x16, .f32⟩
  | 121 => ⟨S4x8x4096x3, .f32⟩
  | 122 => ⟨S4x8x4096x3, .i32⟩
  | 123 => ⟨S3, .i32⟩
  | 124 => ⟨S1x3, .i32⟩
  | 125 => ⟨S4096x1, .i32⟩
  | 126 => ⟨S4096x3, .i32⟩
  | 127 => ⟨S4096x3, .i32⟩
  | _ => ⟨S4x4096x6144, .f32⟩

abbrev hbmTy0_1 (i : Nat) : BufTy := match i % 128 with
  | 0 => ⟨S4096x3, .i1⟩
  | 1 => ⟨S_, .i32⟩
  | 2 => ⟨S_, .i32⟩
  | 3 => ⟨S4096, .i32⟩
  | 4 => ⟨S4096, .i32⟩
  | 5 => ⟨S4096, .i32⟩
  | 6 => ⟨S_, .i32⟩
  | 7 => ⟨S4096, .i32⟩
  | 8 => ⟨S4096, .i1⟩
  | 9 => ⟨S4096, .i32⟩
  | 10 => ⟨S4096, .i32⟩
  | 11 => ⟨S_, .i32⟩
  | 12 => ⟨S4096, .i32⟩
  | 13 => ⟨S4096, .i1⟩
  | 14 => ⟨S4096, .i1⟩
  | 15 => ⟨S_, .i32⟩
  | 16 => ⟨S4096, .i32⟩
  | 17 => ⟨S4096, .i32⟩
  | 18 => ⟨S4096, .i32⟩
  | 19 => ⟨S4x8x4096x4096, .f32⟩
  | 20 => ⟨S_, .f32⟩
  | 21 => ⟨S4x8x4096x4096, .f32⟩
  | 22 => ⟨S4x8x4096x4096, .f32⟩
  | 23 => ⟨S1x4096, .i32⟩
  | 24 => ⟨S4096x1, .i32⟩
  | 25 => ⟨S4096x4096, .i32⟩
  | 26 => ⟨S4096x4096, .i32⟩
  | 27 => ⟨S4096x4096, .i1⟩
  | 28 => ⟨S1x4096, .i32⟩
  | 29 => ⟨S4096x1, .i32⟩
  | 30 => ⟨S4096x4096, .i32⟩
  | 31 => ⟨S4096x4096, .i32⟩
  | 32 => ⟨S4096x4096, .i1⟩
  | 33 => ⟨S4096x4096, .i1⟩
  | 34 => ⟨S4x8x4096x4096, .i1⟩
  | 35 => ⟨S4x8x4096x1, .i32⟩
  | 36 => ⟨S4x8x4096, .i32⟩
  | 37 => ⟨S4x8x4096x1, .i32⟩
  | 38 => ⟨S1x1x1x4096, .i32⟩
  | 39 => ⟨S4x8x4096x4096, .i32⟩
  | 40 => ⟨S4x8x4096x4096, .i32⟩
  | 41 => ⟨S4x8x4096x4096, .i1⟩
  | 42 => ⟨S4096x1, .i1⟩
  | 43 => ⟨S4096, .i1⟩
  | 44 => ⟨S4096x1, .i1⟩
  | 45 => ⟨S1x1x4096x1, .i1⟩
  | 46 => ⟨S4x8x4096x4096, .i1⟩
  | 47 => ⟨S4x8x4096x4096, .i1⟩
  | 48 => ⟨S4x8x4096x4096, .i1⟩
  | 49 => ⟨S4x8x4096x1, .i32⟩
  | 50 => ⟨S4x8x4096, .i32⟩
  | 51 => ⟨S4x8x4096x1, .i32⟩
  | 52 => ⟨S1x1x1x4096, .i32⟩
  | 53 => ⟨S4x8x4096x4096, .i32⟩
  | 54 => ⟨S4x8x4096x4096, .i32⟩
  | 55 => ⟨S4x8x4096x4096, .i1⟩
  | 56 => ⟨S4096x1, .i1⟩
  | 57 => ⟨S4096, .i1⟩
  | 58 => ⟨S4096x1, .i1⟩
  | 59 => ⟨S1x1x4096x1, .i1⟩
  | 60 => ⟨S4x8x4096x4096, .i1⟩
  | 61 => ⟨S4x8x4096x4096, .i1⟩
  | 62 => ⟨S4x8x4096x4096, .i1⟩
  | 63 => ⟨S4x8x4096x1, .i32⟩
  | 64 => ⟨S4x8x4096, .i32⟩
  | 65 => ⟨S4x8x4096x1, .i32⟩
  | 66 => ⟨S1x1x1x4096, .i32⟩
  | 67 => ⟨S4x8x4096x4096, .i32⟩
  | 68 => ⟨S4x8x4096x4096, .i32⟩
  | 69 => ⟨S4x8x4096x4096, .i1⟩
  | 70 => ⟨S4096x1, .i1⟩
  | 71 => ⟨S4096, .i1⟩
  | 72 => ⟨S4096x1, .i1⟩
  | 73 => ⟨S1x1x4096x1, .i1⟩
  | 74 => ⟨S4x8x4096x4096, .i1⟩
  | 75 => ⟨S4x8x4096x4096, .i1⟩
  | 76 => ⟨S4x8x4096x4096, .i1⟩
  | 77 => ⟨S_, .f32⟩
  | 78 => ⟨S_, .f32⟩
  | 79 => ⟨S4x8x4096x4096, .f32⟩
  | 80 => ⟨S4x8x4096x4096, .f32⟩
  | 81 => ⟨S_, .f32⟩
  | 82 => ⟨S4x8x4096, .f32⟩
  | 83 => ⟨S_, .f32⟩
  | 84 => ⟨S4x8x4096, .f32⟩
  | 85 => ⟨S4x8x4096, .f32⟩
  | 86 => ⟨S4x8x4096x1, .f32⟩
  | 87 => ⟨S4x8x4096x4096, .f32⟩
  | 88 => ⟨S4x8x4096x4096, .f32⟩
  | 89 => ⟨S4x8x4096x4096, .f32⟩
  | 90 => ⟨S_, .f32⟩
  | 91 => ⟨S4x8x4096, .f32⟩
  | 92 => ⟨S4x8x4096x1, .f32⟩
  | 93 => ⟨S4x8x4096x4096, .f32⟩
  | 94 => ⟨S4x8x4096x4096, .f32⟩
  | 95 => ⟨S4x8x4096x128, .f32⟩
  | 96 => ⟨S4x4096x8x128, .f32⟩
  | 97 => ⟨S4x4096x1024, .f32⟩
  | 98 => ⟨S4x4096x1024, .bf16⟩
  | 99 => ⟨S4x2048x1024, .bf16⟩
  | 100 => ⟨S4x2048x1024, .bf16⟩
  | _ => ⟨S4x4096x6144, .f32⟩

abbrev hbmTy (i : Nat) : BufTy := match i / 128 with
  | 0 => hbmTy0_0 i
  | 1 => hbmTy0_1 i
  | _ => ⟨S4x4096x6144, .f32⟩

abbrev bufTy : (tb : Table) → Fin (tcTables nBuf tb) → BufTy
  | .hbm, ⟨i, _⟩ => hbmTy i
  | _, _ => ⟨S4x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_c : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_v5 : Ref sig .tc := ⟨.hbm, 91, rfl⟩
abbrev main_call0_v6 : Ref sig .tc := ⟨.hbm, 92, rfl⟩
abbrev main_call0_v7 : Ref sig .tc := ⟨.hbm, 93, rfl⟩
abbrev main_call0_v8 : Ref sig .tc := ⟨.hbm, 94, rfl⟩
abbrev main_call0_c : Ref sig .tc := ⟨.hbm, 95, rfl⟩
abbrev main_call0_v9 : Ref sig .tc := ⟨.hbm, 96, rfl⟩
abbrev main_call0_v10 : Ref sig .tc := ⟨.hbm, 97, rfl⟩
abbrev main_call0_v11 : Ref sig .tc := ⟨.hbm, 98, rfl⟩
abbrev main_call0_c_0 : Ref sig .tc := ⟨.hbm, 99, rfl⟩
abbrev main_call0_v12 : Ref sig .tc := ⟨.hbm, 100, rfl⟩
abbrev main_call0_v13 : Ref sig .tc := ⟨.hbm, 101, rfl⟩
abbrev main_v73 : Ref sig .tc := ⟨.hbm, 102, rfl⟩
abbrev main_v74 : Ref sig .tc := ⟨.hbm, 103, rfl⟩
abbrev main_cst_5 : Ref sig .tc := ⟨.hbm, 104, rfl⟩
abbrev main_v75 : Ref sig .tc := ⟨.hbm, 105, rfl⟩
abbrev main_cst_6 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_7 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_v85 : Ref sig .tc := ⟨.hbm, 120, rfl⟩
abbrev main_values : Ref sig .tc := ⟨.hbm, 121, rfl⟩
abbrev main_indices : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_c_8 : Ref sig .tc := ⟨.hbm, 129, rfl⟩
abbrev main_call2_v0 : Ref sig .tc := ⟨.hbm, 130, rfl⟩
abbrev main_call2_v1 : Ref sig .tc := ⟨.hbm, 131, rfl⟩
abbrev main_call2_v2 : Ref sig .tc := ⟨.hbm, 132, rfl⟩
abbrev main_call2_v3 : Ref sig .tc := ⟨.hbm, 133, rfl⟩
abbrev main_call2_v4 : Ref sig .tc := ⟨.hbm, 134, rfl⟩
abbrev main_call2_v5 : Ref sig .tc := ⟨.hbm, 135, rfl⟩
abbrev main_call2_v6 : Ref sig .tc := ⟨.hbm, 136, rfl⟩
abbrev main_call2_v7 : Ref sig .tc := ⟨.hbm, 137, rfl⟩
abbrev main_call2_v8 : Ref sig .tc := ⟨.hbm, 138, rfl⟩
abbrev main_call2_c : Ref sig .tc := ⟨.hbm, 139, rfl⟩
abbrev main_call2_v9 : Ref sig .tc := ⟨.hbm, 140, rfl⟩
abbrev main_call2_v10 : Ref sig .tc := ⟨.hbm, 141, rfl⟩
abbrev main_call2_v11 : Ref sig .tc := ⟨.hbm, 142, rfl⟩
abbrev main_call2_c_0 : Ref sig .tc := ⟨.hbm, 143, rfl⟩
abbrev main_call2_v12 : Ref sig .tc := ⟨.hbm, 144, rfl⟩
abbrev main_call2_v13 : Ref sig .tc := ⟨.hbm, 145, rfl⟩
abbrev main_v92 : Ref sig .tc := ⟨.hbm, 146, rfl⟩
abbrev main_v93 : Ref sig .tc := ⟨.hbm, 147, rfl⟩
abbrev main_cst_9 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_cst_10 : Ref sig .tc := ⟨.hbm, 205, rfl⟩
abbrev main_call3_v0 : Ref sig .tc := ⟨.hbm, 206, rfl⟩
abbrev main_call3_v1 : Ref sig .tc := ⟨.hbm, 207, rfl⟩
abbrev main_v150 : Ref sig .tc := ⟨.hbm, 208, rfl⟩
abbrev main_cst_11 : Ref sig .tc := ⟨.hbm, 209, rfl⟩
abbrev main_v151 : Ref sig .tc := ⟨.hbm, 210, rfl⟩
abbrev main_cst_12 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_cst_13 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024 : Shape := ⟨1, ![1024]⟩
abbrev S1024x11280 : Shape := ⟨2, ![1024, 11280]⟩
abbrev S16384x1024 : Shape := ⟨2, ![16384, 1024]⟩
abbrev S1024x2048 : Shape := ⟨2, ![1024, 2048]⟩
abbrev S1024x3072 : Shape := ⟨2, ![1024, 3072]⟩
abbrev S1024x1024 : Shape := ⟨2, ![1024, 1024]⟩
abbrev S1024x6144 : Shape := ⟨2, ![1024, 6144]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S1024x256 : Shape := ⟨2, ![1024, 256]⟩
abbrev S16384x6144 : Shape := ⟨2, ![16384, 6144]⟩
abbrev S16384x128 : Shape := ⟨2, ![16384, 128]⟩
abbrev S1024x1 : Shape := ⟨2, ![1024, 1]⟩

abbrev nBuf : Space → Nat
  | .hbm => 21
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x11280, .f32⟩
  | .hbm, ⟨3, _⟩ => ⟨S16384x1024, .f32⟩
  | .hbm, ⟨4, _⟩ => ⟨S1024x2048, .f32⟩
  | .hbm, ⟨5, _⟩ => ⟨S1024x3072, .f32⟩
  | .hbm, ⟨6, _⟩ => ⟨S1024x1024, .f32⟩
  | .hbm, ⟨7, _⟩ => ⟨S1024x6144, .f32⟩
  | .hbm, ⟨8, _⟩ => ⟨S1024x6144, .bf16⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1x1024, .f32⟩
  | .hbm, ⟨14, _⟩ => ⟨S1024x128, .bf16⟩
  | .hbm, ⟨15, _⟩ => ⟨S1024x128, .f32⟩
  | .hbm, ⟨16, _⟩ => ⟨S1024x128, .f32⟩
  | .hbm, ⟨17, _⟩ => ⟨S1024x128, .bf16⟩
  | .hbm, ⟨18, _⟩ => ⟨S1024x256, .bf16⟩
  | .hbm, ⟨19, _⟩ => ⟨S16384x6144, .f32⟩
  | .hbm, ⟨20, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x256, .bf16⟩
  | .local _ .vmem, ⟨6, _⟩ => ⟨S1024x1024, .f32⟩
  | .local _ .vmem, ⟨7, _⟩ => ⟨S1024x1024, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S4x4096x1024 : Shape := ⟨3, ![4, 4096, 1024]⟩
abbrev S1024 : Shape := ⟨1, ![1024]⟩
abbrev S1024x11280 : Shape := ⟨2, ![1024, 11280]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x11280 : Shape := ⟨3, ![4, 4096, 11280]⟩
abbrev S4x4096x2048 : Shape := ⟨3, ![4, 4096, 2048]⟩
abbrev S4x4096x3072 : Shape := ⟨3, ![4, 4096, 3072]⟩
abbrev S4x4096x16 : Shape := ⟨3, ![4, 4096, 16]⟩
abbrev S4x4096x6144 : Shape := ⟨3, ![4, 4096, 6144]⟩
abbrev S16384x6144 : Shape := ⟨2, ![16384, 6144]⟩
abbrev S16384x16 : Shape := ⟨2, ![16384, 16]⟩
abbrev S16384x128 : Shape := ⟨2, ![16384, 128]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x11280, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x11280, .f32⟩
  | .hbm, ⟨20, _⟩ => ⟨S4x4096x2048, .f32⟩
  | .hbm, ⟨21, _⟩ => ⟨S4x4096x3072, .f32⟩
  | .hbm, ⟨22, _⟩ => ⟨S4x4096x16, .f32⟩
  | .hbm, ⟨23, _⟩ => ⟨S4x4096x1024, .f32⟩
  | .hbm, ⟨24, _⟩ => ⟨S4x4096x6144, .f32⟩
  | .hbm, ⟨25, _⟩ => ⟨S16384x6144, .f32⟩
  | .hbm, ⟨26, _⟩ => ⟨S16384x16, .f32⟩
  | .hbm, ⟨27, _⟩ => ⟨S_, .i32⟩
  | .hbm, ⟨28, _⟩ => ⟨S_, .f32⟩
  | .hbm, ⟨29, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S1024x11280 : Shape := ⟨2, ![1024, 11280]⟩
abbrev S16384x1024 : Shape := ⟨2, ![16384, 1024]⟩
abbrev S1024x1024 : Shape := ⟨2, ![1024, 1024]⟩
abbrev S1024x3072 : Shape := ⟨2, ![1024, 3072]⟩
abbrev S1024x5120 : Shape := ⟨2, ![1024, 5120]⟩
abbrev S1x1024 : Shape := ⟨2, ![1, 1024]⟩
abbrev S16384x5120 : Shape := ⟨2, ![16384, 5120]⟩
abbrev S1024x1 : Shape := ⟨2, ![1024, 1]⟩

abbrev nBuf : Space → Nat
  | .hbm => 11
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x11280, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1024x3072, .f32⟩
  | .hbm, ⟨7, _⟩ => ⟨S1024x5120, .f32⟩
  | .hbm, ⟨8, _⟩ => ⟨S1024x5120, .bf16⟩
  | .hbm, ⟨9, _⟩ => ⟨S1x1024, .f32⟩
  | .hbm, ⟨10, _⟩ => ⟨S16384x5120, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x4096x1024 : Shape := ⟨3, ![4, 4096, 1024]⟩
abbrev S1024 : Shape := ⟨1, ![1024]⟩
abbrev S1024x11280 : Shape := ⟨2, ![1024, 11280]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x11280 : Shape := ⟨3, ![4, 4096, 11280]⟩
abbrev S4x4096x3072 : Shape := ⟨3, ![4, 4096, 3072]⟩
abbrev S4x4096x5120 : Shape := ⟨3, ![4, 4096, 5120]⟩
abbrev S16384x5120 : Shape := ⟨2, ![16384, 5120]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x11280, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x11280, .f32⟩
  | .hbm, ⟨20, _⟩ => ⟨S4x4096x1024, .f32⟩
  | .hbm, ⟨21, _⟩ => ⟨S4x4096x1024, .f32⟩
  | .hbm, ⟨22, _⟩ => ⟨S4x4096x3072, .f32⟩
  | .hbm, ⟨23, _⟩ => ⟨S4x4096x5120, .f32⟩
  | .hbm, ⟨24, _⟩ => ⟨S16384x5120, .f32⟩
  | .hbm, ⟨25, _⟩ => ⟨S16384x5120, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x2048x1024 : Shape := ⟨3, ![4, 2048, 1024]⟩
abbrev S16384x5120 : Shape := ⟨2, ![16384, 5120]⟩
abbrev S3x1024x1024 : Shape := ⟨3, ![3, 1024, 1024]⟩
abbrev S1024x1024 : Shape := ⟨2, ![1024, 1024]⟩
abbrev S16384x1024 : Shape := ⟨2, ![16384, 1024]⟩
abbrev S8192x1024 : Shape := ⟨2, ![8192, 1024]⟩
abbrev S256x1024 : Shape := ⟨2, ![256, 1024]⟩
abbrev S1x1024x1024 : Shape := ⟨3, ![1, 1024, 1024]⟩

abbrev nBuf : Space → Nat
  | .hbm => 16
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S4x2048x1024, .bf16⟩
  | .hbm, ⟨2, _⟩ => ⟨S4x2048x1024, .bf16⟩
  | .hbm, ⟨3, _⟩ => ⟨S4x4096x1024, .bf16⟩
  | .hbm, ⟨4, _⟩ => ⟨S4x4096x1024, .bf16⟩
  | .hbm, ⟨5, _⟩ => ⟨S16384x5120, .bf16⟩
  | .hbm, ⟨6, _⟩ => ⟨S3x1024x1024, .f32⟩
  | .hbm, ⟨7, _⟩ => ⟨S1024x1024, .f32⟩
  | .hbm, ⟨8, _⟩ => ⟨S16384x1024, .f32⟩
  | .hbm, ⟨9, _⟩ => ⟨S8192x1024, .bf16⟩
  | .hbm, ⟨10, _⟩ => ⟨S8192x1024, .bf16⟩
  | .hbm, ⟨11, _⟩ => ⟨S16384x1024, .bf16⟩
  | .hbm, ⟨12, _⟩ => ⟨S16384x1024, .bf16⟩
  | .hbm, ⟨13, _⟩ => ⟨S3x1024x1024, .bf16⟩
  | .hbm, ⟨14, _⟩ => ⟨S1024x1024, .bf16⟩
  | .hbm, ⟨15, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S3x1024x1024, .bf16⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c7_i32 : BitVec 32 := 7#32
  let v28 : BitVec 32 := Scalar.minsi v27 c7_i32
  let v29 : BitVec 32 := Scalar.addi v17 v28
  let c0_i32_10 : BitVec 32 := 0#32
  let c0_i32_11 : BitVec 32 := 0#32
  ![v29.toNat, c0_i32_10.toNat]

def cc0_transform_2 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c8_i32_10 : BitVec 32 := 8#32
  let v28 : BitVec 32 := Scalar.subi v27 c8_i32_10
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S4x4096x1024 : Shape := ⟨3, ![4, 4096, 1024]⟩
abbrev S4x2048x1024 : Shape := ⟨3, ![4, 2048, 1024]⟩
abbrev S16384x5120 : Shape := ⟨2, ![16384, 5120]⟩
abbrev S3x1024x1024 : Shape := ⟨3, ![3, 1024, 1024]⟩
abbrev S1024x1024 : Shape := ⟨2, ![1024, 1024]⟩
abbrev S4x4096x1x1024 : Shape := ⟨4, ![4, 4096, 1, 1024]⟩
abbrev S4x4096x3x1024 : Shape := ⟨4, ![4, 4096, 3, 1024]⟩
abbrev S3x1024x4x4096 : Shape := ⟨4, ![3, 1024, 4, 4096]⟩
abbrev S16384x3072 : Shape := ⟨2, ![16384, 3072]⟩
abbrev S_ : Shape := ⟨0, ![]⟩
abbrev S16384x1024 : Shape := ⟨2, ![16384, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x2048x1024, .bf16⟩
  | .hbm, ⟨2, _⟩ => ⟨S4x2048x1024, .bf16⟩
  | .hbm, ⟨3, _⟩ => ⟨S4x4096x1024, .bf16⟩
  | .hbm, ⟨4, _⟩ => ⟨S4x4096x1024, .bf16⟩
  | .hbm, ⟨5, _⟩ => ⟨S16384x5120, .bf16⟩
  | .hbm, ⟨6, _⟩ => ⟨S3x1024x1024, .f32⟩
  | .hbm, ⟨7, _⟩ => ⟨S1024x1024, .f32⟩
  | .hbm, ⟨8, _⟩ => ⟨S4x4096x1024, .bf16⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S4x4096x1x1024, .f32⟩
  | .hbm, ⟨13, _⟩ => ⟨S4x4096x1x1024, .f32⟩
  | .hbm, ⟨14, _⟩ => ⟨S4x4096x1x1024, .f32⟩
  | .hbm, ⟨15, _⟩ => ⟨S4x4096x3x1024, .f32⟩
  | .hbm, ⟨16, _⟩ => ⟨S3x1024x4x4096, .f32⟩
  | .hbm, ⟨17, _⟩ => ⟨S4x4096x3x1024, .f32⟩
  | .hbm, ⟨18, _⟩ => ⟨S16384x5120, .f32⟩
  | .hbm, ⟨19, _⟩ => ⟨S16384x3072, .f32⟩
  | .hbm, ⟨20, _⟩ => ⟨S4x4096x3x1024, .f32⟩
  | .hbm, ⟨21, _⟩ => ⟨S4x4096x3x1024, .f32⟩
  | .hbm, ⟨22, _⟩ => ⟨S4x4096x3x1024, .f32⟩
  | .hbm, ⟨23, _⟩ => ⟨S_, .f32⟩
  | .hbm, ⟨24, _⟩ => ⟨S4x4096x3x1024, .f32⟩
  | .hbm, ⟨25, _⟩ => ⟨S4x4096x3x1024, .f32⟩
  | .hbm, ⟨26, _⟩ => ⟨S_, .f32⟩
  | .hbm, ⟨27, _⟩ => ⟨S4x4096x3x1024, .f32⟩
  | .hbm, ⟨28, _⟩ => ⟨S4x4096x3x1024, .f32⟩
  | .hbm, ⟨29, _⟩ => ⟨S4x4096x3x1024, .f32⟩
  | .hbm, ⟨30, _⟩ => ⟨S_, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x2048 : Shape := ⟨2, ![1024, 2048]⟩
abbrev S1x1024 : Shape := ⟨2, ![1, 1024]⟩
abbrev S16384x2048 : Shape := ⟨2, ![16384, 2048]⟩
abbrev S1024x1024 : Shape := ⟨2, ![1024, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1024x2048, .bf16⟩
  | .hbm, ⟨5, _⟩ => ⟨S16384x2048, .f32⟩
  | .hbm, ⟨6, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S16384x1024 : Shape := ⟨2, ![16384, 1024]⟩
abbrev S1024 : Shape := ⟨1, ![1024]⟩
abbrev S1024x2048 : Shape := ⟨2, ![1024, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2048, .f32⟩
  | .hbm, ⟨20, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S4x256x1024 : Shape := ⟨3, ![4, 256, 1024]⟩
abbrev S1024 : Shape := ⟨1, ![1024]⟩
abbrev S1024x2048 : Shape := ⟨2, ![1024, 2048]⟩
abbrev S1024x1024 : Shape := ⟨2, ![1024, 1024]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 7
  | .vmem => 7
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x2048, .f32⟩
  | .hbm, ⟨3, _⟩ => ⟨S1024x1024, .f32⟩
  | .hbm, ⟨4, _⟩ => ⟨S1x1024, .f32⟩
  | .hbm, ⟨5, _⟩ => ⟨S1024x2048, .bf16⟩
  | .hbm, ⟨6, _⟩ => ⟨S1024x2048, .f32⟩
  | .local _ .vmem, ⟨0, _⟩ => ⟨S1024x1024, .f32⟩
  | .local _ .vmem, ⟨1, _⟩ => ⟨S1x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4x256x1024 : Shape := ⟨3, ![4, 256, 1024]⟩
abbrev S1024 : Shape := ⟨1, ![1024]⟩
abbrev S1024x2048 : Shape := ⟨2, ![1024, 2048]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x2048 : Shape := ⟨3, ![4, 256, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x2048, .f32⟩
  | .hbm, ⟨3, _⟩ => ⟨S4x256x1024, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x1024, .f32⟩
  | .hbm, ⟨15, _⟩ => ⟨S4x256x1024, .f32⟩
  | .hbm, ⟨16, _⟩ => ⟨S1x1x1024, .f32⟩
  | .hbm, ⟨17, _⟩ => ⟨S4x256x1024, .f32⟩
  | .hbm, ⟨18, _⟩ => ⟨S4x256x1024, .f32⟩
  | .hbm, ⟨19, _⟩ => ⟨S4x256x2048, .f32⟩
  | .hbm, ⟨20, _⟩ => ⟨S1024x2048, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel7.lean ====
abbrev S4x4096x6144 : Shape := ⟨3, ![4, 4096, 6144]⟩
abbrev S4x256x2048 : Shape := ⟨3, ![4, 256, 2048]⟩
abbrev S256 : Shape := ⟨1, ![256]⟩
abbrev S1x256 : Shape := ⟨2, ![1, 256]⟩
abbrev S4x4096x1024 : Shape := ⟨3, ![4, 4096, 1024]⟩
abbrev S1x1024x256 : Shape := ⟨3, ![1, 1024, 256]⟩
abbrev S1x256x256 : Shape := ⟨3, ![1, 256, 256]⟩
abbrev S1024x256 : Shape := ⟨2, ![1024, 256]⟩
abbrev S1024 : Shape := ⟨1, ![1024]⟩
abbrev S1024x1 : Shape := ⟨2, ![1024, 1]⟩
abbrev S256x256 : Shape := ⟨2, ![256, 256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4x4096x6144, .f32⟩
  | .hbm, ⟨1, _⟩ => ⟨S4x256x2048, .f32⟩
  | .hbm, ⟨2, _⟩ => ⟨S256, .f32⟩
  | .hbm, ⟨3, _⟩ => ⟨S256, .f32⟩
  | .hbm, ⟨4, _⟩ => ⟨S1x256, .f32⟩
  | .hbm, ⟨5, _⟩ => ⟨S1x256, .f32⟩
  | .hbm, ⟨6, _⟩ => ⟨S4x4096x1024, .bf16⟩
  | .local _ .vmem, ⟨0, _⟩ => ⟨S1x1024x256, .f32⟩
  | .local _ .vmem, ⟨1, _⟩ => ⟨S1x1024x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256, .f32⟩
  | .local _ .vmem, ⟨7, _⟩ => ⟨S1x256, .f32⟩
  | .local _ .vmem, ⟨8, _⟩ => ⟨S1x1024x256, .bf16⟩
  | .local _ .vmem, ⟨9, _⟩ => ⟨S1x1024x256, .bf16⟩
  | _, _ => ⟨S4x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference7Ideal.lean ====
abbrev S4x4096x6144 : Shape := ⟨3, ![4, 4096, 6144]⟩
abbrev S4x256x2048 : Shape := ⟨3, ![4, 256, 2048]⟩
abbrev S256 : Shape := ⟨1, ![256]⟩
abbrev S4x4096x1024 : Shape := ⟨3, ![4, 4096, 1024]⟩
abbrev S4x256x1024 : Shape := ⟨3, ![4, 256, 1024]⟩
abbrev S4x4096x4x256 : Shape := ⟨4, ![4, 4096, 4, 256]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S1x1x1x256 : Shape := ⟨4, ![1, 1, 1, 256]⟩
abbrev S4x256x4x256 : Shape := ⟨4, ![4, 256, 4, 256]⟩
abbrev S4x4x256x256 : Shape := ⟨4, ![4, 4, 256, 256]⟩
abbrev S4x4x256 : Shape := ⟨3, ![4, 4, 256]⟩
abbrev S4x4x256x1 : Shape := ⟨4, ![4, 4, 256, 1]⟩

abbrev nBuf : Space → Nat
  | .hbm => 67
  | .vmem => 0
  | .smem => 0
  | _ => 0

abbrev bufTy : (tb : Table) → Fin (tcTables nBuf tb) → BufTy
  | .hbm, ⟨0, _⟩ => ⟨S4x4096x6144, .f32⟩
  | .hbm, ⟨1, _⟩ => ⟨S4x256x2048, .f32⟩
  | .hbm, ⟨2, _⟩ => ⟨S256, .f32⟩
  | .hbm, ⟨3, _⟩ => ⟨S256, .f32⟩
  | .hbm, ⟨4, _⟩ => ⟨S4x4096x1024, .f32⟩
  | .hbm, ⟨5, _⟩ => ⟨S4x256x1024, .f32⟩
  | .hbm, ⟨6, _⟩ => ⟨S4x256x1024, .f32⟩
  | .hbm, ⟨7, _⟩ => ⟨S4x4096x4x256, .f32⟩
  | .hbm, ⟨8, _⟩ => ⟨S4x4x4096x256, .f32⟩
  | .hbm, ⟨9, _⟩ => ⟨S4x4x4096x256, .f32⟩
  | .hbm, ⟨10, _⟩ => ⟨S_, .f32⟩
  | .hbm, ⟨11, _⟩ => ⟨S4x4x4096, .f32⟩
  | .hbm, ⟨12, _⟩ => ⟨S4x4x4096x1, .f32⟩
  | .hbm, ⟨13, _⟩ => ⟨S_, .f32⟩
  | .hbm, ⟨14, _⟩ => ⟨S4x4x4096x1, .f32⟩
  | .hbm, ⟨15, _⟩ => ⟨S4x4x4096x1, .f32⟩
  | .hbm, ⟨16, _⟩ => ⟨S_, .f32⟩
  | .hbm, ⟨17, _⟩ => ⟨S4x4x4096x1, .f32⟩
  | .hbm, ⟨18, _⟩ => ⟨S4x4x4096x1, .f32⟩
  | .hbm, ⟨19, _⟩ => ⟨S4x4x4096x1, .f32⟩
  | .hbm, ⟨20, _⟩ => ⟨S4x4x4096x256, .f32⟩
  | .hbm, ⟨21, _⟩ => ⟨S4x4x4096x256, .f32⟩
  | .hbm, ⟨22, _⟩ => ⟨S1x1x1x256, .f32⟩
  | .hbm, ⟨23, _⟩ => ⟨S4x4x4096x256, .f32⟩
  | .hbm, ⟨24, _⟩ => ⟨S4x4x4096x256, .f32⟩
  | .hbm, ⟨25, _⟩ => ⟨S4x256x4x256, .f32⟩
  | .hbm, ⟨26, _⟩ => ⟨S4x4x256x256, .f32⟩
  | .hbm, ⟨27, _⟩ => ⟨S4x4x256x256, .f32⟩
  | .hbm, ⟨28, _⟩ => ⟨S_, .f32⟩
  | .hbm, ⟨29, _⟩ => ⟨S4x4x256, .f32⟩
  | .hbm, ⟨30, _⟩ => ⟨S4x4x256x1, .f32⟩
  | .hbm, ⟨31, _⟩ => ⟨S_, .f32⟩
  | .hbm, ⟨32, _⟩ => ⟨S4x4x256x1, .f32⟩
  | .hbm, ⟨33, _⟩ => ⟨S4x4x256x1, .f32⟩
  | .hbm, ⟨34, _⟩ => ⟨S_, .f32⟩
  | .hbm, ⟨35, _⟩ => ⟨S4x4x256x1, .f32⟩
  | .hbm, ⟨36, _⟩ => ⟨S4x4x256x1, .f32⟩
  | .hbm, ⟨37, _⟩ => ⟨S4x4x256x1, .f32⟩
  | .hbm, ⟨38, _⟩ => ⟨S4x4x256x256, .f32⟩
  | .hbm, ⟨39, _⟩ => ⟨S4x4x256x256, .f32⟩
  | .hbm, ⟨40, _⟩ => ⟨S1x1x1x256, .f32⟩
  | .hbm, ⟨41, _⟩ => ⟨S4x4x256x256, .f32⟩
  | .hbm, ⟨42, _⟩ => ⟨S4x4x256x256, .f32⟩
  | .hbm, ⟨43, _⟩ => ⟨S4x256x4x256, .f32⟩
  | .hbm, ⟨44, _⟩ => ⟨S4x4x256x256, .f32⟩
  | .hbm, ⟨45, _⟩ => ⟨S4x4x4096x256, .f32⟩
  | .hbm, ⟨46, _⟩ => ⟨S_, .f32⟩
  | .hbm, ⟨47, _⟩ => ⟨S4x4x4096x256, .f32⟩
  | .hbm, ⟨48, _⟩ => ⟨S4x4x4096x256, .f32⟩
  | .hbm, ⟨49, _⟩ => ⟨S_, .f32⟩
  | .hbm, ⟨50, _⟩ => ⟨S4x4x4096, .f32⟩
  | .hbm, ⟨51, _⟩ => ⟨S_, .f32⟩
  | .hbm, ⟨52, _⟩ => ⟨S4x4x4096, .f32⟩
  | .hbm, ⟨53, _⟩ => ⟨S4x4x4096, .f32⟩
  | .hbm, ⟨54, _⟩ => ⟨S4x4x4096x1, .f32⟩
  | .hbm, ⟨55, _⟩ => ⟨S4x4x4096x256, .f32⟩
  | .hbm, ⟨56, _⟩ => ⟨S4x4x4096x256, .f32⟩
  | .hbm, ⟨57, _⟩ => ⟨S4x4x4096x256, .f32⟩
  | .hbm, ⟨58, _⟩ => ⟨S_, .f32⟩
  | .hbm, ⟨59, _⟩ => ⟨S4x4x4096, .f32⟩
  | .hbm, ⟨60, _⟩ => ⟨S4x4x4096x1, .f32⟩
  | .hbm, ⟨61, _⟩ => ⟨S4x4x4096x256, .f32⟩
  | .hbm, ⟨62, _⟩ => ⟨S4x4x4096x256, .f32⟩
  | .hbm, ⟨63, _⟩ => ⟨S4x4x4096x256, .f32⟩
  | .hbm, ⟨64, _⟩ => ⟨S4x4096x4x256, .f32⟩
  | .hbm, ⟨65, _⟩ => ⟨S4x4096x1024, .f32⟩
  | .hbm, ⟨66, _⟩ => ⟨S4x4096x1024, .bf16⟩
  | _, _ => ⟨S4x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Kernel8.lean ====
abbrev S4x4096x6144 : Shape := ⟨3, ![4, 4096, 6144]⟩
abbrev S4x3072 : Shape := ⟨2, ![4, 3072]⟩
abbrev S4x4096x3072 : Shape := ⟨3, ![4, 4096, 3072]⟩
abbrev S1x4096x128 : Shape := ⟨3, ![1, 4096, 128]⟩
abbrev S4x128 : Shape := ⟨2, ![4, 128]⟩
abbrev S4104x128 : Shape := ⟨2, ![4104, 128]⟩
abbrev S4096x128 : Shape := ⟨2, ![4096, 128]⟩
abbrev S8x128 : Shape := ⟨2, ![8, 128]⟩
abbrev S1x128 : Shape := ⟨2, ![1, 128]⟩
abbrev S4096 : Shape := ⟨1, ![4096]⟩
abbrev S4096x1 : Shape := ⟨2, ![4096, 1]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x6144, .f32⟩
  | .hbm, ⟨1, _⟩ => ⟨S4x3072, .f32⟩
  | .hbm, ⟨2, _⟩ => ⟨S4x4096x3072, .f32⟩
  | .local _ .vmem, ⟨0, _⟩ => ⟨S1x4096x128, .f32⟩
  | .local _ .vmem, ⟨1, _⟩ => ⟨S1x4096x128, .f32⟩
  | .local _ .vmem, ⟨2, _⟩ => ⟨S4x128, .f32⟩
  | .local _ .vmem, ⟨3, _⟩ => ⟨S4x128, .f32⟩
  | .local _ .vmem, ⟨4, _⟩ => ⟨S1x4096x128, .f32⟩
  | .local _ .vmem, ⟨5, _⟩ => ⟨S1x4096x128, .f32⟩
  | .local _ .vmem, ⟨6, _⟩ => ⟨S4104x128, .f32⟩
  | _, _ => ⟨S4x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 24], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4x4096x6144 : Shape := ⟨3, ![4, 4096, 6144]⟩
abbrev S4x3072 : Shape := ⟨2, ![4, 3072]⟩
abbrev S4x4096x3072 : Shape := ⟨3, ![4, 4096, 3072]⟩
abbrev S_ : Shape := ⟨0, ![]⟩
abbrev S4x4099x3072 : Shape := ⟨3, ![4, 4099, 3072]⟩
abbrev S1x3072 : Shape := ⟨2, ![1, 3072]⟩
abbrev S3072 : Shape := ⟨1, ![3072]⟩
abbrev S1x1x3072 : Shape := ⟨3, ![1, 1, 3072]⟩
abbrev S4x4096x1024 : Shape := ⟨3, ![4, 4096, 1024]⟩
abbrev S4x4096x8x128 : Shape := ⟨4, ![4, 4096, 8, 128]⟩
abbrev S4x8x4096x128 : Shape := ⟨4, ![4, 8, 4096, 128]⟩
abbrev S4x8x4096 : Shape := ⟨3, ![4, 8, 4096]⟩
abbrev S4x8x4096x1 : Shape := ⟨4, ![4, 8, 4096, 1]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x6144, .f32⟩
  | .hbm, ⟨1, _⟩ => ⟨S4x3072, .f32⟩
  | .hbm, ⟨2, _⟩ => ⟨S4x4096x3072, .f32⟩
  | .hbm, ⟨3, _⟩ => ⟨S_, .i32⟩
  | .hbm, ⟨4, _⟩ => ⟨S_, .f32⟩
  | .hbm, ⟨5, _⟩ => ⟨S4x4099x3072, .f32⟩
  | .hbm, ⟨6, _⟩ => ⟨S1x3072, .f32⟩
  | .hbm, ⟨7, _⟩ => ⟨S3072, .f32⟩
  | .hbm, ⟨8, _⟩ => ⟨S4x4096x3072, .f32⟩
  | .hbm, ⟨9, _⟩ => ⟨S1x1x3072, .f32⟩
  | .hbm, ⟨10, _⟩ => ⟨S4x4096x3072, .f32⟩
  | .hbm, ⟨11, _⟩ => ⟨S4x4096x3072, .f32⟩
  | .hbm, ⟨12, _⟩ => ⟨S_, .f32⟩
  | .hbm, ⟨13, _⟩ => ⟨S4x4096x3072, .f32⟩
  | .hbm, ⟨14, _⟩ => ⟨S4x4096x3072, .f32⟩
  | .hbm, ⟨15, _⟩ => ⟨S1x3072, .f32⟩
  | .hbm, ⟨16, _⟩ => ⟨S3072, .f32⟩
  | .hbm, ⟨17, _⟩ => ⟨S4x4096x3072, .f32⟩
  | .hbm, ⟨18, _⟩ => ⟨S1x1x3072, .f32⟩
  | .hbm, ⟨19, _⟩ => ⟨S4x4096x3072, .f32⟩
  | .hbm, ⟨20, _⟩ => ⟨S4x4096x3072, .f32⟩
  | .hbm, ⟨21, _⟩ => ⟨S4x4096x3072, .f32⟩
  | .hbm, ⟨22, _⟩ => ⟨S1x3072, .f32⟩
  | .hbm, ⟨23, _⟩ => ⟨S3072, .f32⟩
  | .hbm, ⟨24, _⟩ => ⟨S4x4096x3072, .f32⟩
  | .hbm, ⟨25, _⟩ => ⟨S1x1x3072, .f32⟩
  | .hbm, ⟨26, _⟩ => ⟨S4x4096x3072, .f32⟩
  | .hbm, ⟨27, _⟩ => ⟨S4x4096x3072, .f32⟩
  | .hbm, ⟨28, _⟩ => ⟨S4x4096x3072, .f32⟩
  | .hbm, ⟨29, _⟩ => ⟨S1x3072, .f32⟩
  | .hbm, ⟨30, _⟩ => ⟨S3072, .f32⟩
  | .hbm, ⟨31, _⟩ => ⟨S4x4096x3072, .f32⟩
  | .hbm, ⟨32, _⟩ => ⟨S1x1x3072, .f32⟩
  | .hbm, ⟨33, _⟩ => ⟨S4x4096x3072, .f32⟩
  | .hbm, ⟨34, _⟩ => ⟨S4x4096x3072, .f32⟩
  | .hbm, ⟨35, _⟩ => ⟨S4x4096x3072, .f32⟩
  | .hbm, ⟨36, _⟩ => ⟨S4x4096x3072, .f32⟩
  | .hbm, ⟨37, _⟩ => ⟨S4x4096x3072, .f32⟩
  | .hbm, ⟨38, _⟩ => ⟨S_, .f32⟩
  | .hbm, ⟨39, _⟩ => ⟨S4x4096x3072, .f32⟩
  | .hbm, ⟨40, _⟩ => ⟨S4x4096x3072, .f32⟩
  | .hbm, ⟨41, _⟩ => ⟨S_, .f32⟩
  | .hbm, ⟨42, _⟩ => ⟨S4x4096x3072, .f32⟩
  | .hbm, ⟨43, _⟩ => ⟨S4x4096x3072, .f32⟩
  | .hbm, ⟨44, _⟩ => ⟨S4x4096x3072, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S4x4096x8x128, .f32⟩
  | .hbm, ⟨49, _⟩ => ⟨S4x8x4096x128, .f32⟩
  | .hbm, ⟨50, _⟩ => ⟨S4x8x4096x128, .f32⟩
  | .hbm, ⟨51, _⟩ => ⟨S_, .f32⟩
  | .hbm, ⟨52, _⟩ => ⟨S4x8x4096, .f32⟩
  | .hbm, ⟨53, _⟩ => ⟨S4x8x4096x1, .f32⟩
  | .hbm, ⟨54, _⟩ => ⟨S_, .f32⟩
  | .hbm, ⟨55, _⟩ => ⟨S4x8x4096x1, .f32⟩
  | .hbm, ⟨56, _⟩ => ⟨S4x8x4096x1, .f32⟩
  | .hbm, ⟨57, _⟩ => ⟨S4x8x4096x1, .f32⟩
  | .hbm, ⟨58, _⟩ => ⟨S4x8x4096x128, .f32⟩
  | .hbm, ⟨59, _⟩ => ⟨S4x8x4096x128, .f32⟩
  | .hbm, ⟨60, _⟩ => ⟨S_, .f32⟩
  | .hbm, ⟨61, _⟩ => ⟨S4x8x4096x128, .f32⟩
  | .hbm, ⟨62, _⟩ => ⟨S4x8x4096x128, .f32⟩
  | .hbm, ⟨63, _⟩ => ⟨S4x4096x8x128, .f32⟩
  | .hbm, ⟨64, _⟩ => ⟨S4x8x4096x128, .f32⟩
  | .hbm, ⟨65, _⟩ => ⟨S4x8x4096x128, .f32⟩
  | .hbm, ⟨66, _⟩ => ⟨S_, .f32⟩
  | .hbm, ⟨67, _⟩ => ⟨S4x8x4096, .f32⟩
  | .hbm, ⟨68, _⟩ => ⟨S4x8x4096x1, .f32⟩
  | .hbm, ⟨69, _⟩ => ⟨S_, .f32⟩
  | .hbm, ⟨70, _⟩ => ⟨S4x8x4096x1, .f32⟩
  | .hbm, ⟨71, _⟩ => ⟨S4x8x4096x1, .f32⟩
  | .hbm, ⟨72, _⟩ => ⟨S4x8x4096x1, .f32⟩
  | .hbm, ⟨73, _⟩ => ⟨S4x8x4096x128, .f32⟩
  | .hbm, ⟨74, _⟩ => ⟨S4x8x4096x128, .f32⟩
  | .hbm, ⟨75, _⟩ => ⟨S4x4096x8x128, .f32⟩
  | .hbm, ⟨76, _⟩ => ⟨S4x4096x1024, .f32⟩
  | .hbm, ⟨77, _⟩ => ⟨S4x4096x8x128, .f32⟩
  | .hbm, ⟨78, _⟩ => ⟨S4x4096x1024, .f32⟩
  | .hbm, ⟨79, _⟩ => ⟨S4x4096x3072, .f32⟩
  | _, _ => ⟨S4x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_0 : Ref sig .tc := ⟨.hbm, 51, rfl⟩
abbrev main_v38 : Ref sig .tc := ⟨.hbm, 52, rfl⟩
abbrev main_v39 : Ref sig .tc := ⟨.hbm, 53, rfl⟩
abbrev main_cst_1 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_2 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_3 : Ref sig .tc := ⟨.hbm, 66, rfl⟩
abbrev main_v50 : Ref sig .tc := ⟨.hbm, 67, rfl⟩
abbrev main_v51 : Ref sig .tc := ⟨.hbm, 68, rfl⟩
abbrev main_cst_4 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Proof.Run.lean ====
/- The whole kernel's run: what its two result arrays hold when it ends, as what the third call's write-backs leave. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

/-- The first result array is the third call's first output window, all its blocks written back. -/
theorem first_result (c : Dev nD) : V6 m ρ c main_v11_0 = (dat2 (V5 m ρ) c).arrAt 4 cfg2.N := W6_arr m ρ c 4

/-- The second result array is the third call's second output window. -/
theorem second_result (c : Dev nD) : V6 m ρ c main_v11_1 = (dat2 (V5 m ρ) c).arrAt 5 cfg2.N := W6_arr m ρ c 5

set_option backward.isDefEq.respectTransparency.types false in
/-- From any launch contents the kernel ends with its two results at what the attention call wrote, and its arguments
    as they were. -/
theorem run_results : θ_run defs (onTc (τ := τ) (main (F := F))) ⟨m, fun _ => 0, ρ⟩ (fun r => ∀ c : Dev nD,
      r.2.mem ((c.tc : Thread nD τ).loc main_v11_0) = (dat2 (V5 m ρ) c).arrAt 4 cfg2.N
      ∧ r.2.mem ((c.tc : Thread nD τ).loc main_v11_1) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨(h c _ (mem_uc main_v11_0 (by decide))).trans (first_result m ρ c),
       (h c _ (mem_uc main_v11_1 (by decide))).trans (second_result m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Gen

end
-- ==== Proof.Spec.lean ====
/- What the branch computes, entry by entry, over the extended reals. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Moba

open Idealize.ShloMosaic Cert.KernelIdeal

/-- The root mean square norm's entry at row `s` of batch `b`, in the 128-wide column block `o`, scaled by the gain. -/
def normed (X : FVec Ideal S4x4096x6144 .f32) (G : FVec Ideal S1x128 .f32) (b : Fin 4) (s : Fin 4096) (o : Fin 16)
    (d : Fin 128) : EReal :=
  X (ix3 b s ⟨o.val * 128 + d.val, by omega⟩)
    * Ideal.rsqrt (Ideal.div (∑ k : Fin 128, X (ix3 b s ⟨o.val * 128 + k.val, by omega⟩) * X (ix3 b s ⟨o.val * 128 + k.val, by omega⟩))
        (Ideal.ofBits .f32 1124073472#32) + Ideal.ofBits .f32 897988541#32)
    * G (ix2 0 d)

/-- The normed entry turned through its position's angle, the tables given at full width. -/
def turned (X : FVec Ideal S4x4096x6144 .f32) (G : FVec Ideal S1x128 .f32) (C S : FVec Ideal S4096x128 .f32) (b : Fin 4)
    (s : Fin 4096) (o : Fin 16) (d : Fin 128) : EReal :=
  normed X G b s o d * C (ix2 s d) + normed X G b s o ⟨(d.val + 128 - 64) % 128, by omega⟩ * S (ix2 s d)

/-- The mean over a block's 256 positions of the turned keys. -/
def meanKey (X : FVec Ideal S4x4096x6144 .f32) (G : FVec Ideal S1x128 .f32) (C S : FVec Ideal S4096x128 .f32) (b : Fin 4)
    (h : Fin 8) (n : Fin 16) (d : Fin 128) : EReal :=
  Ideal.div (∑ x : Fin 256, turned X G C S b ⟨n.val * 256 + x.val, by omega⟩ ⟨8 + h.val, by omega⟩ d)
    (Ideal.ofBits .f32 1132462080#32)

end Cert.Moba

end
-- ==== Proof.Prep.lean ====
/- The first call's arrays: the normed and rotated queries and keys, and the mean key of each block. -/
module

public import proofs.«01_k».proof.Proof.Spec

@[expose] public section

set_option maxRecDepth 16384

noncomputable section

namespace Cert.KernelIdeal.Moba

open Idealize.ShloMosaic Idealize.ShloMosaic.TcCoe Idealize.SL.Sem
open Idealize.ShloMosaic.Pipeline (Dat)
open Cert.KernelIdeal Cert.KernelIdeal.Gen Cert.Moba

variable (V : (c : Dev nD) → (b : Ref sig .tc) → Buf (Elt Ideal) ((c : Thread nD τ).loc b))

/-- Where each window's block sits at a grid point. -/
theorem idx0 : ∀ t : Fin cfg0.N,
    win0_0.index t = ![t.val / 16, t.val % 2, t.val / 2 % 8] ∧ win0_1.index t = ![t.val / 16, t.val % 2, t.val / 2 % 8 + 8]
    ∧ win0_2.index t = ![0, 0] ∧ win0_3.index t = ![0, 0] ∧ win0_4.index t = ![t.val % 2, 0] ∧ win0_5.index t = ![t.val % 2, 0]
    ∧ win0_6.index t = ![t.val % 2, 0] ∧ win0_7.index t = ![t.val / 16, t.val % 2, t.val / 2 % 8]
    ∧ win0_8.index t = ![t.val / 16, t.val % 2, t.val / 2 % 8] ∧ win0_9.index t = ![t.val / 16, t.val / 2 % 8, t.val % 2, 0] :=
  (by decide +kernel : ∀ t : Fin grid0.N, _)

/-- The queries' array, from the projections, the gain and the two tables. -/
def queryArray (X : FVec Ideal S4x4096x6144 .f32) (G : FVec Ideal S1x128 .f32) (C S : FVec Ideal S4096x128 .f32) :
    FVec Ideal S4x4096x1024 .f32 := fun i =>
  turned X G C S (i 0) (i 1) ⟨(i 2).val / 128, by have := (i 2).isLt; simp at this; omega⟩ ⟨(i 2).val % 128, by omega⟩

/-- The mean keys' array. -/
def meanArray (X : FVec Ideal S4x4096x6144 .f32) (G : FVec Ideal S1x128 .f32) (C S : FVec Ideal S4096x128 .f32) :
    FVec Ideal S4x8x16x128 .f32 := fun i => meanKey X G C S (i 0) (i 1) (i 2) (i 3)

/-- The keys' array: each head's keys, then the row of `E` that names their block. -/
def keyArray (X : FVec Ideal S4x4096x6144 .f32) (G : FVec Ideal S1x128 .f32) (C S : FVec Ideal S4096x128 .f32)
    (E : FVec Ideal S4096x128 .bf16) : FVec Ideal S4x4096x2048 .bf16 := fun i =>
  if (i 2).val % 256 < 128 then
    turned X G C S (i 0) (i 1) ⟨8 + (i 2).val / 256, by have := (i 2).isLt; simp at this; omega⟩ ⟨(i 2).val % 128, by omega⟩
  else E (ix2 (i 1) ⟨(i 2).val % 128, by omega⟩)

set_option maxHeartbeats 1600000 in
/-- One point's queries are the array's entries where the block sits. -/
theorem queries_at (c : Dev nD) (t : Fin cfg0.N) (y) :
    k0_pay2 (k0_pay8 (iblk0 V c 4 t) (iblk0 V c 5 t) (iblk0 V c 0 t) (iblk0 V c 2 t)) y
      = queryArray (V c main_arg0) (V c main_arg2) (V c main_v0) (V c main_v2) (((cfg0.win 7).blk t).view.emb y) := by
  unfold queryArray turned normed
  unfold_payloads
  pointwise
  blk_point [iblk0, idx0 t]

/-- The queries' array after the first call. -/
theorem queries (c : Dev nD) : (dat0 V c).arrAt 7 cfg0.N
    = queryArray (V c main_arg0) (V c main_arg2) (V c main_v0) (V c main_v2) := by
  refine (dat0 V c).arrAt_eq_of_covers 7 _ (by decide +kernel) fun t hf y => ?_
  blk_simp
  rw [after0_7]; frame_out
  exact queries_at V c t y

end Cert.KernelIdeal.Moba

end
-- ==== Proof.Select.lean ====
/-
  Which past blocks a query attends to: the blocks that a stable descending sort of the masked gates puts at positions
  0, 1, 2 are the past blocks that fewer than three past blocks outrank.
-/
module

public import Idealize.ShloMosaic.Lib.Pointwise
public import Idealize.ShloMosaic.Lib.SortFacts
public import Idealize.ShloMosaic.Lib.SortPrefix

@[expose] public section

noncomputable section

namespace Cert.Moba

open Idealize.ShloMosaic

/-- A stable sort of positions listed in increasing order may break its ties by position: the two comparators need only
    agree on a later position against an earlier one. -/
theorem stableSort_of_increasing {n : ℕ} (R R' : Fin n → Fin n → Bool) (h : ∀ a b, a < b → R b a = R' b a) :
    ∀ l : List (Fin n), l.Pairwise (· < ·) → stableSort R l = stableSort R' l := by
  intro l
  induction l with
  | nil => intro _; rfl
  | cons a l ih =>
    intro hl
    rw [List.pairwise_cons] at hl
    unfold stableSort
    rw [ih hl.2]
    refine insertBefore_congr R R' a _ fun b hb => h a b (hl.1 b ?_)
    exact (perm_stableSort R' l).mem_iff.1 hb

theorem sortedFrom_of_increasing {n : ℕ} (R R' : Fin n → Fin n → Bool) (h : ∀ a b, a < b → R b a = R' b a) :
    sortedFrom R = sortedFrom R' := by
  have e : sortPositions n R = sortPositions n R' := stableSort_of_increasing R R' h _ (List.pairwise_lt_finRange n)
  funext k
  unfold sortedFrom
  simp only [List.get_eq_getElem, Fin.val_cast, e]

/-- The position at which a strict total order sorts `p` is the number of elements before `p`. -/
theorem sortedFrom_eq_iff {n : ℕ} {B : Fin n → Fin n → Bool} (hB : StrictTotalBefore B) (k p : Fin n) :
    sortedFrom B k = p ↔ (Finset.univ.filter fun m => B m p = true).card = k.val := by
  classical
  have hlt : ∀ i j : Fin n, i < j → B (sortedFrom B i) (sortedFrom B j) = true := fun i j hij => by
    have h1 := sortedFrom_noInversion B B (fun a b h => hB.asymm a b h) (fun _ _ h => h) hB.negTrans i j hij
    have hne : sortedFrom B i ≠ sortedFrom B j := fun e => hij.ne (sortedFrom_injective B e)
    rcases hB.total _ _ hne with h | h
    · exact h
    · rw [h] at h1; exact absurd h1 (by decide)
  have hcard : ∀ j : Fin n, (Finset.univ.filter fun m => B m (sortedFrom B j) = true).card = j.val := fun j => by
    have e : (Finset.univ.filter fun m => B m (sortedFrom B j) = true)
        = (Finset.univ.filter fun i : Fin n => i < j).map ⟨sortedFrom B, sortedFrom_injective B⟩ := by
      ext m
      simp only [Finset.mem_filter, Finset.mem_univ, true_and, Finset.mem_map, Function.Embedding.coeFn_mk]
      obtain ⟨i, rfl⟩ := sortedFrom_surjective B m
      constructor
      · intro h
        refine ⟨i, ?_, rfl⟩
        by_contra hn
        rcases eq_or_lt_of_le (not_lt.1 hn) with rfl | hlt'
        · rw [hB.irrefl] at h; exact absurd h (by decide)
        · have := hB.asymm _ _ (hlt _ _ hlt'); rw [h] at this; exact absurd this (by decide)
      · rintro ⟨i', hi', e⟩
        have := sortedFrom_injective B e
        subst this
        exact hlt _ _ hi'
    rw [e, Finset.card_map]
    have hr : ((Finset.univ.filter fun i : Fin n => i < j).map Fin.valEmbedding) = Finset.range j.val := by
      ext x
      simp only [Finset.mem_map, Finset.mem_filter, Finset.mem_univ, true_and, Fin.valEmbedding_apply, Finset.mem_range]
      constructor
      · rintro ⟨m, hm, rfl⟩; exact hm
      · intro hx; exact ⟨⟨x, hx.trans j.isLt⟩, hx, rfl⟩
    rw [← Finset.card_map Fin.valEmbedding, hr, Finset.card_range]
  constructor
  · rintro rfl; exact hcard k
  · intro h
    obtain ⟨j, rfl⟩ := sortedFrom_surjective B p
    rw [hcard j] at h
    rw [Fin.ext h]

/-- Greater gates first, equal gates by position. -/
def outranks (G : Fin 16 → EReal) (m n : Fin 16) : Prop := G n < G m ∨ (G m = G n ∧ m < n)

instance (G : Fin 16 → EReal) (m n : Fin 16) : Decidable (outranks G m n) := inferInstanceAs (Decidable (_ ∨ _))

theorem outranks_total (G : Fin 16 → EReal) : StrictTotalBefore fun m n => decide (outranks G m n) := by
  have h := StrictTotalBefore.of_key_then_position (n := 16) (fun a b : EReal => decide (b < a)) G (fun a => by simp)
    (fun a b c h1 h2 => by simp only [decide_eq_true_eq] at *; exact h2.trans h1)
    (fun a b => by
      simp only [decide_eq_true_eq]
      rcases lt_trichotomy a b with h | h | h
      · exact Or.inr (Or.inr h)
      · exact Or.inr (Or.inl h)
      · exact Or.inl h)
  have e : (fun m n => decide (outranks G m n))
      = fun k k' : Fin 16 => decide (G k' < G k) || (decide (G k = G k') && decide (k < k')) := by
    funext m n
    rw [Bool.eq_iff_iff]
    simp only [Bool.or_eq_true, Bool.and_eq_true, decide_eq_true_eq]
    exact Iff.rfl
  rw [e]; exact h

/-- The stable sort of the gates by `>` alone is the sort by gate and then position. -/
theorem sorted_gates (G : Fin 16 → EReal) (k p : Fin 16) :
    sortedFrom (fun a b => Ideal.cmp .ogt (G a) (G b) == 1#1) k = p
      ↔ (Finset.univ.filter fun m => outranks G m p).card = k.val := by
  rw [sortedFrom_of_increasing _ (fun m n => decide (outranks G m n)) (fun a b hab => ?_),
    sortedFrom_eq_iff (outranks_total G)]
  · simp only [decide_eq_true_eq]
  · show (BitVec.ofBool (decide (G a < G b)) == 1#1) = _
    unfold outranks
    have : ¬ b < a := not_lt.2 hab.le
    simp only [this, and_false, or_false]
    cases decide (G a < G b) <;> rfl

/-- How many past blocks (of the `own` first) outrank block `n`. -/
def rankOf (g : Fin 16 → EReal) (own : ℕ) (n : Fin 16) : ℕ :=
  (Finset.univ.filter fun m : Fin 16 => m.val < own ∧ outranks g m n).card

/-- The gates with every block that is not wholly past at `⊥`. -/
def pastOnly (g : Fin 16 → EReal) (own : ℕ) (n : Fin 16) : EReal := if n.val < own then g n else ⊥

/-- THE SELECTION: block `n` is among the first three of the sort, at a position below the number of past blocks, exactly
    when it is past and fewer than three past blocks outrank it. -/
theorem selected_iff (g : Fin 16 → EReal) (own : ℕ) (hown : own ≤ 16) (n : Fin 16) :
    (∃ j : Fin 3, j.val < own ∧
        sortedFrom (fun a b => Ideal.cmp .ogt (pastOnly g own a) (pastOnly g own b) == 1#1) (j.castLE (by omega)) = n)
      ↔ n.val < own ∧ rankOf g own n < 3 := by
  classical
  simp only [sorted_gates]
  have hfirst : (Finset.univ.filter fun m : Fin 16 => m.val < own).card = own := by
    have h : ((Finset.univ.filter fun m : Fin 16 => m.val < own).map Fin.valEmbedding) = Finset.range own := by
      ext x
      simp only [Finset.mem_map, Finset.mem_filter, Finset.mem_univ, true_and, Fin.valEmbedding_apply, Finset.mem_range]
      constructor
      · rintro ⟨m, hm, rfl⟩; exact hm
      · intro hx; exact ⟨⟨x, by omega⟩, hx, rfl⟩
    rw [← Finset.card_map Fin.valEmbedding, h, Finset.card_range]
  by_cases hn : n.val < own
  · have hset : (Finset.univ.filter fun m => outranks (pastOnly g own) m n)
        = Finset.univ.filter fun m : Fin 16 => m.val < own ∧ outranks g m n := by
      refine Finset.filter_congr fun m _ => ?_
      unfold outranks pastOnly
      rw [if_pos hn]
      by_cases hm : m.val < own
      · simp only [hm, if_true, true_and]
      · simp only [hm, if_false, false_and, iff_false, not_or, not_lt_bot, not_false_eq_true, true_and, not_and]
        intro _ h
        exact hm (lt_trans h hn)
    have hlt : rankOf g own n < own := by
      unfold rankOf
      refine lt_of_lt_of_eq ?_ hfirst
      refine Finset.card_lt_card (Finset.ssubset_iff_subset_ne.2 ⟨fun m hm => ?_, fun e => ?_⟩)
      · simp only [Finset.mem_filter, Finset.mem_univ, true_and] at hm ⊢; exact hm.1
      · have : n ∈ Finset.univ.filter fun m : Fin 16 => m.val < own := by simp [hn]
        rw [← e] at this
        simp only [Finset.mem_filter, Finset.mem_univ, true_and] at this
        have h := this.2
        unfold outranks at h
        simp at h
    rw [hset]
    constructor
    · rintro ⟨j, _, hj⟩
      refine ⟨hn, ?_⟩
      unfold rankOf; rw [hj]; exact j.isLt
    · rintro ⟨_, h3⟩
      exact ⟨⟨rankOf g own n, h3⟩, hlt, rfl⟩
  · refine ⟨?_, fun h => absurd h.1 hn⟩
    rintro ⟨j, hjo, hj⟩
    exfalso
    have hsub : (Finset.univ.filter fun m : Fin 16 => m.val < own) ⊆ Finset.univ.filter fun m => outranks (pastOnly g own) m n := by
      intro m hm
      simp only [Finset.mem_filter, Finset.mem_univ, true_and] at hm ⊢
      unfold outranks pastOnly
      rw [if_neg hn, if_pos hm]
      rcases eq_or_ne (g m) ⊥ with h | h
      · exact Or.inr ⟨h, by show m.val < n.val; omega⟩
      · exact Or.inl (bot_lt_iff_ne_bot.2 h)
    have := Finset.card_le_card hsub
    rw [hfirst, hj] at this
    have : (j.castLE (by omega : 3 ≤ 16)).val = j.val := rfl
    omega

end Cert.Moba

end
-- ==== Proof.Gate.lean ====
/- The second call's counting: the word it counts a block's rank in, and the blocks it keeps. -/
module

public import proofs.«01_k».proof.Proof.Prep
public import proofs.«01_k».proof.Proof.Select

@[expose] public section

set_option maxRecDepth 16384

noncomputable section

namespace Cert.KernelIdeal.Moba

open Idealize.ShloMosaic Idealize.ShloMosaic.TcCoe Idealize.SL.Sem
open Cert.KernelIdeal Cert.KernelIdeal.Gen Cert.Moba

/-- Counting in words below 16 agrees with counting. -/
theorem word_lt : ∀ a b : Fin 16, IntOp.cmpi .slt (BitVec.ofNat 32 a.val) (BitVec.ofNat 32 b.val) = BitVec.ofBool (decide (a < b)) := by
  decide +kernel

theorem word_gt : ∀ a b : Fin 16, IntOp.cmpi .sgt (BitVec.ofNat 32 a.val) (BitVec.ofNat 32 b.val) = BitVec.ofBool (decide (b < a)) := by
  decide +kernel

theorem word_eq : ∀ a b : Fin 16, IntOp.cmpi .eq (BitVec.ofNat 32 a.val) (BitVec.ofNat 32 b.val) = BitVec.ofBool (decide (a = b)) := by
  decide +kernel

theorem word_lt_three : ∀ a : Fin 17, IntOp.cmpi .slt (BitVec.ofNat 32 a.val) 3#32 = BitVec.ofBool (decide (a.val < 3)) := by
  decide +kernel

/-- The word the kernel divides a position into is its block's number. -/
theorem block_word : ∀ t : Fin 4096,
    Scalar.select
      (IntOp.andi
        (IntOp.cmpi CmpIPredicate.ne
          (IntOp.subi (BitVec.setWidth 32 (IntOp.cmpi CmpIPredicate.sgt (BitVec.ofNat 32 t.val) 0#32))
            (BitVec.setWidth 32 (IntOp.cmpi CmpIPredicate.slt (BitVec.ofNat 32 t.val) 0#32)))
          (Scalar.subi (Scalar.extui (Scalar.cmpi CmpIPredicate.sgt 256#32 0#32))
            (Scalar.extui (Scalar.cmpi CmpIPredicate.slt 256#32 0#32))))
        (IntOp.cmpi CmpIPredicate.ne (IntOp.remsi ArithUnit.vector (BitVec.ofNat 32 t.val) 256#32) 0#32))
      (IntOp.subi (IntOp.divsi ArithUnit.vector (BitVec.ofNat 32 t.val) 256#32) 1#32)
      (IntOp.divsi ArithUnit.vector (BitVec.ofNat 32 t.val) 256#32) = BitVec.ofNat 32 (t.val / 256) := by
  decide +kernel

theorem own_word (j : S16x4096.Idx) : k1_pay4 j = BitVec.ofNat 32 ((j 1).val / 256) := by
  unfold_payloads
  pointwise
  exact block_word (j 1)

/-- One comparison of the rank count, as the kernel writes it: does block `m` outrank block `n` for a query of block `b`. -/
def rankStep (G : Fin 16 → EReal) (b n m : Fin 16) : BitVec 32 :=
  Scalar.select (IntOp.cmpi CmpIPredicate.sgt (BitVec.ofNat 32 b.val) (BitVec.ofNat 32 m.val))
    (Scalar.select (IntOp.cmpi CmpIPredicate.sgt (BitVec.ofNat 32 n.val) (BitVec.ofNat 32 m.val))
      (if G n ≤ G m then 1#32 else 0#32) (if G n < G m then 1#32 else 0#32))
    0#32

theorem rankStep_eq (G : Fin 16 → EReal) (b n m : Fin 16) :
    rankStep G b n m = BitVec.ofNat 32 (if m.val < b.val ∧ outranks G m n then 1 else 0) := by
  unfold rankStep
  rw [word_gt, word_gt, Scalar.select_decide, Scalar.select_decide]
  have hor : outranks G m n ↔ G n < G m ∨ (G m = G n ∧ m < n) := Iff.rfl
  by_cases hb : m < b
  · have hb' : m.val < b.val := hb
    by_cases hn : m < n
    · simp only [hor, hb, hb', hn, if_true, true_and, and_true, le_iff_lt_or_eq, @eq_comm _ (G m) (G n)]
      split <;> rfl
    · simp only [hor, hb, hb', hn, if_true, if_false, true_and, and_false, or_false]
      split <;> rfl
  · have hb' : ¬ m.val < b.val := hb
    simp only [hb, hb', if_false, false_and]

/-- The rank word of block `n` for a query of block `b`: fifteen comparisons added up. -/
def rankWord (G : Fin 16 → EReal) (b n : Fin 16) : BitVec 32 :=
  IntOp.addi (IntOp.addi (IntOp.addi (IntOp.addi (IntOp.addi (IntOp.addi (IntOp.addi (IntOp.addi (IntOp.addi (IntOp.addi (IntOp.addi (IntOp.addi (IntOp.addi (IntOp.addi (IntOp.addi (0#32) (rankStep G b n 0)) (rankStep G b n 1)) (rankStep G b n 2)) (rankStep G b n 3)) (rankStep G b n 4)) (rankStep G b n 5)) (rankStep G b n 6)) (rankStep G b n 7)) (rankStep G b n 8)) (rankStep G b n 9)) (rankStep G b n 10)) (rankStep G b n 11)) (rankStep G b n 12)) (rankStep G b n 13)) (rankStep G b n 14)

theorem rankWord_eq (G : Fin 16 → EReal) (b n : Fin 16) : rankWord G b n = BitVec.ofNat 32 (rankOf G b.val n) := by
  have h15 : ¬ (15 < b.val) := by omega
  unfold rankWord rankOf
  rw [Finset.card_filter]
  simp only [rankStep_eq, IntOp.addi, ← BitVec.ofNat_add]
  congr 1
  rw [Fin.sum_univ_castSucc, show ((Fin.last 15 : Fin 16)).val = 15 from rfl]
  simp only [h15, false_and, if_false, add_zero]
  simp only [Fin.sum_univ_castSucc, Fin.sum_univ_zero]
  rfl

/-- The blocks a query of block `b` keeps: its own, and the past ones that fewer than three past blocks outrank. -/
def kept (G : Fin 16 → EReal) (b n : Fin 16) : Prop := (n.val < b.val ∧ rankOf G b.val n < 3) ∨ n = b

instance (G : Fin 16 → EReal) (b n : Fin 16) : Decidable (kept G b n) := inferInstanceAs (Decidable (_ ∨ _))

theorem rankOf_le (G : Fin 16 → EReal) (own : ℕ) (n : Fin 16) : rankOf G own n < 17 := by
  have := Finset.card_le_univ (Finset.univ.filter fun m : Fin 16 => m.val < own ∧ outranks G m n)
  simp at this
  unfold rankOf; simp; omega

/-- One entry of the kept blocks' row. -/
theorem keep_entry (G : Fin 16 → EReal) (b x : Fin 16) :
    Scalar.select (IntOp.cmpi CmpIPredicate.slt (BitVec.ofNat 32 x.val) (BitVec.ofNat 32 b.val))
            (Scalar.select (IntOp.cmpi CmpIPredicate.slt (rankWord G b x) 3#32) (1 : EReal) 0)
            (Scalar.select (IntOp.cmpi CmpIPredicate.eq (BitVec.ofNat 32 x.val) (BitVec.ofNat 32 b.val)) 1 0)
      = if kept G b x then 1 else 0 := by
  rw [rankWord_eq, word_lt, word_eq, word_lt_three ⟨_, rankOf_le G b.val x⟩, Scalar.select_decide, Scalar.select_decide, Scalar.select_decide]
  unfold kept
  by_cases h : x < b
  · have h' : x.val < b.val := h
    have hne : x ≠ b := ne_of_lt h
    simp only [h, h', hne, if_true, true_and, or_false]
  · have h' : ¬ x.val < b.val := h
    simp only [h, h', if_false, false_and, false_or]

theorem eye_entry (x : Fin 16) (d : Fin 128) :
    FloatOps.sitofp (F := Ideal) FTy.f32 (BitVec.setWidth 32 (IntOp.cmpi CmpIPredicate.eq (BitVec.ofNat 32 x.val) (BitVec.ofNat 32 d.val)))
      = if x.val = d.val then (1 : EReal) else 0 := by
  have h : ∀ (x : Fin 16) (d : Fin 128), BitVec.setWidth 32 (IntOp.cmpi CmpIPredicate.eq (BitVec.ofNat 32 x.val) (BitVec.ofNat 32 d.val))
      = if x.val = d.val then 1#32 else 0#32 := by decide +kernel
  rw [h]
  split
  · show ((((1#32 : BitVec 32).toInt : ℝ)) : EReal) = 1
    norm_num
  · show ((((0#32 : BitVec 32).toInt : ℝ)) : EReal) = 0
    norm_num

theorem half_word : Ideal.ofBits .f32 1056964608#32 = ((1 / 2 : ℝ) : EReal) := by
  simp [Ideal.ofBits, Ideal.ieee, -EReal.coe_mul]; norm_num

/-- The kept blocks' row, turned into a lane per block: above one half exactly in the lanes of the kept blocks. -/
theorem keep_lane (G : Fin 16 → EReal) (b : Fin 16) (d : Fin 128) :
    (Ideal.ofBits .f32 1056964608#32 < ∑ x : Fin 16, (if kept G b x then (1 : EReal) else 0) * (if x.val = d.val then 1 else 0))
      ↔ ∃ x : Fin 16, x.val = d.val ∧ kept G b x := by
  rw [half_word]
  by_cases hd : d.val < 16
  · rw [Finset.sum_eq_single (⟨d.val, hd⟩ : Fin 16) (fun x _ hx => by
        rw [if_neg (fun h => hx (Fin.ext h)), mul_zero]) (fun h => absurd (Finset.mem_univ _) h)]
    simp only [if_true, mul_one]
    constructor
    · intro h
      refine ⟨⟨d.val, hd⟩, rfl, ?_⟩
      by_contra hk
      rw [if_neg hk] at h
      exact absurd h (not_lt.2 (by rw [← EReal.coe_zero, EReal.coe_le_coe_iff]; norm_num))
    · rintro ⟨x, hx, hk⟩
      have : x = ⟨d.val, hd⟩ := Fin.ext hx
      subst this
      rw [if_pos hk, ← EReal.coe_one, EReal.coe_lt_coe_iff]; norm_num
  · rw [Finset.sum_eq_zero fun x _ => by
      have hx : ¬ (x.val = d.val) := fun h => hd (h ▸ x.isLt)
      rw [if_neg hx, mul_zero]]
    constructor
    · intro h
      exact absurd h (not_lt.2 (by rw [← EReal.coe_zero, EReal.coe_le_coe_iff]; norm_num))
    · rintro ⟨x, hx, -⟩
      omega

set_option maxHeartbeats 1600000 in
theorem keep_word (g : FVec Ideal S16x4096 .f32) (o : IVec S16x4096 32)
    (ho : ∀ i : S16x4096.Idx, o i = BitVec.ofNat 32 ((i 1).val / 256)) (j : S4096x128.Idx) (b : Fin 16) (hb : (j 0).val / 256 = b.val) :
    (k1_pay36 g (iota .tc S16x4096 32 [0] iota_S16x4096_d0_w32) o (k1_pay31 g (iota .tc S16x4096 32 [0] iota_S16x4096_d0_w32) o (k1_pay27 g (iota .tc S16x4096 32 [0] iota_S16x4096_d0_w32) o (k1_pay21 g (iota .tc S16x4096 32 [0] iota_S16x4096_d0_w32) o (k1_pay17 g (iota .tc S16x4096 32 [0] iota_S16x4096_d0_w32) o (k1_pay16 g (iota .tc S16x4096 32 [0] iota_S16x4096_d0_w32) o (k1_pay11 g (iota .tc S16x4096 32 [0] iota_S16x4096_d0_w32) o k1_pay5 (extractStridedSlice S1x4096 ![0, 0] g slices_S16x4096_o0_0_S1x4096) k1_pay7 (cmpf .oge (broadcastTo S16x4096 (extractStridedSlice S1x4096 ![0, 0] g slices_S16x4096_o0_0_S1x4096) broadcasts_S1x4096_S16x4096) g) k1_pay9 k1_pay10) (k1_pay13 (iota .tc S16x4096 32 [0] iota_S16x4096_d0_w32)) (k1_pay14 g) (k1_pay15 g))) (k1_pay18 g) (k1_pay19 (iota .tc S16x4096 32 [0] iota_S16x4096_d0_w32)) (k1_pay20 g) 1#32 0#32) (k1_pay23 (iota .tc S16x4096 32 [0] iota_S16x4096_d0_w32)) (k1_pay24 g) (k1_pay25 g) 0#32 k1_pay26) (k1_pay28 g (iota .tc S16x4096 32 [0] iota_S16x4096_d0_w32)) (k1_pay29 o) k1_pay30) (k1_pay32 g) (k1_pay33 (iota .tc S16x4096 32 [0] iota_S16x4096_d0_w32)) (k1_pay34 g)) j = BitVec.ofBool (decide (Ideal.ofBits .f32 1056964608#32 < ∑ x : Fin 16,
          Scalar.select (IntOp.cmpi CmpIPredicate.slt (BitVec.ofNat 32 x.val) (BitVec.ofNat 32 b.val))
            (Scalar.select (IntOp.cmpi CmpIPredicate.slt (rankWord (fun n => g (ix2 n (j 0))) b x) 3#32) 1 0)
            (Scalar.select (IntOp.cmpi CmpIPredicate.eq (BitVec.ofNat 32 x.val) (BitVec.ofNat 32 b.val)) 1 0)
          * FloatOps.sitofp (F := Ideal) FTy.f32
              (BitVec.setWidth 32 (IntOp.cmpi CmpIPredicate.eq (BitVec.ofNat 32 x.val) (BitVec.ofNat 32 (j 1).val))))) := by
  have ho' : ∀ x : Fin 16, o (ix2 x (j 0)) = BitVec.ofNat 32 b.val := fun x => by rw [ho, ← hb]; rfl
  unfold_payloads
  pointwise
  simp only [ho']
  rfl

/-- The lanes the kernel keeps: lane `d` of a query of block `b` where `d` is a block it keeps. -/
theorem kept_lane (g : FVec Ideal S16x4096 .f32) (j : S4096x128.Idx) (b : Fin 16) (hb : (j 0).val / 256 = b.val) :
    (k1_pay36 g (iota .tc S16x4096 32 [0] iota_S16x4096_d0_w32) k1_pay4 (k1_pay31 g (iota .tc S16x4096 32 [0] iota_S16x4096_d0_w32) k1_pay4 (k1_pay27 g (iota .tc S16x4096 32 [0] iota_S16x4096_d0_w32) k1_pay4 (k1_pay21 g (iota .tc S16x4096 32 [0] iota_S16x4096_d0_w32) k1_pay4 (k1_pay17 g (iota .tc S16x4096 32 [0] iota_S16x4096_d0_w32) k1_pay4 (k1_pay16 g (iota .tc S16x4096 32 [0] iota_S16x4096_d0_w32) k1_pay4 (k1_pay11 g (iota .tc S16x4096 32 [0] iota_S16x4096_d0_w32) k1_pay4 k1_pay5 (extractStridedSlice S1x4096 ![0, 0] g slices_S16x4096_o0_0_S1x4096) k1_pay7 (cmpf .oge (broadcastTo S16x4096 (extractStridedSlice S1x4096 ![0, 0] g slices_S16x4096_o0_0_S1x4096) broadcasts_S1x4096_S16x4096) g) k1_pay9 k1_pay10) (k1_pay13 (iota .tc S16x4096 32 [0] iota_S16x4096_d0_w32)) (k1_pay14 g) (k1_pay15 g))) (k1_pay18 g) (k1_pay19 (iota .tc S16x4096 32 [0] iota_S16x4096_d0_w32)) (k1_pay20 g) 1#32 0#32) (k1_pay23 (iota .tc S16x4096 32 [0] iota_S16x4096_d0_w32)) (k1_pay24 g) (k1_pay25 g) 0#32 k1_pay26) (k1_pay28 g (iota .tc S16x4096 32 [0] iota_S16x4096_d0_w32)) (k1_pay29 k1_pay4) k1_pay30) (k1_pay32 g) (k1_pay33 (iota .tc S16x4096 32 [0] iota_S16x4096_d0_w32)) (k1_pay34 g)) j
      = BitVec.ofBool (decide (∃ x : Fin 16, x.val = (j 1).val ∧ kept (fun n => g (ix2 n (j 0))) b x)) := by
  classical
  rw [keep_word g k1_pay4 own_word j b hb]
  congr 1
  rw [decide_eq_decide]
  refine Iff.trans ?_ (keep_lane (fun n => g (ix2 n (j 0))) b ⟨(j 1).val, (j 1).isLt⟩)
  have h : ∀ x : Fin 16, FloatOps.sitofp (F := Ideal) FTy.f32
              (BitVec.setWidth 32 (IntOp.cmpi CmpIPredicate.eq (BitVec.ofNat 32 x.val) (BitVec.ofNat 32 (j 1).val)))
      = if x.val = (j 1).val then (1 : EReal) else 0 := fun x => eye_entry x ⟨(j 1).val, (j 1).isLt⟩
  simp only [keep_entry, h]

end Cert.KernelIdeal.Moba

end
-- ==== Proof.Gates.lean ====
/- The second call's array: each query scaled, then a lane per block that is zero where the query keeps the block. -/
module

public import proofs.«01_k».proof.Proof.Gate

@[expose] public section

set_option maxRecDepth 16384

noncomputable section

namespace Cert.KernelIdeal.Moba

open Idealize.ShloMosaic Idealize.ShloMosaic.TcCoe Idealize.SL.Sem
open Idealize.ShloMosaic.Pipeline (Dat)
open Cert.KernelIdeal Cert.KernelIdeal.Gen Cert.Moba

variable (V : (c : Dev nD) → (b : Ref sig .tc) → Buf (Elt Ideal) ((c : Thread nD τ).loc b))

/-- Where each window's block sits at a grid point. -/
theorem idx1 : ∀ t : Fin cfg1.N,
    win1_0.index t = ![t.val / 8, 0, t.val % 8] ∧ win1_1.index t = ![t.val / 8, t.val % 8, 0, 0]
    ∧ win1_2.index t = ![t.val / 8, 0, t.val % 8] :=
  (by decide +kernel : ∀ t : Fin grid1.N, _)

/-- The kernel's scale: the reference's own, over the logarithm of two. -/
def scale2 : EReal := (((11863283 / 134217728) * (Real.log 2)⁻¹ : ℝ) : EReal)

/-- The gates of one query: its product with each block's mean key. -/
def gates (Q : FVec Ideal S4x4096x1024 .f32) (M : FVec Ideal S4x8x16x128 .f32) (b : Fin 4) (h : Fin 8) (s : Fin 4096) (n : Fin 16) : EReal :=
  ∑ k : Fin 128, M (ix4 b h n k) * Q (ix3 b s ⟨h.val * 128 + k.val, by omega⟩)

/-- The second call's array. -/
def augArray (Q : FVec Ideal S4x4096x1024 .f32) (M : FVec Ideal S4x8x16x128 .f32) : FVec Ideal S4x4096x2048 .bf16 := fun i =>
  if (i 2).val % 256 < 128 then
    Q (ix3 (i 0) (i 1) ⟨(i 2).val / 256 * 128 + (i 2).val % 128, by have : (i 2).val < 2048 := (i 2).isLt; omega⟩) * scale2
  else if ∃ x : Fin 16, x.val = (i 2).val % 128
      ∧ kept (gates Q M (i 0) ⟨(i 2).val / 256, by have : (i 2).val < 2048 := (i 2).isLt; omega⟩ (i 1))
          ⟨(i 1).val / 256, by have : (i 1).val < 4096 := (i 1).isLt; omega⟩ x
    then 0 else ⊥

/-- The scale's name reads as the scale. -/
theorem named_scale2 : Named.named (F := Ideal) Cert.KernelIdeal.κ "scale2" (φ := .f32) 0x3E0293EE#32 = scale2 :=
  IdealRules.named_const.ideal_named_scalar _ _ _ _ rfl

/-- The masking constant's name reads as minus infinity. -/
theorem named_neg : Named.named (F := Ideal) Cert.KernelIdeal.κ "neg" (φ := .f32) 0xF149F2CA#32 = (⊥ : EReal) :=
  IdealRules.named_const.ideal_named_scalar _ _ _ _ rfl

/-- The scaled queries. -/
theorem scaled_at (q : Vec Ideal S1x4096x128 .f32) (y : S1x4096x128.Idx) : k1_pay35 (k1_pay2 q) y = (q y : EReal) * scale2 := by
  unfold_payloads
  pointwise [named_scale2]

/-- The mask's lanes, from the bits of the kept blocks. -/
theorem mask_at (w : IVec S4096x128 1) (x : S1x4096x128.Idx) (P : Prop) [Decidable P] (h : w (ix2 (x 1) (x 2)) = BitVec.ofBool (decide P)) :
    k1_pay1 (F := Ideal) w (FloatOps.ofBits FTy.f32 0#32) x = if P then (0 : EReal) else ⊥ := by
  unfold_payloads
  pointwise [named_neg]
  rw [h]
  pointwise

theorem gate_at (c : Dev nD) (t : Fin cfg1.N) (n : Fin 16) (s : Fin 4096) : k1_pay3 (iblk1 V c 0 t) (iblk1 V c 1 t) (ix2 n s)
    = gates (V c main_v9_0) (V c main_v9_2) ⟨t.val / 8, by have : t.val < 32 := t.isLt; omega⟩ ⟨t.val % 8, by omega⟩ s n := by
  unfold gates
  unfold_payloads
  pointwise
  blk_point [iblk1, idx1 t]

theorem augmented (c : Dev nD) : (dat1 V c).arrAt 2 cfg1.N = augArray (V c main_v9_0) (V c main_v9_2) := by
  refine (dat1 V c).arrAt_eq_of_covers 2 _ (by decide +kernel) fun t hf y => ?_
  blk_simp
  rw [after1_2]; unfold_out out1_2; frame_out
  canon_tiles x h
  · have hb : (x 1).val / 256 < 16 := by omega
    refine (mask_at _ x _ (kept_lane (k1_pay3 (iblk1 V c 0 t) (iblk1 V c 1 t)) (ix2 (x 1) (x 2)) ⟨(x 1).val / 256, hb⟩ rfl)).trans ?_
    unfold augArray
    blk_simp [idx1 t]
    pointwise [h0, h1, h2]
    rw [if_neg (by omega)]
    refine if_congr (exists_congr fun n => and_congr (Eq.congr_right (by omega)) (Iff.of_eq (congrArg (fun g => kept g _ n) ?_))) rfl rfl
    funext n'
    refine (gate_at V c t n' (x 1)).trans ?_
    refine congr (congr (congr (congrArg (gates (V c main_v9_0) (V c main_v9_2)) ?_) ?_) ?_) rfl <;> apply Fin.ext <;> (try blk_simp [idx1 t])
      <;> (try simp only [h0, h1]) <;> (try dsimp only) <;> omega
  · rw [scaled_at]
    unfold augArray
    blk_simp [idx1 t]
    pointwise [h0, h1, h2]
    rw [if_pos (by omega)]
    congr 1
    blk_point [iblk1, idx1 t]

end Cert.KernelIdeal.Moba

end
-- ==== Proof.Ops.lean ====
/- The attention call's block operations at an entry: scores, row maxima, weights and weighted sums. -/
module

public import proofs.«01_k».proof.Proof.Gates
public import Idealize.ShloMosaic.Lib.Pipeline.ReadBack

@[expose] public section

set_option maxRecDepth 16384

noncomputable section

namespace Cert.KernelIdeal.Moba

open Idealize.ShloMosaic Idealize.ShloMosaic.TcCoe Idealize.SL.Sem
open Cert.KernelIdeal Cert.KernelIdeal.Gen Cert.Moba

/-- One query block against one key block. -/
def raw (q k : FVec Ideal S1x256x256 .bf16) : FVec Ideal S256x256 .f32 := k2_pay11 q k
/-- The larger of a row's two halves, lane by lane. -/
def half (s : FVec Ideal S256x256 .f32) : FVec Ideal S256x128 .f32 := k2_pay8 s
/-- The weights of a block of scores, given each row's maximum. -/
def weight (m : FVec Ideal S256x128 .f32) (s : FVec Ideal S256x256 .f32) : FVec Ideal S256x256 .f32 :=
  k2_pay91 m s (k2_pay90 (k2_pay21 s))
/-- A row's two halves added. -/
def both (p : FVec Ideal S256x256 .f32) : FVec Ideal S256x128 .f32 :=
  addf (extractStridedSlice S256x128 ![0, 0] p slices_S256x256_o0_0_S256x128) (extractStridedSlice S256x128 ![0, 128] p slices_S256x256_o0_128_S256x128)
/-- The weights applied to a block of values. -/
def apply (p : FVec Ideal S256x256 .f32) (v : FVec Ideal S1x256x128 .bf16) : FVec Ideal S256x128 .f32 :=
  matmul dot_S256x256_S256x128_S256x128_1_0_0_1_n_n none (truncf .bf16 p bitsLt_bf16_f32) (shapeCast S256x128 v shapeCasts_S1x256x128_S256x128) (constant S256x128 .f32 0x00000000#32)
/-- Each row's maximum, at every lane. -/
def rowMax (v : FVec Ideal S256x128 .f32) : FVec Ideal S256x128 .f32 :=
  broadcastTo S256x128 (shapeCast S256x1 (shapeCast S256x1 (multiReduction .maximumf [1] S256 v 0xFF800000#32 reduces_S256x128_S256 (.inl rfl) rfl) shapeCasts_S256_S256x1) shapeCasts_S256x1_S256x1) broadcasts_S256x1_S256x128

/-- The largest entry of a row of lanes. -/
def top (v : FVec Ideal S256x128 .f32) (r : Fin 256) : EReal := Finset.univ.sup fun l : Fin 128 => (v (ix2 r l) : EReal)
/-- The largest score of a row. -/
def best (s : FVec Ideal S256x256 .f32) (r : Fin 256) : EReal := Finset.univ.sup fun k : Fin 256 => (s (ix2 r k) : EReal)
/-- A block's share of the denominator. -/
def den (M : EReal) (s : FVec Ideal S256x256 .f32) (r : Fin 256) : EReal := ∑ k : Fin 256, Ideal.exp2 ((s (ix2 r k) : EReal) - M)
/-- A block's share of the numerator. -/
def num (M : EReal) (s : FVec Ideal S256x256 .f32) (v : FVec Ideal S1x256x128 .bf16) (r : Fin 256) (d : Fin 128) : EReal :=
  ∑ k : Fin 256, Ideal.exp2 ((s (ix2 r k) : EReal) - M) * v (ix3 0 k d)

/-- The word of minus infinity reads as it. -/
theorem bits_bot : Ideal.ofBits .f32 4286578688#32 = (⊥ : EReal) := by simp [Ideal.ofBits, Ideal.ieee]

theorem rowMax_at (v : FVec Ideal S256x128 .f32) (r : Fin 256) (l : Fin 128) : rowMax v (ix2 r l) = top v r := by
  unfold rowMax top
  pointwise
  rw [bits_bot]
  rfl

theorem half_at (s : FVec Ideal S256x256 .f32) (r : Fin 256) (l : Fin 128) :
    half s (ix2 r l) = max (s (ix2 r ⟨l.val, by omega⟩) : EReal) (s (ix2 r ⟨128 + l.val, by omega⟩)) := by
  unfold half
  unfold_payloads
  pointwise

theorem weight_at (v : FVec Ideal S256x128 .f32) (s : FVec Ideal S256x256 .f32) (r k : Fin 256) :
    weight (rowMax v) s (ix2 r k) = Ideal.exp2 ((s (ix2 r k) : EReal) - top v r) := by
  unfold weight
  unfold_payloads
  pointwise [rowMax_at]
  split
  · rfl
  · rw [show (⟨128 + (k.val - 128), by omega⟩ : Fin 256) = k from Fin.ext (by dsimp only; omega)]; rfl

theorem raw_at (q k : FVec Ideal S1x256x256 .bf16) (r x : Fin 256) :
    raw q k (ix2 r x) = ∑ l : Fin 256, (q (ix3 0 r l) : EReal) * k (ix3 0 x l) := by
  unfold raw
  unfold_payloads
  pointwise

theorem apply_at (p : FVec Ideal S256x256 .f32) (v : FVec Ideal S1x256x128 .bf16) (r : Fin 256) (d : Fin 128) :
    apply p v (ix2 r d) = ∑ k : Fin 256, (p (ix2 r k) : EReal) * v (ix3 0 k d) := by
  unfold apply
  pointwise

theorem both_at (p : FVec Ideal S256x256 .f32) (r : Fin 256) (l : Fin 128) :
    both p (ix2 r l) = (p (ix2 r ⟨l.val, by omega⟩) : EReal) + p (ix2 r ⟨128 + l.val, by omega⟩) := by
  unfold both
  pointwise

theorem down_up (s : FVec Ideal S256x256 .f32) : shapeCast S256x256 (shapeCast S1x256x256 s shapeCasts_S256x256_S1x256x256) shapeCasts_S1x256x256_S256x256 = s :=
  shapeCast_shapeCast s _ _

theorem up_down (s : FVec Ideal S1x256x256 .bf16) : shapeCast S1x256x256 (shapeCast S256x256 s shapeCasts_S1x256x256_S256x256) shapeCasts_S256x256_S1x256x256 = s :=
  shapeCast_shapeCast s _ _

/-- The weighted sum of one block. -/
theorem apply_weight (v : FVec Ideal S256x128 .f32) (s : FVec Ideal S256x256 .f32) (w : FVec Ideal S1x256x128 .bf16) (r : Fin 256) (d : Fin 128) :
    apply (weight (rowMax v) s) w (ix2 r d) = num (top v r) s w r d := by
  rw [apply_at]
  exact Finset.sum_congr rfl fun k _ => by rw [weight_at]

/-- The weights of one block, summed over the lanes. -/
theorem sum_both (v : FVec Ideal S256x128 .f32) (s : FVec Ideal S256x256 .f32) (r : Fin 256) :
    ∑ l : Fin 128, (both (weight (rowMax v) s) (ix2 r l) : EReal) = den (top v r) s r := by
  unfold den
  rw [Fin.sum_univ_two_halves 128 128 rfl, ← Finset.sum_add_distrib]
  exact Finset.sum_congr rfl fun k _ => by rw [both_at, weight_at, weight_at]

/-- The maximum over a row's lanes of its two halves is the maximum over the row. -/
theorem top_half (s : FVec Ideal S256x256 .f32) (r : Fin 256) : top (half s) r = best s r := by
  unfold top best
  apply le_antisymm
  · refine Finset.sup_le fun l _ => ?_
    rw [half_at]
    exact max_le (Finset.le_sup (f := fun k : Fin 256 => (s (ix2 r k) : EReal)) (Finset.mem_univ _))
      (Finset.le_sup (f := fun k : Fin 256 => (s (ix2 r k) : EReal)) (Finset.mem_univ _))
  · refine Finset.sup_le fun k _ => ?_
    by_cases hk : k.val < 128
    · refine le_trans ?_ (Finset.le_sup (f := fun l : Fin 128 => (half s (ix2 r l) : EReal)) (Finset.mem_univ ⟨k.val, hk⟩))
      rw [half_at]
      exact le_max_left _ _
    · refine le_trans ?_ (Finset.le_sup (f := fun l : Fin 128 => (half s (ix2 r l) : EReal)) (Finset.mem_univ ⟨k.val - 128, by omega⟩))
      rw [half_at, show (⟨128 + (k.val - 128), by omega⟩ : Fin 256) = k from Fin.ext (by dsimp only; omega)]
      exact le_max_right _ _

theorem top_max (a b : FVec Ideal S256x128 .f32) (r : Fin 256) : top (maximumf a b) r = top a r ⊔ top b r := by
  unfold top
  rw [← Finset.sup_sup]
  refine Finset.sup_congr rfl fun l _ => ?_
  pointwise
  rfl

theorem top_neg (r : Fin 256) : top (broadcast S256x128 (Named.named (F := Ideal) Cert.KernelIdeal.κ "neg" (φ := .f32) 0xF149F2CA#32)) r = ⊥ := by
  unfold top
  refine le_bot_iff.mp (Finset.sup_le fun l _ => ?_)
  pointwise [named_neg]
  exact le_rfl

theorem exp2_bot : Ideal.exp2 ⊥ = 0 := rfl

theorem num_bot (M : EReal) (w : FVec Ideal S1x256x128 .bf16) (r : Fin 256) (d : Fin 128) : num M (fun _ => (⊥ : EReal)) w r d = 0 := by
  unfold num
  refine Finset.sum_eq_zero fun k _ => ?_
  rw [EReal.bot_sub, exp2_bot, zero_mul]

theorem den_bot (M : EReal) (r : Fin 256) : den M (fun _ => (⊥ : EReal)) r = 0 := by
  unfold den
  refine Finset.sum_eq_zero fun k _ => ?_
  rw [EReal.bot_sub, exp2_bot]

theorem best_bot (r : Fin 256) : best (fun _ => (⊥ : EReal)) r = ⊥ :=
  le_bot_iff.mp (Finset.sup_le fun l _ => le_rfl)

end Cert.KernelIdeal.Moba

end
-- ==== Proof.Loads.lean ====
/- The attention call's loads: blocks of keys and values at a row offset, and the query scratch at a slot. -/
module

public import proofs.«01_k».proof.Proof.Ops

@[expose] public section

set_option maxRecDepth 16384

noncomputable section

namespace Cert.KernelIdeal.Moba

open Idealize.ShloMosaic Idealize.ShloMosaic.TcCoe Idealize.SL.Sem
open Cert.KernelIdeal Cert.KernelIdeal.Gen Cert.Moba

/-- The rows of key block `n`. -/
def keyRows (X : FVec Ideal S1x4096x256 .bf16) (n : ℕ) : FVec Ideal S1x256x256 .bf16 := fun j =>
  X (ix3 0 ⟨(n * 256 + (j 1).val) % 4096, by omega⟩ (j 2))
/-- The rows of value block `n`. -/
def valueRows (X : FVec Ideal S1x4096x128 .bf16) (n : ℕ) : FVec Ideal S1x256x128 .bf16 := fun j =>
  X (ix3 0 ⟨(n * 256 + (j 1).val) % 4096, by omega⟩ (j 2))

/-- A load of 256 rows of keys at a block's first row. -/
theorem key_load (X : FVec Ideal S1x4096x256 .bf16) (off : Fin 3 → ℕ) (n : ℕ) (h : off = ![0, n * 256, 0]) (inb) :
    View.ld (Val := Elt Ideal) (e' := .bf16) (S := S1x4096x256) X (Rect.unit off ![1, 256, 256] inb) = keyRows X n := by
  subst h
  funext j
  have h1 : n * 256 + 256 ≤ 4096 := inb 1
  have h2 : (j 1).val < 256 := (j 1).isLt
  unfold keyRows
  refine congrArg X (funext fun a => Fin.ext ?_)
  fin_cases a
  · have : (j 0).val < 1 := (j 0).isLt
    show 0 + 1 * (j 0).val = 0
    omega
  · show n * 256 + 1 * (j 1).val = (n * 256 + (j 1).val) % 4096
    omega
  · show 0 + 1 * (j 2).val = (j 2).val
    omega

/-- A load of 256 rows of values at a block's first row. -/
theorem value_load (X : FVec Ideal S1x4096x128 .bf16) (off : Fin 3 → ℕ) (n : ℕ) (h : off = ![0, n * 256, 0]) (inb) :
    View.ld (Val := Elt Ideal) (e' := .bf16) (S := S1x4096x128) X (Rect.unit off ![1, 256, 128] inb) = valueRows X n := by
  subst h
  funext j
  have h1 : n * 256 + 256 ≤ 4096 := inb 1
  have h2 : (j 1).val < 256 := (j 1).isLt
  unfold valueRows
  refine congrArg X (funext fun a => Fin.ext ?_)
  fin_cases a
  · have : (j 0).val < 1 := (j 0).isLt
    show 0 + 1 * (j 0).val = 0
    omega
  · show n * 256 + 1 * (j 1).val = (n * 256 + (j 1).val) % 4096
    omega
  · show 0 + 1 * (j 2).val = (j 2).val
    omega

/-- The block a query slot's turn `w` takes at pair `p`. -/
def turn (p w : ℕ) : ℕ := if w < p then w else 8 + w - p

theorem turn_key : ∀ p : Fin 8, ∀ r : Fin 7, ∀ i : grid2.Coords, (i 2).val = p.val →
    k2_off4 i (BitVec.ofNat 32 r.val) (BitVec.ofNat 32 r.val) (BitVec.ofNat 32 (8 + r.val)) = ![0, turn p.val r.val * 256, 0] := by
  intro p r i h
  unfold k2_off4
  rw [h]
  revert p r
  intro p r h
  clear h
  revert p r
  decide +kernel

theorem turn_value : ∀ p : Fin 8, ∀ r : Fin 7, ∀ i : grid2.Coords, (i 2).val = p.val →
    k2_off7 i (BitVec.ofNat 32 r.val) (BitVec.ofNat 32 r.val) (BitVec.ofNat 32 (8 + r.val)) = ![0, turn p.val r.val * 256, 0] := by
  intro p r i h
  unfold k2_off7
  rw [h]
  revert p r
  intro p r h
  clear h
  revert p r
  decide +kernel

theorem key_turn (X : FVec Ideal S1x4096x256 .bf16) (i : grid2.Coords) (w w' w8 : BitVec 32) (hw : w.toNat < 7) (h1 : w' = w) (h2 : w8 = BitVec.ofNat 32 (8 + w.toNat)) (inb) :
    View.ld (Val := Elt Ideal) (e' := .bf16) (S := S1x4096x256) X (Rect.unit (k2_off4 i w w' w8) ![1, 256, 256] inb) = keyRows X (turn (i 2).val w.toNat) := by
  refine key_load X _ _ ?_ inb
  subst h1 h2
  have := turn_key ⟨(i 2).val, (i 2).isLt⟩ ⟨w'.toNat, hw⟩ i rfl
  simpa using this

theorem value_turn (X : FVec Ideal S1x4096x128 .bf16) (i : grid2.Coords) (w w' w8 : BitVec 32) (hw : w.toNat < 7) (h1 : w' = w) (h2 : w8 = BitVec.ofNat 32 (8 + w.toNat)) (inb) :
    View.ld (Val := Elt Ideal) (e' := .bf16) (S := S1x4096x128) X (Rect.unit (k2_off7 i w w' w8) ![1, 256, 128] inb) = valueRows X (turn (i 2).val w.toNat) := by
  refine value_load X _ _ ?_ inb
  subst h1 h2
  have := turn_value ⟨(i 2).val, (i 2).isLt⟩ ⟨w'.toNat, hw⟩ i rfl
  simpa using this

theorem key_own (X : FVec Ideal S1x4096x256 .bf16) (i : grid2.Coords) (inb) :
    View.ld (Val := Elt Ideal) (e' := .bf16) (S := S1x4096x256) X (Rect.unit (k2_off1 i) ![1, 256, 256] inb) = keyRows X (i 2).val :=
  key_load X _ _ (by rw [k2_off1_eq, Nat.mul_comm]) inb

theorem key_far (X : FVec Ideal S1x4096x256 .bf16) (i : grid2.Coords) (inb) :
    View.ld (Val := Elt Ideal) (e' := .bf16) (S := S1x4096x256) X (Rect.unit (k2_off2 i) ![1, 256, 256] inb) = keyRows X (15 - (i 2).val) :=
  key_load X _ _ (by rw [k2_off2_eq]; congr 2; have : (i 2).val < 8 := (i 2).isLt; omega) inb

theorem value_own (X : FVec Ideal S1x4096x128 .bf16) (i : grid2.Coords) (inb) :
    View.ld (Val := Elt Ideal) (e' := .bf16) (S := S1x4096x128) X (Rect.unit (k2_off5 i) ![1, 256, 128] inb) = valueRows X (i 2).val :=
  value_load X _ _ (by rw [k2_off5_eq, Nat.mul_comm]) inb

theorem value_far (X : FVec Ideal S1x4096x128 .bf16) (i : grid2.Coords) (inb) :
    View.ld (Val := Elt Ideal) (e' := .bf16) (S := S1x4096x128) X (Rect.unit (k2_off6 i) ![1, 256, 128] inb) = valueRows X (15 - (i 2).val) :=
  value_load X _ _ (by rw [k2_off6_eq]; congr 2; have : (i 2).val < 8 := (i 2).isLt; omega) inb

theorem key_at (X : FVec Ideal S1x4096x256 .bf16) (o : ℕ) (h : o = o / 256 * 256) (inb) :
    View.ld (Val := Elt Ideal) (e' := .bf16) (S := S1x4096x256) X (Rect.unit ![0, o, 0] ![1, 256, 256] inb) = keyRows X (o / 256) :=
  key_load X _ _ (by rw [← h]) inb

theorem value_at (X : FVec Ideal S1x4096x128 .bf16) (o : ℕ) (h : o = o / 256 * 256) (inb) :
    View.ld (Val := Elt Ideal) (e' := .bf16) (S := S1x4096x128) X (Rect.unit ![0, o, 0] ![1, 256, 128] inb) = valueRows X (o / 256) :=
  value_load X _ _ (by rw [← h]) inb

/-- The query scratch, read at the slot of a turn. -/
theorem slot_load (A B : FVec Ideal S1x256x256 .bf16) (i : grid2.Coords) (w : BitVec 32) (hw : w.toNat < 7) (inb1) (inb0) (inb) :
    View.ld (Val := Elt Ideal) (e' := .bf16) (S := S2x256x256) (View.canon (s := S2x256x256) [⟨Rect.unit ![1, 0, 0] ![1, 256, 256] inb1, B⟩, ⟨Rect.unit ![0, 0, 0] ![1, 256, 256] inb0, A⟩])
      (Rect.unit (k2_off3 i w) ![1, 256, 256] inb) = if w.toNat < (i 2).val then A else B := by
  have hoff : k2_off3 i w = ![if (i 2).val > w.toNat then 0 else 1, 0, 0] := by
    have := k2_off3_eq i ⟨w.toNat, hw⟩
    simpa using this
  split
  · rename_i hlt
    rw [if_pos hlt] at hoff
    generalize k2_off3 i w = off at hoff inb
    subst hoff
    funext j
    show View.canon (Val := Elt Ideal) (e := .bf16) _ ((Rect.unit (s := S2x256x256) ![0, 0, 0] ![1, 256, 256] inb0).emb j) = A j
    have hn : (Rect.unit (s := S2x256x256) ![0, 0, 0] ![1, 256, 256] inb0).emb j ∉ (Rect.unit (s := S2x256x256) ![1, 0, 0] ![1, 256, 256] inb1).set := by
      intro hm
      have h0 : (j 0).val < 1 := (j 0).isLt
      have h1 : 1 ≤ 0 + 1 * (j 0).val := (Rect.mem_set_unit.mp hm 0).1
      omega
    refine (View.canon_cons_of_not_mem (Val := Elt Ideal) (e := .bf16) ⟨Rect.unit (s := S2x256x256) ![1, 0, 0] ![1, 256, 256] inb1, B⟩ [⟨Rect.unit (s := S2x256x256) ![0, 0, 0] ![1, 256, 256] inb0, A⟩] hn).trans ?_
    exact View.canon_cons_emb (Val := Elt Ideal) (e := .bf16) (Rect.unit (s := S2x256x256) ![0, 0, 0] ![1, 256, 256] inb0) A [] j
  · rename_i hlt
    rw [if_neg hlt] at hoff
    generalize k2_off3 i w = off at hoff inb
    subst hoff
    funext j
    exact View.canon_cons_emb (Val := Elt Ideal) (e := .bf16) (Rect.unit (s := S2x256x256) ![1, 0, 0] ![1, 256, 256] inb1) B _ j

/-- A choice made on a turn's comparison. -/
theorem sel_turn {α : Type} (p : ℕ) (hp : p < 8) (w : BitVec 32) (hw : w.toNat < 7) (a b : α) :
    Scalar.select (Scalar.cmpi .sgt (BitVec.ofNat 32 p) w) a b = if w.toNat < p then a else b := by
  have key : ∀ p : Fin 8, ∀ r : Fin 7, Scalar.cmpi .sgt (BitVec.ofNat 32 p.val) (BitVec.ofNat 32 r.val) = BitVec.ofBool (decide (r.val < p.val)) := by decide +kernel
  have := key ⟨p, hp⟩ ⟨w.toNat, hw⟩
  simp only [BitVec.ofNat_toNat, BitVec.setWidth_eq] at this
  rw [this, Scalar.select_decide]

end Cert.KernelIdeal.Moba

end
-- ==== Proof.Tile.lean ====
/- One tile of queries against all the blocks of keys: the calls' turns put together. -/
module

public import proofs.«01_k».proof.Proof.Loads

@[expose] public section

set_option maxRecDepth 16384

noncomputable section

namespace Cert.KernelIdeal.Moba

open Idealize.ShloMosaic Idealize.ShloMosaic.TcCoe Idealize.SL.Sem
open Cert.KernelIdeal Cert.KernelIdeal.Gen Cert.Moba

/-- The scores of query tile `T` against key block `n`: earlier blocks whole, the tile's own below its diagonal, later ones nothing. -/
def tileScore (Q : FVec Ideal S1x256x256 .bf16) (K : FVec Ideal S1x4096x256 .bf16) (T n : ℕ) : FVec Ideal S256x256 .f32 :=
  if n < T then raw Q (keyRows K n) else if n = T then addf (raw Q (keyRows K n)) (k2_pay5 (F := Ideal)) else fun _ => (⊥ : EReal)

/-- The largest score of a row over all the blocks. -/
def tileBest (Q : FVec Ideal S1x256x256 .bf16) (K : FVec Ideal S1x4096x256 .bf16) (T : ℕ) (r : Fin 256) : EReal :=
  Finset.univ.sup fun n : Fin 16 => best (tileScore Q K T n.val) r

/-- One tile's attention at an entry. -/
def tileOut (Q : FVec Ideal S1x256x256 .bf16) (K : FVec Ideal S1x4096x256 .bf16) (W : FVec Ideal S1x4096x128 .bf16) (T : ℕ) (r : Fin 256) (d : Fin 128) : EReal :=
  Ideal.div (∑ n : Fin 16, num (tileBest Q K T r) (tileScore Q K T n.val) (valueRows W n.val) r d)
    (∑ n : Fin 16, den (tileBest Q K T r) (tileScore Q K T n.val) r)

/-- The lanes of a row added up. -/
def lanes (x : FVec Ideal S256x128 .f32) (r : Fin 256) : EReal := ∑ l : Fin 128, (x (ix2 r l) : EReal)

theorem lanes_add (x y : FVec Ideal S256x128 .f32) (r : Fin 256) : lanes (addf x y) r = lanes x r + lanes y r := by
  unfold lanes
  rw [← Finset.sum_add_distrib]
  rfl

theorem lanes_both (v : FVec Ideal S256x128 .f32) (s : FVec Ideal S256x256 .f32) (r : Fin 256) : lanes (both (weight (rowMax v) s)) r = den (top v r) s r :=
  sum_both v s r

theorem add_at (x y : FVec Ideal S256x128 .f32) (j : S256x128.Idx) : addf x y j = (x j : EReal) + y j := rfl

theorem lanes_zero (r : Fin 256) : lanes (broadcast S256x128 (FloatOps.ofBits (F := Ideal) FTy.f32 0#32)) r = 0 := by
  unfold lanes
  refine Finset.sum_eq_zero fun l _ => ?_
  pointwise

theorem zero_at (j : S256x128.Idx) : broadcast S256x128 (FloatOps.ofBits (F := Ideal) FTy.f32 0#32) j = (0 : EReal) := by
  pointwise

section turns

variable (A B : FVec Ideal S1x256x256 .bf16) (K : FVec Ideal S1x4096x256 .bf16) (W : FVec Ideal S1x4096x128 .bf16) (v0 v1 : FVec Ideal S256x128 .f32) (p w : ℕ) (r : Fin 256) (d : Fin 128)

theorem top_first : top (if w < p then half (raw (if w < p then A else B) (keyRows K (turn p w))) else broadcast S256x128 (Named.named (F := Ideal) Cert.KernelIdeal.κ "neg" (φ := .f32) 0xF149F2CA#32)) r
    = if w < p then best (raw A (keyRows K w)) r else ⊥ := by
  unfold turn
  split
  · rw [top_half]
  · exact top_neg r

theorem top_second : top (if w < p then broadcast S256x128 (Named.named (F := Ideal) Cert.KernelIdeal.κ "neg" (φ := .f32) 0xF149F2CA#32) else half (raw (if w < p then A else B) (keyRows K (turn p w)))) r
    = if w < p then ⊥ else best (raw B (keyRows K (8 + w - p))) r := by
  unfold turn
  split
  · exact top_neg r
  · rw [top_half]

theorem lanes_first : lanes (if w < p then both (weight (if w < p then rowMax v0 else rowMax v1) (raw (if w < p then A else B) (keyRows K (turn p w)))) else broadcast S256x128 (FloatOps.ofBits (F := Ideal) FTy.f32 0#32)) r
    = if w < p then den (top v0 r) (raw A (keyRows K w)) r else 0 := by
  unfold turn
  split
  · rw [lanes_both]
  · exact lanes_zero r

theorem lanes_second : lanes (if w < p then broadcast S256x128 (FloatOps.ofBits (F := Ideal) FTy.f32 0#32) else both (weight (if w < p then rowMax v0 else rowMax v1) (raw (if w < p then A else B) (keyRows K (turn p w))))) r
    = if w < p then 0 else den (top v1 r) (raw B (keyRows K (8 + w - p))) r := by
  unfold turn
  split
  · exact lanes_zero r
  · rw [lanes_both]

theorem sum_first : (if w < p then apply (weight (if w < p then rowMax v0 else rowMax v1) (raw (if w < p then A else B) (keyRows K (turn p w)))) (valueRows W (turn p w)) else broadcast S256x128 (FloatOps.ofBits (F := Ideal) FTy.f32 0#32)) (ix2 r d)
    = if w < p then num (top v0 r) (raw A (keyRows K w)) (valueRows W w) r d else 0 := by
  unfold turn
  split
  · rw [apply_weight]
  · exact zero_at _

theorem sum_second : (if w < p then broadcast S256x128 (FloatOps.ofBits (F := Ideal) FTy.f32 0#32) else apply (weight (if w < p then rowMax v0 else rowMax v1) (raw (if w < p then A else B) (keyRows K (turn p w)))) (valueRows W (turn p w))) (ix2 r d)
    = if w < p then 0 else num (top v1 r) (raw B (keyRows K (8 + w - p))) (valueRows W (8 + w - p)) r d := by
  unfold turn
  split
  · exact zero_at _
  · rw [apply_weight]

theorem sum_last : (if w < p then (fun _ => (0 : EReal)) else apply (weight (if w < p then rowMax v0 else rowMax v1) (raw (if w < p then A else B) (keyRows K (turn p w)))) (valueRows W (turn p w))) (ix2 r d)
    = if w < p then 0 else num (top v1 r) (raw B (keyRows K (8 + w - p))) (valueRows W (8 + w - p)) r d := by
  unfold turn
  split
  · rfl
  · rw [apply_weight]

end turns

/-- The first tile's turns, added up. -/
theorem gather_first (f : ℕ → EReal) (own : EReal) (p : ℕ) (hp : p < 8) :
    own + (if 0 < p then f 0 else 0) + (if 1 < p then f 1 else 0) + (if 2 < p then f 2 else 0) + (if 3 < p then f 3 else 0) + (if 4 < p then f 4 else 0)
      + (if 5 < p then f 5 else 0) + (if 6 < p then f 6 else 0) = ∑ n : Fin 16, if n.val < p then f n.val else if n.val = p then own else 0 := by
  interval_cases p <;> simp [Fin.sum_univ_succ] <;> abel

set_option maxHeartbeats 1600000 in
/-- The second tile's turns, added up. -/
theorem gather_second (f : ℕ → EReal) (own : EReal) (p : ℕ) (hp : p < 8) :
    own + f 0 + f 1 + f 2 + f 3 + f 4 + f 5 + f 6 + f 7 + (if 0 < p then 0 else f (8 + 0 - p)) + (if 1 < p then 0 else f (8 + 1 - p)) + (if 2 < p then 0 else f (8 + 2 - p)) + (if 3 < p then 0 else f (8 + 3 - p))
      + (if 4 < p then 0 else f (8 + 4 - p)) + (if 5 < p then 0 else f (8 + 5 - p)) + (if 6 < p then 0 else f (8 + 6 - p))
      = ∑ n : Fin 16, if n.val < 15 - p then f n.val else if n.val = 15 - p then own else 0 := by
  interval_cases p <;> simp [Fin.sum_univ_succ] <;> abel

set_option maxHeartbeats 1600000 in
/-- The first tile's maxima, put together. -/
theorem largest_first (f : ℕ → EReal) (own : EReal) (p : ℕ) (hp : p < 8) :
    own ⊔ (if 0 < p then f 0 else ⊥) ⊔ (if 1 < p then f 1 else ⊥) ⊔ (if 2 < p then f 2 else ⊥) ⊔ (if 3 < p then f 3 else ⊥) ⊔ (if 4 < p then f 4 else ⊥)
      ⊔ (if 5 < p then f 5 else ⊥) ⊔ (if 6 < p then f 6 else ⊥) = Finset.univ.sup fun n : Fin 16 => if n.val < p then f n.val else if n.val = p then own else ⊥ := by
  interval_cases p <;> simp [Fin.univ_succ, Finset.sup_image, Finset.sup_map, Finset.sup_insert, Function.comp_def] <;> ac_rfl

set_option maxHeartbeats 1600000 in
/-- The second tile's maxima, put together. -/
theorem largest_second (f : ℕ → EReal) (own : EReal) (p : ℕ) (hp : p < 8) :
    own ⊔ f 0 ⊔ f 1 ⊔ f 2 ⊔ f 3 ⊔ f 4 ⊔ f 5 ⊔ f 6 ⊔ f 7 ⊔ (if 0 < p then ⊥ else f (8 + 0 - p)) ⊔ (if 1 < p then ⊥ else f (8 + 1 - p)) ⊔ (if 2 < p then ⊥ else f (8 + 2 - p)) ⊔ (if 3 < p then ⊥ else f (8 + 3 - p))
      ⊔ (if 4 < p then ⊥ else f (8 + 4 - p)) ⊔ (if 5 < p then ⊥ else f (8 + 5 - p)) ⊔ (if 6 < p then ⊥ else f (8 + 6 - p))
      = Finset.univ.sup fun n : Fin 16 => if n.val < 15 - p then f n.val else if n.val = 15 - p then own else ⊥ := by
  interval_cases p <;> simp [Fin.univ_succ, Finset.sup_image, Finset.sup_map, Finset.sup_insert, Function.comp_def] <;> ac_rfl

section pieces

variable (Q : FVec Ideal S1x256x256 .bf16) (K : FVec Ideal S1x4096x256 .bf16) (W : FVec Ideal S1x4096x128 .bf16) (T n : ℕ) (M : EReal) (r : Fin 256) (d : Fin 128)

theorem best_tile : best (tileScore Q K T n) r = if n < T then best (raw Q (keyRows K n)) r else if n = T then best (addf (raw Q (keyRows K T)) (k2_pay5 (F := Ideal))) r else ⊥ := by
  unfold tileScore
  split
  · rfl
  · split
    · rename_i h; rw [h]
    · exact best_bot r

theorem num_tile : num M (tileScore Q K T n) (valueRows W n) r d = if n < T then num M (raw Q (keyRows K n)) (valueRows W n) r d
    else if n = T then num M (addf (raw Q (keyRows K T)) (k2_pay5 (F := Ideal))) (valueRows W T) r d else 0 := by
  unfold tileScore
  split
  · rfl
  · split
    · rename_i h; rw [h]
    · exact num_bot M _ r d

theorem den_tile : den M (tileScore Q K T n) r = if n < T then den M (raw Q (keyRows K n)) r
    else if n = T then den M (addf (raw Q (keyRows K T)) (k2_pay5 (F := Ideal))) r else 0 := by
  unfold tileScore
  split
  · rfl
  · split
    · rename_i h; rw [h]
    · exact den_bot M r

end pieces

end Cert.KernelIdeal.Moba

end
-- ==== Proof.Attn.lean ====
/- The third call's two arrays: each tile of queries against the blocks of keys. -/
module

public import proofs.«01_k».proof.Proof.Tile

@[expose] public section

set_option maxRecDepth 16384

noncomputable section

namespace Cert.KernelIdeal.Moba

open Idealize.ShloMosaic Idealize.ShloMosaic.TcCoe Idealize.SL.Sem
open Idealize.ShloMosaic.Pipeline (Dat)
open Cert.KernelIdeal Cert.KernelIdeal.Gen Cert.Moba

variable (V : (c : Dev nD) → (b : Ref sig .tc) → Buf (Elt Ideal) ((c : Thread nD τ).loc b))

/-- The larger of two halves. -/
theorem half_fold (s : FVec Ideal S256x256 .f32) : maximumf (extractStridedSlice S256x128 ![0, 0] s slices_S256x256_o0_0_S256x128) (extractStridedSlice S256x128 ![0, 128] s slices_S256x256_o0_128_S256x128) = half s := rfl

theorem both_fold (p : FVec Ideal S256x256 .f32) : addf (extractStridedSlice S256x128 ![0, 0] p slices_S256x256_o0_0_S256x128) (extractStridedSlice S256x128 ![0, 128] p slices_S256x256_o0_128_S256x128) = both p := rfl

theorem apply_fold (p : FVec Ideal S256x256 .f32) (v : FVec Ideal S1x256x128 .bf16) :
    matmul dot_S256x256_S256x128_S256x128_1_0_0_1_n_n none (truncf .bf16 p bitsLt_bf16_f32) (shapeCast S256x128 v shapeCasts_S1x256x128_S256x128) (constant S256x128 .f32 0x00000000#32) = apply p v := rfl

theorem raw_fold (q k : FVec Ideal S1x256x256 .bf16) :
    matmul dot_S256x256_S256x256_S256x256_1_1_0_0_n_n none (shapeCast S256x256 q shapeCasts_S1x256x256_S256x256) (shapeCast S256x256 k shapeCasts_S1x256x256_S256x256) (constant (F := Ideal) S256x256 .f32 0x00000000#32) = raw q k := rfl

theorem rowMax_fold (v : FVec Ideal S256x128 .f32) : broadcastTo S256x128 (shapeCast S256x1 (shapeCast S256x1 (multiReduction .maximumf [1] S256 v 0xFF800000#32 reduces_S256x128_S256 (.inl rfl) rfl) shapeCasts_S256_S256x1) shapeCasts_S256x1_S256x1) broadcasts_S256x1_S256x128 = rowMax v := rfl

theorem weight_fold (m : FVec Ideal S256x128 .f32) (s : FVec Ideal S256x256 .f32) :
    concatenate S256x256 1 [⟨S256x128, exp2 (subf (extractStridedSlice S256x128 ![0, 0] s slices_S256x256_o0_0_S256x128) m)⟩,
      ⟨S256x128, exp2 (subf (extractStridedSlice S256x128 ![0, 128] s slices_S256x256_o0_128_S256x128) m)⟩] concatenates_S256x128_S256x128_S256x256_d1 = weight m s := by
  unfold weight k2_pay91 k2_pay90 k2_pay89 k2_pay21
  dsimp only
  rw [down_up]

/-- The first tile's row maxima. -/
theorem tops0 (a : BitVec 32) (m : FVec Ideal S256x128 .f32) (q k : FVec Ideal S1x256x256 .bf16) :
    k2_pay64 a m q k = rowMax (maximumf m (Scalar.select (Scalar.cmpi .sgt a 6#32) (half (raw q k)) (broadcast S256x128 (Named.named (F := Ideal) Cert.KernelIdeal.κ "neg" (φ := .f32) 0xF149F2CA#32)))) := rfl

/-- The second tile's row maxima. -/
theorem tops1 (a : BitVec 32) (m m' : FVec Ideal S256x128 .f32) (q k : FVec Ideal S1x256x256 .bf16) :
    k2_pay65 a m m' q k = rowMax (maximumf (maximumf m m') (Scalar.select (Scalar.cmpi .sgt a 6#32) (broadcast S256x128 (Named.named (F := Ideal) Cert.KernelIdeal.κ "neg" (φ := .f32) 0xF149F2CA#32)) (half (raw q k)))) := rfl

/-- The first tile's block, at an entry. -/
theorem ratio0 (L a : FVec Ideal S256x128 .f32) (y : S1x256x128.Idx) :
    k2_pay1 L a y = Ideal.div (a (ix2 (y 1) (y 2))) (lanes L (y 1)) := by
  unfold lanes
  unfold_payloads
  pointwise

/-- The second tile's block, at an entry. -/
theorem ratio1 (a : FVec Ideal S256x128 .f32) (b : BitVec 1) (z L : FVec Ideal S256x128 .f32) (y : S1x256x128.Idx) :
    k2_pay2 a b z L y = Ideal.div ((a (ix2 (y 1) (y 2)) : EReal) + Scalar.select b (fun _ => (0 : EReal)) z (ix2 (y 1) (y 2))) (lanes L (y 1)) := by
  unfold lanes
  unfold_payloads
  pointwise

/-- Where each window's block sits at a grid point. -/
theorem idx2 : ∀ t : Fin cfg2.N, (grid2.coords t 2).val = t.val % 8
    ∧ win2_0.index t = ![t.val / 64, t.val % 8, t.val / 8 % 8] ∧ win2_1.index t = ![t.val / 64, 15 - t.val % 8, t.val / 8 % 8]
    ∧ win2_2.index t = ![t.val / 64, 0, t.val / 8 % 8] ∧ win2_3.index t = ![t.val / 64, 0, t.val / 8 % 8]
    ∧ win2_4.index t = ![t.val / 64, t.val % 8, t.val / 8 % 8] ∧ win2_5.index t = ![t.val / 64, 7 - t.val % 8, t.val / 8 % 8] :=
  (by decide +kernel : ∀ t : Fin grid2.N, _)

/-- Tile `T` of one head's queries. -/
def queryTile (Q : FVec Ideal S4x4096x2048 .bf16) (b h T : ℕ) : FVec Ideal S1x256x256 .bf16 := fun j =>
  Q (ix3 ⟨b % 4, by omega⟩ ⟨(T * 256 + (j 1).val) % 4096, by omega⟩ ⟨(h * 256 + (j 2).val) % 2048, by omega⟩)

/-- One head's keys. -/
def keyCols (K : FVec Ideal S4x4096x2048 .bf16) (b h : ℕ) : FVec Ideal S1x4096x256 .bf16 := fun j =>
  K (ix3 ⟨b % 4, by omega⟩ (j 1) ⟨(h * 256 + (j 2).val) % 2048, by omega⟩)

/-- One head's values. -/
def valueCols (W : FVec Ideal S4x4096x5120 .bf16) (b h : ℕ) : FVec Ideal S1x4096x128 .bf16 := fun j =>
  W (ix3 ⟨b % 4, by omega⟩ (j 1) ⟨(h * 128 + (j 2).val) % 5120, by omega⟩)

/-- A half of the sequence, from its first tile on. -/
def attArray (Q K : FVec Ideal S4x4096x2048 .bf16) (W : FVec Ideal S4x4096x5120 .bf16) (T0 : ℕ) : FVec Ideal S4x2048x1024 .bf16 := fun i =>
  tileOut (queryTile Q (i 0).val ((i 2).val / 128) (T0 + (i 1).val / 256)) (keyCols K (i 0).val ((i 2).val / 128)) (valueCols W (i 0).val ((i 2).val / 128))
    (T0 + (i 1).val / 256) ⟨(i 1).val % 256, by omega⟩ ⟨(i 2).val % 128, by omega⟩

theorem block0 (c : Dev nD) (t : Fin cfg2.N) : iblk2 V c 0 t = queryTile (V c main_v10) (t.val / 64) (t.val / 8 % 8) (t.val % 8) := by
  have : t.val < 256 := t.isLt
  funext j
  unfold queryTile
  blk_ext [iblk2, idx2 t]

theorem block1 (c : Dev nD) (t : Fin cfg2.N) : iblk2 V c 1 t = queryTile (V c main_v10) (t.val / 64) (t.val / 8 % 8) (15 - t.val % 8) := by
  have : t.val < 256 := t.isLt
  funext j
  unfold queryTile
  blk_ext [iblk2, idx2 t]

theorem block2 (c : Dev nD) (t : Fin cfg2.N) : iblk2 V c 2 t = keyCols (V c main_v9_1) (t.val / 64) (t.val / 8 % 8) := by
  have : t.val < 256 := t.isLt
  funext j
  unfold keyCols
  blk_ext [iblk2, idx2 t]

theorem block3 (c : Dev nD) (t : Fin cfg2.N) : iblk2 V c 3 t = valueCols (V c main_arg1) (t.val / 64) (t.val / 8 % 8) := by
  have : t.val < 256 := t.isLt
  funext j
  unfold valueCols
  blk_ext [iblk2, idx2 t]

theorem best_first (A : FVec Ideal S1x256x256 .bf16) (K : FVec Ideal S1x4096x256 .bf16) (r : Fin 256) (p : ℕ) (hp : p < 8) :
    best (addf (raw A (keyRows K p)) (k2_pay5 (F := Ideal))) r ⊔ (if 0 < p then best (raw A (keyRows K 0)) r else ⊥) ⊔ (if 1 < p then best (raw A (keyRows K 1)) r else ⊥)
      ⊔ (if 2 < p then best (raw A (keyRows K 2)) r else ⊥) ⊔ (if 3 < p then best (raw A (keyRows K 3)) r else ⊥) ⊔ (if 4 < p then best (raw A (keyRows K 4)) r else ⊥)
      ⊔ (if 5 < p then best (raw A (keyRows K 5)) r else ⊥) ⊔ (if 6 < p then best (raw A (keyRows K 6)) r else ⊥) = tileBest A K p r := by
  unfold tileBest
  simp only [best_tile]
  exact largest_first (fun n => best (raw A (keyRows K n)) r) _ p hp

theorem best_second (B : FVec Ideal S1x256x256 .bf16) (K : FVec Ideal S1x4096x256 .bf16) (r : Fin 256) (p : ℕ) (hp : p < 8) :
    best (addf (raw B (keyRows K (15 - p))) (k2_pay5 (F := Ideal))) r ⊔ best (raw B (keyRows K 0)) r ⊔ best (raw B (keyRows K 1)) r ⊔ best (raw B (keyRows K 2)) r ⊔ best (raw B (keyRows K 3)) r
      ⊔ best (raw B (keyRows K 4)) r ⊔ best (raw B (keyRows K 5)) r ⊔ best (raw B (keyRows K 6)) r ⊔ best (raw B (keyRows K 7)) r
      ⊔ (if 0 < p then ⊥ else best (raw B (keyRows K (8 + 0 - p))) r) ⊔ (if 1 < p then ⊥ else best (raw B (keyRows K (8 + 1 - p))) r)
      ⊔ (if 2 < p then ⊥ else best (raw B (keyRows K (8 + 2 - p))) r) ⊔ (if 3 < p then ⊥ else best (raw B (keyRows K (8 + 3 - p))) r) ⊔ (if 4 < p then ⊥ else best (raw B (keyRows K (8 + 4 - p))) r)
      ⊔ (if 5 < p then ⊥ else best (raw B (keyRows K (8 + 5 - p))) r) ⊔ (if 6 < p then ⊥ else best (raw B (keyRows K (8 + 6 - p))) r) = tileBest B K (15 - p) r := by
  unfold tileBest
  simp only [best_tile]
  exact largest_second (fun n => best (raw B (keyRows K n)) r) _ p hp

set_option maxHeartbeats 1600000 in
/-- One point's block of window 4. -/
theorem tile_first (c : Dev nD) (t : Fin cfg2.N) (r : Fin 256) (d : Fin 128) (y : S1x256x128.Idx) (h1 : y 1 = r) (h2 : y 2 = d) :
    (dat2 V c).after 4 t y = tileOut (iblk2 V c 0 t) (iblk2 V c 2 t) (iblk2 V c 3 t) ((grid2.coords t 2).val) r d := by
  rw [after2_4]; unfold outsAt2; dsimp only; unfold out2_A_4; frame_out
  simp (disch := decide) only [↓ View.readCov_skip, ↓ View.readCov_cons_toLoadRect, ↓ View.readCov_fill]
  generalize iblk2 V c 0 t = A
  generalize iblk2 V c 1 t = B
  generalize iblk2 V c 2 t = K
  generalize iblk2 V c 3 t = W
  set_option backward.isDefEq.respectTransparency false in
  simp (disch := first | decide | rfl) only [slot_load, key_turn, value_turn, key_own, key_far, value_own, value_far, key_at, value_at]
  have hp : (grid2.coords t 2).val < 8 := (grid2.coords t 2).isLt
  generalize (grid2.coords t 2).val = p at hp
  rw [ratio0, h1, h2]
  simp only [k2_pay3, k2_pay4, k2_pay6, k2_pay7, k2_pay8, k2_pay9, k2_pay10, k2_pay11, k2_pay12, k2_pay13, k2_pay14, k2_pay15, k2_pay16, k2_pay17, k2_pay18, k2_pay19, k2_pay20, k2_pay21, k2_pay22, k2_pay23, k2_pay24, k2_pay25, k2_pay26, k2_pay27, k2_pay28, k2_pay29, k2_pay30, k2_pay31, k2_pay32, k2_pay33, k2_pay34, k2_pay35, k2_pay36, k2_pay37, k2_pay38, k2_pay39, k2_pay40, k2_pay41, k2_pay42, k2_pay43, k2_pay44, k2_pay45, k2_pay46, k2_pay47, k2_pay48, k2_pay49, k2_pay50, k2_pay51, k2_pay52, k2_pay53, k2_pay54, k2_pay55, k2_pay56, k2_pay57, k2_pay58, k2_pay59, k2_pay60, k2_pay61, k2_pay62, k2_pay63, k2_pay66, k2_pay67, k2_pay68, k2_pay69, k2_pay70, k2_pay71, k2_pay72, k2_pay73, k2_pay74, k2_pay75, k2_pay76, k2_pay77, k2_pay78, k2_pay79, k2_pay80, k2_pay81, k2_pay82, k2_pay83, k2_pay84, k2_pay85, k2_pay86, k2_pay87, k2_pay88, k2_pay89, k2_pay90, k2_pay91, k2_pay92, k2_pay93, k2_pay94, k2_pay95, k2_pay96, k2_pay97, k2_pay98, k2_pay99, k2_pay100, k2_pay101, k2_pay102, k2_pay103, k2_pay104, k2_pay105, k2_pay106, k2_pay107, k2_pay108, k2_pay109, k2_pay110, k2_pay111, k2_pay112, k2_pay113, k2_pay114, k2_pay115, k2_pay116, k2_pay117, k2_pay118, k2_pay119, k2_pay120, k2_pay121, k2_pay122, k2_pay123, k2_pay124, k2_pay125, k2_pay126, k2_pay127, k2_pay128, k2_pay129, k2_pay130, k2_pay131, k2_pay132, k2_pay133, k2_pay134, k2_pay135, k2_pay136, k2_pay137, k2_pay138, k2_pay139]
  simp only [tops0, tops1, half_fold, both_fold, apply_fold, raw_fold, rowMax_fold]
  repeat rw [up_down]
  repeat rw [down_up]
  simp only [weight_fold]
  try simp only [both_fold, apply_fold]
  simp (disch := first | exact hp | decide) only [sel_turn]
  simp only [show (0#32).toNat = 0 from rfl, show (1#32).toNat = 1 from rfl, show (2#32).toNat = 2 from rfl, show (3#32).toNat = 3 from rfl, show (4#32).toNat = 4 from rfl,
    show (5#32).toNat = 5 from rfl, show (6#32).toNat = 6 from rfl, show 0 / 256 = 0 from rfl, show 256 / 256 = 1 from rfl, show 512 / 256 = 2 from rfl, show 768 / 256 = 3 from rfl,
    show 1024 / 256 = 4 from rfl, show 1280 / 256 = 5 from rfl, show 1536 / 256 = 6 from rfl, show 1792 / 256 = 7 from rfl]
  simp only [lanes_add, add_at, lanes_first, sum_first, lanes_both, apply_weight, top_max, top_first, top_half]
  rw [best_first A K r p hp]
  unfold tileOut
  simp only [num_tile, den_tile]
  exact congr (congrArg Ideal.div (gather_first (fun n => num (tileBest A K p r) (raw A (keyRows K n)) (valueRows W n) r d) _ p hp))
    (gather_first (fun n => den (tileBest A K p r) (raw A (keyRows K n)) r) _ p hp)

set_option maxHeartbeats 1600000 in
/-- One point's block of window 5. -/
theorem tile_second (c : Dev nD) (t : Fin cfg2.N) (r : Fin 256) (d : Fin 128) (y : S1x256x128.Idx) (h1 : y 1 = r) (h2 : y 2 = d) :
    (dat2 V c).after 5 t y = tileOut (iblk2 V c 1 t) (iblk2 V c 2 t) (iblk2 V c 3 t) (15 - (grid2.coords t 2).val) r d := by
  rw [after2_5]; unfold outsAt2; dsimp only; unfold out2_A_5; frame_out
  simp (disch := decide) only [↓ View.readCov_skip, ↓ View.readCov_cons_toLoadRect, ↓ View.readCov_fill]
  generalize iblk2 V c 0 t = A
  generalize iblk2 V c 1 t = B
  generalize iblk2 V c 2 t = K
  generalize iblk2 V c 3 t = W
  set_option backward.isDefEq.respectTransparency false in
  simp (disch := first | decide | rfl) only [slot_load, key_turn, value_turn, key_own, key_far, value_own, value_far, key_at, value_at]
  have hp : (grid2.coords t 2).val < 8 := (grid2.coords t 2).isLt
  generalize (grid2.coords t 2).val = p at hp
  rw [ratio1, h1, h2]
  simp only [k2_pay3, k2_pay4, k2_pay6, k2_pay7, k2_pay8, k2_pay9, k2_pay10, k2_pay11, k2_pay12, k2_pay13, k2_pay14, k2_pay15, k2_pay16, k2_pay17, k2_pay18, k2_pay19, k2_pay20, k2_pay21, k2_pay22, k2_pay23, k2_pay24, k2_pay25, k2_pay26, k2_pay27, k2_pay28, k2_pay29, k2_pay30, k2_pay31, k2_pay32, k2_pay33, k2_pay34, k2_pay35, k2_pay36, k2_pay37, k2_pay38, k2_pay39, k2_pay40, k2_pay41, k2_pay42, k2_pay43, k2_pay44, k2_pay45, k2_pay46, k2_pay47, k2_pay48, k2_pay49, k2_pay50, k2_pay51, k2_pay52, k2_pay53, k2_pay54, k2_pay55, k2_pay56, k2_pay57, k2_pay58, k2_pay59, k2_pay60, k2_pay61, k2_pay62, k2_pay63, k2_pay66, k2_pay67, k2_pay68, k2_pay69, k2_pay70, k2_pay71, k2_pay72, k2_pay73, k2_pay74, k2_pay75, k2_pay76, k2_pay77, k2_pay78, k2_pay79, k2_pay80, k2_pay81, k2_pay82, k2_pay83, k2_pay84, k2_pay85, k2_pay86, k2_pay87, k2_pay88, k2_pay89, k2_pay90, k2_pay91, k2_pay92, k2_pay93, k2_pay94, k2_pay95, k2_pay96, k2_pay97, k2_pay98, k2_pay99, k2_pay100, k2_pay101, k2_pay102, k2_pay103, k2_pay104, k2_pay105, k2_pay106, k2_pay107, k2_pay108, k2_pay109, k2_pay110, k2_pay111, k2_pay112, k2_pay113, k2_pay114, k2_pay115, k2_pay116, k2_pay117, k2_pay118, k2_pay119, k2_pay120, k2_pay121, k2_pay122, k2_pay123, k2_pay124, k2_pay125, k2_pay126, k2_pay127, k2_pay128, k2_pay129, k2_pay130, k2_pay131, k2_pay132, k2_pay133, k2_pay134, k2_pay135, k2_pay136, k2_pay137, k2_pay138, k2_pay139]
  simp only [tops0, tops1, half_fold, both_fold, apply_fold, raw_fold, rowMax_fold]
  repeat rw [up_down]
  repeat rw [down_up]
  simp only [weight_fold]
  try simp only [both_fold, apply_fold]
  simp (disch := first | exact hp | decide) only [sel_turn]
  simp only [show (0#32).toNat = 0 from rfl, show (1#32).toNat = 1 from rfl, show (2#32).toNat = 2 from rfl, show (3#32).toNat = 3 from rfl, show (4#32).toNat = 4 from rfl,
    show (5#32).toNat = 5 from rfl, show (6#32).toNat = 6 from rfl, show 0 / 256 = 0 from rfl, show 256 / 256 = 1 from rfl, show 512 / 256 = 2 from rfl, show 768 / 256 = 3 from rfl,
    show 1024 / 256 = 4 from rfl, show 1280 / 256 = 5 from rfl, show 1536 / 256 = 6 from rfl, show 1792 / 256 = 7 from rfl]
  simp only [lanes_add, add_at, lanes_second, sum_second, sum_last, lanes_both, apply_weight, top_max, top_second, top_half]
  rw [best_second B K r p hp]
  unfold tileOut
  simp only [num_tile, den_tile]
  exact congr (congrArg Ideal.div (gather_second (fun n => num (tileBest B K (15 - p) r) (raw B (keyRows K n)) (valueRows W n) r d) _ p hp))
    (gather_second (fun n => den (tileBest B K (15 - p) r) (raw B (keyRows K n)) r) _ p hp)

end Cert.KernelIdeal.Moba

end
-- ==== Proof.Attns.lean ====
/- The third call's two arrays, whole. -/
module

public import proofs.«01_k».proof.Proof.Attn

@[expose] public section

set_option maxRecDepth 16384

noncomputable section

namespace Cert.KernelIdeal.Moba

open Idealize.ShloMosaic Idealize.ShloMosaic.TcCoe Idealize.SL.Sem
open Idealize.ShloMosaic.Pipeline (Dat)
open Cert.KernelIdeal Cert.KernelIdeal.Gen Cert.Moba

variable (V : (c : Dev nD) → (b : Ref sig .tc) → Buf (Elt Ideal) ((c : Thread nD τ).loc b))

/-- An entry of a half's array, by its place in a tile. -/
theorem attArray_at (Q K : FVec Ideal S4x4096x2048 .bf16) (W : FVec Ideal S4x4096x5120 .bf16) (T0 b h T : ℕ) (i : S4x2048x1024.Idx) (r : Fin 256) (d : Fin 128)
    (h0 : (i 0).val = b) (h1 : T0 + (i 1).val / 256 = T) (h2 : (i 2).val / 128 = h) (hr : (i 1).val % 256 = r.val) (hd : (i 2).val % 128 = d.val) :
    attArray Q K W T0 i = tileOut (queryTile Q b h T) (keyCols K b h) (valueCols W b h) T r d := by
  unfold attArray
  subst h0 h1 h2
  congr 1 <;> exact Fin.ext (by assumption)

theorem front (c : Dev nD) : (dat2 V c).arrAt 4 cfg2.N = attArray (V c main_v10) (V c main_v9_1) (V c main_arg1) 0 := by
  refine (dat2 V c).arrAt_eq_of_covers 4 _ (by decide +kernel) fun t hf y => ?_
  have ht : t.val < 256 := t.isLt
  have y0 : (y 0).val < 1 := (y 0).isLt
  have y1 : (y 1).val < 256 := (y 1).isLt
  have y2 : (y 2).val < 128 := (y 2).isLt
  refine (tile_first V c t ⟨(y 1).val, y1⟩ ⟨(y 2).val, y2⟩ y rfl rfl).trans ?_
  rw [block0, block2, block3, (idx2 t).1]
  refine (attArray_at _ _ _ 0 (t.val / 64) (t.val / 8 % 8) (t.val % 8) _ _ _ ?_ ?_ ?_ ?_ ?_).symm <;> blk_simp [idx2 t] <;> (try dsimp only) <;> omega

theorem back (c : Dev nD) : (dat2 V c).arrAt 5 cfg2.N = attArray (V c main_v10) (V c main_v9_1) (V c main_arg1) 8 := by
  refine (dat2 V c).arrAt_eq_of_covers 5 _ (by decide +kernel) fun t hf y => ?_
  have ht : t.val < 256 := t.isLt
  have y0 : (y 0).val < 1 := (y 0).isLt
  have y1 : (y 1).val < 256 := (y 1).isLt
  have y2 : (y 2).val < 128 := (y 2).isLt
  refine (tile_second V c t ⟨(y 1).val, y1⟩ ⟨(y 2).val, y2⟩ y rfl rfl).trans ?_
  rw [block1, block2, block3, (idx2 t).1]
  refine (attArray_at _ _ _ 8 (t.val / 64) (t.val / 8 % 8) (15 - t.val % 8) _ _ _ ?_ ?_ ?_ ?_ ?_).symm <;> blk_simp [idx2 t] <;> (try dsimp only) <;> omega

end Cert.KernelIdeal.Moba

end
-- ==== Proof.PrepK.lean ====
/- The first call's keys and the mean key of each block. -/
module

public import proofs.«01_k».proof.Proof.Prep

@[expose] public section

set_option maxRecDepth 16384

noncomputable section

namespace Cert.KernelIdeal.Moba

open Idealize.ShloMosaic Idealize.ShloMosaic.TcCoe Idealize.SL.Sem
open Idealize.ShloMosaic.Pipeline (Dat)
open Cert.KernelIdeal Cert.KernelIdeal.Gen Cert.Moba

variable (V : (c : Dev nD) → (b : Ref sig .tc) → Buf (Elt Ideal) ((c : Thread nD τ).loc b))

set_option maxHeartbeats 1600000 in
/-- One point's mean keys are the array's entries where the block sits. -/
theorem means_at (c : Dev nD) (t : Fin cfg0.N) (y) : k0_pay5 (k0_pay6 (iblk0 V c 4 t)) (k0_pay7 (iblk0 V c 5 t)) (iblk0 V c 3 t) (k0_pay9 (iblk0 V c 1 t)) y
      = meanArray (V c main_arg0) (V c main_arg3) (V c main_v0) (V c main_v2) (((cfg0.win 9).blk t).view.emb y) := by
  unfold meanArray meanKey turned normed
  unfold_payloads
  pointwise
  blk_point [iblk0, idx0 t]

/-- The mean keys' array after the first call. -/
theorem means (c : Dev nD) : (dat0 V c).arrAt 9 cfg0.N
    = meanArray (V c main_arg0) (V c main_arg3) (V c main_v0) (V c main_v2) := by
  refine (dat0 V c).arrAt_eq_of_covers 9 _ (by decide +kernel) fun t hf y => ?_
  blk_simp
  rw [after0_9]; unfold_out out0_9; frame_out
  exact means_at V c t y

set_option maxHeartbeats 1600000 in
/-- One point's keys are the array's entries where the block sits. -/
theorem keys_at (c : Dev nD) (t : Fin cfg0.N) (y : S1x2048x128.Idx) : k0_pay3 (k0_pay6 (iblk0 V c 4 t)) (k0_pay7 (iblk0 V c 5 t)) (iblk0 V c 3 t) (k0_pay9 (iblk0 V c 1 t)) y
      = turned (V c main_arg0) (V c main_arg3) (V c main_v0) (V c main_v2) ⟨t.val / 16, by have : t.val < 64 := t.isLt; omega⟩
         ⟨t.val % 2 * 2048 + (y 1).val, by have : (y 1).val < 2048 := (y 1).isLt; omega⟩ ⟨8 + t.val / 2 % 8, by omega⟩ ⟨(y 2).val, (y 2).isLt⟩ := by
  unfold turned normed
  unfold_payloads
  pointwise
  blk_point [iblk0, idx0 t]

end Cert.KernelIdeal.Moba

end
-- ==== Proof.Keys.lean ====
/- The first call's array of keys. -/
module

public import proofs.«01_k».proof.Proof.PrepK

@[expose] public section

set_option maxRecDepth 16384

noncomputable section

namespace Cert.KernelIdeal.Moba

open Idealize.ShloMosaic Idealize.ShloMosaic.TcCoe Idealize.SL.Sem
open Idealize.ShloMosaic.Pipeline (Dat)
open Cert.KernelIdeal Cert.KernelIdeal.Gen Cert.Moba

variable (V : (c : Dev nD) → (b : Ref sig .tc) → Buf (Elt Ideal) ((c : Thread nD τ).loc b))

/-- The keys' array after the first call. -/
theorem keys (c : Dev nD) : (dat0 V c).arrAt 8 cfg0.N
    = keyArray (V c main_arg0) (V c main_arg3) (V c main_v0) (V c main_v2) (V c main_v8) := by
  refine (dat0 V c).arrAt_eq_of_covers 8 _ (by decide +kernel) fun t hf y => ?_
  blk_simp
  rw [after0_8]; unfold_out out0_8; frame_out
  canon_tiles x h
  · unfold keyArray
    unfold_payloads
    blk_simp [iblk0, idx0 t]
    pointwise [h0, h1, h2]
    rw [if_neg (by omega)]
    blk_ext [idx0 t]
  · rw [keys_at]
    unfold keyArray
    blk_simp [idx0 t]
    pointwise [h0, h1, h2]
    rw [if_pos (by omega)]
    refine congr (congr (congr (congrArg _ ?_) ?_) ?_) ?_ <;> apply Fin.ext <;> (try blk_simp [idx0 t]) <;> (try simp only [h0, h1]) <;> (try dsimp only) <;> omega

end Cert.KernelIdeal.Moba

end
-- ==== Proof.Host.lean ====
/- What the host operations before the first call leave: the two tables at full width and the block's name. -/
module

public import proofs.«01_k».proof.Proof.Attns
public import proofs.«01_k».proof.Proof.Keys
public import proofs.«01_k».proof.Proof.Run
public import Idealize.ShloMosaic.Lib.Claim

@[expose] public section

set_option maxRecDepth 16384

noncomputable section

namespace Cert.KernelIdeal.Moba

open Idealize.ShloMosaic Idealize.ShloMosaic.TcCoe Idealize.SL.Sem
open Idealize.ShloMosaic.Pipeline (Dat)
open Cert.KernelIdeal Cert.KernelIdeal.Gen Cert.Moba

variable (m : (ℓ : Loc nD τ sig) → Buf (Elt Ideal) ℓ) (ρ : Dev nD → PrngReg)

/-- A table written twice side by side. -/
def twice (C : FVec Ideal S4096x64 .f32) : FVec Ideal S4096x128 .f32 := fun i => C (ix2 (i 0) ⟨(i 1).val % 64, by omega⟩)
/-- A table's negative beside the table. -/
def signed (C : FVec Ideal S4096x64 .f32) : FVec Ideal S4096x128 .f32 := fun i =>
  if (i 1).val < 64 then -(C (ix2 (i 0) ⟨(i 1).val % 64, by omega⟩) : EReal) else C (ix2 (i 0) ⟨(i 1).val % 64, by omega⟩)
/-- A row's block, named by a one in its lane. -/
def named : FVec Ideal S4096x128 .bf16 := fun i => if (i 0).val / 256 = (i 1).val then (1 : EReal) else 0

theorem cosines (c : Dev nD) : V3 m ρ c main_v0 = twice (m ((c : Thread nD τ).loc main_arg4)) := by
  unfold_abbrev_sides
  after_results
  funext i
  have hi : (i 1).val < 128 := (i 1).isLt
  unfold twice
  pointwise
  split
  · exact congrArg (m ((c : Thread nD τ).loc main_arg4)) (congrArg (ix2 (i 0)) (Fin.ext (by dsimp only; omega)))
  · exact congrArg (m ((c : Thread nD τ).loc main_arg4)) (congrArg (ix2 (i 0)) (Fin.ext (by dsimp only; omega)))

theorem sines (c : Dev nD) : V3 m ρ c main_v2 = signed (m ((c : Thread nD τ).loc main_arg5)) := by
  unfold_abbrev_sides
  after_results
  funext i
  have hi : (i 1).val < 128 := (i 1).isLt
  unfold signed
  pointwise
  split
  · exact congrArg (fun x : EReal => -x) (congrArg (m ((c : Thread nD τ).loc main_arg5)) (congrArg (ix2 (i 0)) (Fin.ext (by dsimp only; omega))))
  · exact congrArg (m ((c : Thread nD τ).loc main_arg5)) (congrArg (ix2 (i 0)) (Fin.ext (by dsimp only; omega)))

/-- A position's block, as the host works it out. -/
theorem host_block : ∀ t : Fin 4096,
    Scalar.select
      (IntOp.andi
        (IntOp.cmpi CmpIPredicate.ne ((if BitVec.ofNat 32 t.val = 0 then 0 else if (BitVec.ofNat 32 t.val).msb = true then -1 else 1) : BitVec 32)
          (if 256#32 = 0 then 0 else if BitVec.msb 256#32 = true then -1 else 1))
        (IntOp.cmpi CmpIPredicate.ne (IntOp.remsi ArithUnit.host (BitVec.ofNat 32 t.val) 256#32) 0#32))
      (IntOp.subi (IntOp.divsi ArithUnit.host (BitVec.ofNat 32 t.val) 256#32) 1#32)
      (IntOp.divsi ArithUnit.host (BitVec.ofNat 32 t.val) 256#32) = BitVec.ofNat 32 (t.val / 256) := by
  decide +kernel

theorem same_word : ∀ a : Fin 16, ∀ b : Fin 128, IntOp.cmpi CmpIPredicate.eq (BitVec.ofNat 32 a.val) (BitVec.ofNat 32 b.val) = BitVec.ofBool (decide (a.val = b.val)) := by
  decide +kernel

/-- A truth value's number. -/
theorem bit_number (P : Prop) [Decidable P] : (FloatOps.uitofp (F := Ideal) FTy.f32 (BitVec.ofBool (decide P)) : EReal) = if P then 1 else 0 := by
  by_cases h : P
  · simp only [h, decide_true, if_true]
    show ((1 : ℕ) : EReal) = 1
    simp
  · simp only [h, decide_false, if_false]
    show ((0 : ℕ) : EReal) = 0
    simp

theorem names (c : Dev nD) : V3 m ρ c main_v8 = named := by
  unfold_abbrev_sides
  after_results
  simp -implicitDefEqProofs only [StableHlo.TRef.toBuf, StableHlo.TRef.ofBuf, cast_cast, cast_eq]
  funext i
  unfold named
  pointwise
  have h0 : (i 0).val < 4096 := (i 0).isLt
  have h1 : (i 1).val < 128 := (i 1).isLt
  refine (congrArg (fun w => FloatOps.uitofp (F := Ideal) FTy.f32 (IntOp.cmpi CmpIPredicate.eq w (BitVec.ofNat 32 (i 1).val))) (host_block (i 0))).trans ?_
  refine (congrArg (FloatOps.uitofp (F := Ideal) FTy.f32) (same_word ⟨(i 0).val / 256, by omega⟩ ⟨(i 1).val, h1⟩)).trans ?_
  exact bit_number _

end Cert.KernelIdeal.Moba

end
-- ==== Proof.Chain.lean ====
/- The three calls in a row: the kernel's two results from its arguments. -/
module

public import proofs.«01_k».proof.Proof.Host

@[expose] public section

set_option maxRecDepth 16384

noncomputable section

namespace Cert.KernelIdeal.Moba

open Idealize.ShloMosaic Idealize.ShloMosaic.TcCoe Idealize.SL.Sem
open Idealize.ShloMosaic.Pipeline (Dat)
open Cert.KernelIdeal Cert.KernelIdeal.Gen Cert.Moba

variable (m : (ℓ : Loc nD τ sig) → Buf (Elt Ideal) ℓ) (ρ : Dev nD → PrngReg)

/-- The queries, from the arguments. -/
def queryOf (c : Dev nD) : FVec Ideal S4x4096x1024 .f32 :=
  queryArray (m ((c : Thread nD τ).loc main_arg0)) (m ((c : Thread nD τ).loc main_arg2)) (twice (m ((c : Thread nD τ).loc main_arg4))) (signed (m ((c : Thread nD τ).loc main_arg5)))
/-- The mean keys, from the arguments. -/
def meanOf (c : Dev nD) : FVec Ideal S4x8x16x128 .f32 :=
  meanArray (m ((c : Thread nD τ).loc main_arg0)) (m ((c : Thread nD τ).loc main_arg3)) (twice (m ((c : Thread nD τ).loc main_arg4))) (signed (m ((c : Thread nD τ).loc main_arg5)))
/-- The keys, from the arguments. -/
def keyOf (c : Dev nD) : FVec Ideal S4x4096x2048 .bf16 :=
  keyArray (m ((c : Thread nD τ).loc main_arg0)) (m ((c : Thread nD τ).loc main_arg3)) (twice (m ((c : Thread nD τ).loc main_arg4))) (signed (m ((c : Thread nD τ).loc main_arg5))) named

theorem query_held (c : Dev nD) : V4 m ρ c main_v9_0 = queryOf m c := by
  refine (W4_arr m ρ c 7).trans ((queries (V3 m ρ) c).trans ?_)
  rw [cosines, sines]
  exact congr (congrFun (congr (congrArg _ (W3_args m ρ c main_arg0 (by decide))) (W3_args m ρ c main_arg2 (by decide))) _) rfl

theorem key_held (c : Dev nD) : V4 m ρ c main_v9_1 = keyOf m c := by
  refine (W4_arr m ρ c 8).trans ((keys (V3 m ρ) c).trans ?_)
  rw [cosines, sines, names]
  unfold keyOf
  rw [show V3 m ρ c main_arg0 = m ((c : Thread nD τ).loc main_arg0) from W3_args m ρ c main_arg0 (by decide), show V3 m ρ c main_arg3 = m ((c : Thread nD τ).loc main_arg3) from W3_args m ρ c main_arg3 (by decide)]

theorem mean_held (c : Dev nD) : V4 m ρ c main_v9_2 = meanOf m c := by
  refine (W4_arr m ρ c 9).trans ((means (V3 m ρ) c).trans ?_)
  rw [cosines, sines]
  unfold meanOf
  rw [show V3 m ρ c main_arg0 = m ((c : Thread nD τ).loc main_arg0) from W3_args m ρ c main_arg0 (by decide), show V3 m ρ c main_arg3 = m ((c : Thread nD τ).loc main_arg3) from W3_args m ρ c main_arg3 (by decide)]

theorem aug_held (c : Dev nD) : V5 m ρ c main_v10 = augArray (queryOf m c) (meanOf m c) := by
  refine (W5_arr m ρ c 2).trans ((augmented (V4 m ρ) c).trans ?_)
  rw [query_held, mean_held]

theorem key_kept (c : Dev nD) : V5 m ρ c main_v9_1 = keyOf m c :=
  (W5_of_ne m ρ c main_v9_1 (by decide)).trans (key_held m ρ c)

theorem value_kept (c : Dev nD) : V5 m ρ c main_arg1 = m ((c : Thread nD τ).loc main_arg1) := W5_args m ρ c main_arg1 (by decide)

/-- The first half of the sequence. -/
theorem first_held (c : Dev nD) : (dat2 (V5 m ρ) c).arrAt 4 cfg2.N = attArray (augArray (queryOf m c) (meanOf m c)) (keyOf m c) (m ((c : Thread nD τ).loc main_arg1)) 0 := by
  refine (front (V5 m ρ) c).trans ?_
  rw [aug_held, key_kept, value_kept]

/-- The second half of the sequence. -/
theorem second_held (c : Dev nD) : (dat2 (V5 m ρ) c).arrAt 5 cfg2.N = attArray (augArray (queryOf m c) (meanOf m c)) (keyOf m c) (m ((c : Thread nD τ).loc main_arg1)) 8 := by
  refine (back (V5 m ρ) c).trans ?_
  rw [aug_held, key_kept, value_kept]

end Cert.KernelIdeal.Moba

end
-- ==== Proof.Ref.lean ====
/- The reference, entry by entry: its queries, keys, mean keys and gate scores are the kernel's own functions of the arguments. -/
module

public import proofs.«01_k».proof.Proof.Gen.ReferenceIdeal.Read
public import proofs.«01_k».proof.Proof.Chain

@[expose] public section

set_option maxRecDepth 16384

noncomputable section

namespace Cert.ReferenceIdeal.Moba

open Idealize.ShloMosaic Idealize.ShloMosaic.TcCoe Idealize.SL.Sem
open Cert.ReferenceIdeal Cert.ReferenceIdeal.Read Cert.Moba
open Cert.KernelIdeal.Moba (twice signed)

variable (x0 : FVec Ideal S4x4096x6144 .f32) (x1 : FVec Ideal S4x4096x5120 .bf16) (x2 x3 : FVec Ideal S1x128 .f32) (x4 x5 : FVec Ideal S4096x64 .f32)

theorem zero_word : Ideal.ofBits .f32 0x00000000#32 = 0 := by
  simp [Ideal.ofBits, Ideal.ieee, -EReal.coe_mul]

theorem split_q (b : Fin 4) (h : Fin 8) (s : Fin 4096) (d : Fin 128) :
    val_main_v2 (F := Ideal) x0 (ix4 b h s d) = x0 (ix3 b s ⟨h.val * 128 + d.val, by omega⟩) := by
  rw [val_main_v2_apply, val_main_v1_apply, val_main_v0_apply]
  refine congrArg x0 (funext fun a => ?_)
  match a with
  | ⟨0, _⟩ => refine Fin.ext ?_; simp [ix4, ix3]; omega
  | ⟨1, _⟩ => refine Fin.ext ?_; simp [ix4, ix3]; omega
  | ⟨2, _⟩ => refine Fin.ext ?_; simp [ix4, ix3]; omega

theorem split_k (b : Fin 4) (h : Fin 8) (s : Fin 4096) (d : Fin 128) :
    val_main_v36 (F := Ideal) x0 (ix4 b h s d) = x0 (ix3 b s ⟨(8 + h.val) * 128 + d.val, by omega⟩) := by
  rw [val_main_v36_apply, val_main_v35_apply, val_main_v34_apply]
  refine congrArg x0 (funext fun a => ?_)
  match a with
  | ⟨0, _⟩ => refine Fin.ext ?_; simp [ix4, ix3]; omega
  | ⟨1, _⟩ => refine Fin.ext ?_; simp [ix4, ix3]; omega
  | ⟨2, _⟩ => refine Fin.ext ?_; simp [ix4, ix3]; omega

theorem normed_q (b : Fin 4) (h : Fin 8) (s : Fin 4096) (d : Fin 128) :
    val_main_v16 (F := Ideal) x0 x2 (ix4 b h s d) = normed x0 x2 b s ⟨h.val, by omega⟩ d := by
  rw [val_main_v16_apply, val_main_v13_apply, val_main_v12_apply, val_main_v11_apply, val_main_v10_apply, val_main_v8_apply, val_main_v6_apply,
    val_main_v5_apply, val_main_v7_apply, val_main_v9_apply, val_main_v15_apply, val_main_v14_apply, val_main_v3_apply]
  simp only [val_main_v4_apply, val_main_cst_apply, val_main_cst_0_apply, val_main_cst_1_apply]
  unfold normed
  have e : ∀ k : Fin 128, val_main_v2 (F := Ideal) x0 (idx_main_v5 (idx_main_v6 (idx_main_v12 (ix4 b h s d))) k) = x0 (ix3 b s ⟨h.val * 128 + k.val, by omega⟩) :=
    fun k => split_q x0 b h s k
  simp only [e]
  rw [split_q]
  show (_ * Ideal.rsqrt (Ideal.div (Ideal.ofBits .f32 0x00000000#32 + _) _ + _)) * _ = _
  rw [zero_word, zero_add, show idx_main_v3 (idx_main_v14 (idx_main_v15 (ix4 b h s d))) = ix2 0 d from funext fun a => by
    match a with
    | ⟨0, _⟩ => refine Fin.ext ?_; rfl
    | ⟨1, _⟩ => refine Fin.ext ?_; simp [ix4, ix2]]
  rfl

theorem normed_k (b : Fin 4) (h : Fin 8) (s : Fin 4096) (d : Fin 128) :
    val_main_v50 (F := Ideal) x0 x3 (ix4 b h s d) = normed x0 x3 b s ⟨8 + h.val, by omega⟩ d := by
  rw [val_main_v50_apply, val_main_v47_apply, val_main_v46_apply, val_main_v45_apply, val_main_v44_apply, val_main_v42_apply, val_main_v40_apply,
    val_main_v39_apply, val_main_v41_apply, val_main_v43_apply, val_main_v49_apply, val_main_v48_apply, val_main_v37_apply]
  simp only [val_main_v38_apply, val_main_cst_2_apply, val_main_cst_3_apply, val_main_cst_4_apply]
  unfold normed
  have e : ∀ k : Fin 128, val_main_v36 (F := Ideal) x0 (idx_main_v39 (idx_main_v40 (idx_main_v46 (ix4 b h s d))) k) = x0 (ix3 b s ⟨(8 + h.val) * 128 + k.val, by omega⟩) :=
    fun k => split_k x0 b h s k
  simp only [e]
  rw [split_k]
  show (_ * Ideal.rsqrt (Ideal.div (Ideal.ofBits .f32 0x00000000#32 + _) _ + _)) * _ = _
  rw [zero_word, zero_add, show idx_main_v37 (idx_main_v48 (idx_main_v49 (ix4 b h s d))) = ix2 0 d from funext fun a => by
    match a with
    | ⟨0, _⟩ => refine Fin.ext ?_; rfl
    | ⟨1, _⟩ => refine Fin.ext ?_; simp [ix4, ix2]]
  rfl

/-- The half rotation, as two halves, is the full-width form. -/
theorem halves (N : Fin 128 → EReal) (C S : FVec Ideal S4096x64 .f32) (s : Fin 4096) (d : Fin 128) :
    (if h : d.val < 64 then N d * (C (ix2 s ⟨d.val, h⟩) : EReal) - N ⟨64 + d.val, by omega⟩ * (S (ix2 s ⟨d.val, h⟩) : EReal)
      else N d * (C (ix2 s ⟨d.val - 64, by omega⟩) : EReal) + N ⟨d.val - 64, by omega⟩ * (S (ix2 s ⟨d.val - 64, by omega⟩) : EReal))
      = N d * (twice C (ix2 s d) : EReal) + N ⟨(d.val + 128 - 64) % 128, by omega⟩ * (signed S (ix2 s d) : EReal) := by
  unfold twice signed
  by_cases h : d.val < 64
  · rw [dif_pos h, if_pos (by exact h), sub_eq_add_neg, ← mul_neg]
    refine congr (congrArg (fun a b : EReal => a + b) ?_) ?_
    · exact congrArg (fun t : Fin 64 => N d * (C (ix2 s t) : EReal)) (Fin.ext (by simp; omega))
    · refine congr (congrArg (fun a b : EReal => a * b) (congrArg N (Fin.ext (by simp; omega)))) ?_
      exact congrArg (fun t : Fin 64 => -(S (ix2 s t) : EReal)) (Fin.ext (by simp; omega))
  · rw [dif_neg h, if_neg (by exact h)]
    refine congr (congrArg (fun a b : EReal => a + b) ?_) ?_
    · exact congrArg (fun t : Fin 64 => N d * (C (ix2 s t) : EReal)) (Fin.ext (by simp; omega))
    · refine congr (congrArg (fun a b : EReal => a * b) (congrArg N (Fin.ext (by simp; omega)))) ?_
      exact congrArg (fun t : Fin 64 => (S (ix2 s t) : EReal)) (Fin.ext (by simp; omega))

theorem low_q (b : Fin 4) (h : Fin 8) (s : Fin 4096) (e : Fin 64) :
    val_main_v25 (F := Ideal) x0 x2 x4 x5 (ix4 b h s e) = normed x0 x2 b s ⟨h.val, by omega⟩ ⟨e.val, by omega⟩ * (x4 (ix2 s e) : EReal)
      - normed x0 x2 b s ⟨h.val, by omega⟩ ⟨64 + e.val, by omega⟩ * (x5 (ix2 s e) : EReal) := by
  rw [val_main_v25_apply, val_main_v21_apply, val_main_v24_apply, val_main_v17_apply, val_main_v18_apply, val_main_v20_apply, val_main_v19_apply, val_main_v23_apply, val_main_v22_apply,
    ← normed_q, ← normed_q]
  rw [show idx_main_v17 (ix4 b h s e) = ix4 b h s ⟨e.val, by omega⟩ from (funext fun a => Fin.ext (match a with | ⟨0, _⟩ => rfl | ⟨1, _⟩ => rfl | ⟨2, _⟩ => rfl | ⟨3, _⟩ => rfl)), show idx_main_v18 (ix4 b h s e) = ix4 b h s ⟨64 + e.val, by omega⟩ from (funext fun a => Fin.ext (match a with | ⟨0, _⟩ => rfl | ⟨1, _⟩ => rfl | ⟨2, _⟩ => rfl | ⟨3, _⟩ => rfl)),
    show idx_main_v19 (idx_main_v20 (ix4 b h s e)) = ix2 s e from (funext fun a => Fin.ext (match a with | ⟨0, _⟩ => rfl | ⟨1, _⟩ => rfl)), show idx_main_v22 (idx_main_v23 (ix4 b h s e)) = ix2 s e from (funext fun a => Fin.ext (match a with | ⟨0, _⟩ => rfl | ⟨1, _⟩ => rfl))]
  rfl

theorem high_q (b : Fin 4) (h : Fin 8) (s : Fin 4096) (e : Fin 64) :
    val_main_v32 (F := Ideal) x0 x2 x4 x5 (ix4 b h s e) = normed x0 x2 b s ⟨h.val, by omega⟩ ⟨64 + e.val, by omega⟩ * (x4 (ix2 s e) : EReal)
      + normed x0 x2 b s ⟨h.val, by omega⟩ ⟨e.val, by omega⟩ * (x5 (ix2 s e) : EReal) := by
  rw [val_main_v32_apply, val_main_v28_apply, val_main_v31_apply, val_main_v17_apply, val_main_v18_apply, val_main_v27_apply, val_main_v26_apply, val_main_v30_apply, val_main_v29_apply,
    ← normed_q, ← normed_q]
  rw [show idx_main_v17 (ix4 b h s e) = ix4 b h s ⟨e.val, by omega⟩ from (funext fun a => Fin.ext (match a with | ⟨0, _⟩ => rfl | ⟨1, _⟩ => rfl | ⟨2, _⟩ => rfl | ⟨3, _⟩ => rfl)), show idx_main_v18 (ix4 b h s e) = ix4 b h s ⟨64 + e.val, by omega⟩ from (funext fun a => Fin.ext (match a with | ⟨0, _⟩ => rfl | ⟨1, _⟩ => rfl | ⟨2, _⟩ => rfl | ⟨3, _⟩ => rfl)),
    show idx_main_v26 (idx_main_v27 (ix4 b h s e)) = ix2 s e from (funext fun a => Fin.ext (match a with | ⟨0, _⟩ => rfl | ⟨1, _⟩ => rfl)), show idx_main_v29 (idx_main_v30 (ix4 b h s e)) = ix2 s e from (funext fun a => Fin.ext (match a with | ⟨0, _⟩ => rfl | ⟨1, _⟩ => rfl))]
  rfl

theorem turned_q (b : Fin 4) (h : Fin 8) (s : Fin 4096) (d : Fin 128) :
    val_main_v33 (F := Ideal) x0 x2 x4 x5 (ix4 b h s d) = turned x0 x2 (twice x4) (signed x5) b s ⟨h.val, by omega⟩ d := by
  unfold turned
  rw [← halves]
  unfold val_main_v33
  pointwise
  split
  · rw [low_q]
  · rw [high_q]
    refine congrArg (fun t : Fin 128 => normed x0 x2 b s ⟨h.val, by omega⟩ t * (x4 (ix2 s ⟨d.val - 64, by omega⟩) : EReal)
      + normed x0 x2 b s ⟨h.val, by omega⟩ ⟨d.val - 64, by omega⟩ * (x5 (ix2 s ⟨d.val - 64, by omega⟩) : EReal)) (Fin.ext ?_)
    show 64 + (d.val - 64) = d.val
    omega

theorem low_k (b : Fin 4) (h : Fin 8) (s : Fin 4096) (e : Fin 64) :
    val_main_v59 (F := Ideal) x0 x3 x4 x5 (ix4 b h s e) = normed x0 x3 b s ⟨8 + h.val, by omega⟩ ⟨e.val, by omega⟩ * (x4 (ix2 s e) : EReal)
      - normed x0 x3 b s ⟨8 + h.val, by omega⟩ ⟨64 + e.val, by omega⟩ * (x5 (ix2 s e) : EReal) := by
  rw [val_main_v59_apply, val_main_v55_apply, val_main_v58_apply, val_main_v51_apply, val_main_v52_apply, val_main_v54_apply, val_main_v53_apply, val_main_v57_apply, val_main_v56_apply,
    ← normed_k, ← normed_k]
  rw [show idx_main_v51 (ix4 b h s e) = ix4 b h s ⟨e.val, by omega⟩ from (funext fun a => Fin.ext (match a with | ⟨0, _⟩ => rfl | ⟨1, _⟩ => rfl | ⟨2, _⟩ => rfl | ⟨3, _⟩ => rfl)), show idx_main_v52 (ix4 b h s e) = ix4 b h s ⟨64 + e.val, by omega⟩ from (funext fun a => Fin.ext (match a with | ⟨0, _⟩ => rfl | ⟨1, _⟩ => rfl | ⟨2, _⟩ => rfl | ⟨3, _⟩ => rfl)),
    show idx_main_v53 (idx_main_v54 (ix4 b h s e)) = ix2 s e from (funext fun a => Fin.ext (match a with | ⟨0, _⟩ => rfl | ⟨1, _⟩ => rfl)), show idx_main_v56 (idx_main_v57 (ix4 b h s e)) = ix2 s e from (funext fun a => Fin.ext (match a with | ⟨0, _⟩ => rfl | ⟨1, _⟩ => rfl))]
  rfl

theorem high_k (b : Fin 4) (h : Fin 8) (s : Fin 4096) (e : Fin 64) :
    val_main_v66 (F := Ideal) x0 x3 x4 x5 (ix4 b h s e) = normed x0 x3 b s ⟨8 + h.val, by omega⟩ ⟨64 + e.val, by omega⟩ * (x4 (ix2 s e) : EReal)
      + normed x0 x3 b s ⟨8 + h.val, by omega⟩ ⟨e.val, by omega⟩ * (x5 (ix2 s e) : EReal) := by
  rw [val_main_v66_apply, val_main_v62_apply, val_main_v65_apply, val_main_v51_apply, val_main_v52_apply, val_main_v61_apply, val_main_v60_apply, val_main_v64_apply, val_main_v63_apply,
    ← normed_k, ← normed_k]
  rw [show idx_main_v51 (ix4 b h s e) = ix4 b h s ⟨e.val, by omega⟩ from (funext fun a => Fin.ext (match a with | ⟨0, _⟩ => rfl | ⟨1, _⟩ => rfl | ⟨2, _⟩ => rfl | ⟨3, _⟩ => rfl)), show idx_main_v52 (ix4 b h s e) = ix4 b h s ⟨64 + e.val, by omega⟩ from (funext fun a => Fin.ext (match a with | ⟨0, _⟩ => rfl | ⟨1, _⟩ => rfl | ⟨2, _⟩ => rfl | ⟨3, _⟩ => rfl)),
    show idx_main_v60 (idx_main_v61 (ix4 b h s e)) = ix2 s e from (funext fun a => Fin.ext (match a with | ⟨0, _⟩ => rfl | ⟨1, _⟩ => rfl)), show idx_main_v63 (idx_main_v64 (ix4 b h s e)) = ix2 s e from (funext fun a => Fin.ext (match a with | ⟨0, _⟩ => rfl | ⟨1, _⟩ => rfl))]
  rfl

theorem turned_k (b : Fin 4) (h : Fin 8) (s : Fin 4096) (d : Fin 128) :
    val_main_v67 (F := Ideal) x0 x3 x4 x5 (ix4 b h s d) = turned x0 x3 (twice x4) (signed x5) b s ⟨8 + h.val, by omega⟩ d := by
  unfold turned
  rw [← halves]
  unfold val_main_v67
  pointwise
  split
  · rw [low_k]
  · rw [high_k]
    refine congrArg (fun t : Fin 128 => normed x0 x3 b s ⟨8 + h.val, by omega⟩ t * (x4 (ix2 s ⟨d.val - 64, by omega⟩) : EReal)
      + normed x0 x3 b s ⟨8 + h.val, by omega⟩ ⟨d.val - 64, by omega⟩ * (x5 (ix2 s ⟨d.val - 64, by omega⟩) : EReal)) (Fin.ext ?_)
    show 64 + (d.val - 64) = d.val
    omega

end Cert.ReferenceIdeal.Moba

end
-- ==== Proof.Refs.lean ====
/- The reference's mean keys, gate scores, chosen blocks and mask. -/
module

public import proofs.«01_k».proof.Proof.Ref
public import proofs.«01_k».proof.Proof.Select

@[expose] public section

set_option maxRecDepth 16384

noncomputable section

namespace Cert.ReferenceIdeal.Moba

open Idealize.ShloMosaic Idealize.ShloMosaic.TcCoe Idealize.SL.Sem
open Cert.ReferenceIdeal Cert.ReferenceIdeal.Read Cert.Moba
open Cert.KernelIdeal.Moba (twice signed host_block)

variable (x0 : FVec Ideal S4x4096x6144 .f32) (x1 : FVec Ideal S4x4096x5120 .bf16) (x2 x3 : FVec Ideal S1x128 .f32) (x4 x5 : FVec Ideal S4096x64 .f32)

theorem split_v (b : Fin 4) (h : Fin 8) (s : Fin 4096) (d : Fin 128) :
    val_main_v71 (F := Ideal) x1 (ix4 b h s d) = (x1 (ix3 b s ⟨h.val * 128 + d.val, by omega⟩) : EReal) := by
  rw [val_main_v71_apply, val_main_v70_apply, val_main_v69_apply, val_main_v68_apply]
  refine congrArg (fun t => (x1 t : EReal)) (funext fun a => ?_)
  match a with
  | ⟨0, _⟩ => refine Fin.ext ?_; simp [ix4, ix3]; omega
  | ⟨1, _⟩ => refine Fin.ext ?_; simp [ix4, ix3]; omega
  | ⟨2, _⟩ => refine Fin.ext ?_; simp [ix4, ix3]; omega

theorem mean_ref (b : Fin 4) (h : Fin 8) (n : Fin 16) (d : Fin 128) :
    val_main_v77 (F := Ideal) x0 x3 x4 x5 (ix4 b h n d) = meanKey x0 x3 (twice x4) (signed x5) b h n d := by
  rw [val_main_v77_apply, val_main_v75_apply, val_main_v76_apply]
  unfold meanKey
  have e : ∀ k : Fin 256, val_main_v74 (F := Ideal) x0 x3 x4 x5 (idx_main_v75 (ix4 b h n d) k) = turned x0 x3 (twice x4) (signed x5) b ⟨n.val * 256 + k.val, by omega⟩ ⟨8 + h.val, by omega⟩ d := fun k => by
    rw [val_main_v74_apply, ← turned_k]
    refine congrArg _ (funext fun a => ?_)
    match a with
    | ⟨0, _⟩ => exact Fin.ext (by simp [ix4] <;> omega)
    | ⟨1, _⟩ => exact Fin.ext (by simp [ix4] <;> omega)
    | ⟨2, _⟩ => exact Fin.ext (by simp [ix4] <;> omega)
    | ⟨3, _⟩ => exact Fin.ext (by simp [ix4] <;> omega)
  simp only [e]
  show Ideal.div (Ideal.ofBits .f32 0x00000000#32 + _) _ = _
  rw [zero_word, zero_add]
  rfl

/-- The gate score of block `n` for the query at `s`. -/
def gateAt (b : Fin 4) (h : Fin 8) (s : Fin 4096) (n : Fin 16) : EReal :=
  ∑ k : Fin 128, turned x0 x2 (twice x4) (signed x5) b s ⟨h.val, by omega⟩ k * meanKey x0 x3 (twice x4) (signed x5) b h n k

theorem gate_ref (b : Fin 4) (h : Fin 8) (s : Fin 4096) (n : Fin 16) :
    val_main_v78 (F := Ideal) x0 x2 x3 x4 x5 (ix4 b h s n) = gateAt x0 x2 x3 x4 x5 b h s n := by
  rw [val_main_v78_apply]
  unfold gateAt
  refine Finset.sum_congr rfl fun k _ => ?_
  rw [show lidx_main_v78 (ix4 b h s n) k = ix4 b h s k from (funext fun a => Fin.ext (match a with | ⟨0, _⟩ => rfl | ⟨1, _⟩ => rfl | ⟨2, _⟩ => rfl | ⟨3, _⟩ => rfl)),
    show ridx_main_v78 (ix4 b h s n) k = ix4 b h n k from (funext fun a => Fin.ext (match a with | ⟨0, _⟩ => rfl | ⟨1, _⟩ => rfl | ⟨2, _⟩ => rfl | ⟨3, _⟩ => rfl)),
    turned_q, mean_ref]

theorem block_ref (t : Fin 4096) : val_main_v73 (F := Ideal) (ix1 t) = BitVec.ofNat 32 (t.val / 256) := by
  refine Eq.trans ?_ (host_block t)
  rw [val_main_v73_apply, val_main_call0_v11_apply, val_main_call0_v13_apply, val_main_call0_v2_apply, val_main_call0_v6_apply, val_main_call0_v10_apply,
    val_main_call0_v5_apply, val_main_call0_v1_apply, val_main_call0_v8_apply, val_main_call0_v7_apply, val_main_call0_v9_apply, val_main_call0_v12_apply]
  rfl

theorem block_ref' (t : Fin 4096) : val_main_v92 (F := Ideal) (ix1 t) = BitVec.ofNat 32 (t.val / 256) := block_ref t

theorem bot_word : Ideal.ofBits .f32 0xFF800000#32 = ⊥ := by
  simp [Ideal.ofBits, Ideal.ieee]

theorem word_less : ∀ a b : Fin 16, IntOp.cmpi .slt (BitVec.ofNat 32 a.val) (BitVec.ofNat 32 b.val) = BitVec.ofBool (decide (a.val < b.val)) := by
  decide +kernel

theorem word_less3 : ∀ a : Fin 3, ∀ b : Fin 16, IntOp.cmpi .slt (BitVec.ofNat 32 a.val) (BitVec.ofNat 32 b.val) = BitVec.ofBool (decide (a.val < b.val)) := by
  decide +kernel

theorem word_same (a b : ℕ) (ha : a < 4096) (hb : b < 4096) : IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff]
  simp only [beq_iff_eq, decide_eq_true_eq]
  constructor
  · intro h
    have := congrArg BitVec.toNat h
    simp only [BitVec.toNat_ofNat] at this
    omega
  · intro h; rw [h]

theorem word_upto (a b : ℕ) (ha : a < 4096) (hb : b < 4096) : IntOp.cmpi .sle (BitVec.ofNat 32 a) (BitVec.ofNat 32 b) = BitVec.ofBool (decide (a ≤ b)) := by
  show BitVec.ofBool ((BitVec.ofNat 32 a).sle (BitVec.ofNat 32 b)) = _
  congr 1
  rw [Bool.eq_iff_iff, BitVec.sle_iff_toInt_le, decide_eq_true_eq]
  have e : ∀ n : ℕ, n < 4096 → (BitVec.ofNat 32 n).toInt = (n : ℤ) := fun n hn => by
    rw [BitVec.toInt_eq_toNat_of_lt (by rw [BitVec.toNat_ofNat]; omega), BitVec.toNat_ofNat]
    omega
  rw [e a ha, e b hb]
  omega

theorem past_ref (b : Fin 4) (h : Fin 8) (s : Fin 4096) (n : Fin 16) :
    val_main_v85 (F := Ideal) x0 x2 x3 x4 x5 (ix4 b h s n) = pastOnly (gateAt x0 x2 x3 x4 x5 b h s) (s.val / 256) n := by
  rw [val_main_v85_apply, gate_ref, val_main_call1_v1_apply, val_main_v84_apply, val_main_v82_apply, val_main_v80_apply, val_main_v79_apply,
    val_main_v83_apply, val_main_v81_apply, val_main_call1_v2_apply]
  unfold pastOnly
  rw [show idx_main_v81 (idx_main_v83 (idx_main_call1_v1 (ix4 b h s n))) = ix1 s from (funext fun a => Fin.ext (match a with | ⟨0, _⟩ => rfl)), block_ref]
  refine (congrArg (fun w => Scalar.select w (gateAt x0 x2 x3 x4 x5 b h s n) (Ideal.ofBits .f32 0xFF800000#32)) (word_less n ⟨s.val / 256, by omega⟩)).trans ?_
  rw [Scalar.select_decide, bot_word]

theorem sorted_at (y : S4x8x4096x16.Idx → EReal) (z : S4x8x4096x16.Idx → BitVec 32) (i : S4x8x4096x16.Idx) :
    (Host.sort2 S4x8x4096x16 3 (fun l r => FloatOps.cmpfTotal (F := Ideal) (φ := .f32) .gt l.1 r.1) y z).2 i
      = z (Function.update i 3 (sortedFrom (fun k k' : Fin 16 => Ideal.cmp .ogt (y (Function.update i 3 k)) (y (Function.update i 3 k')) == 1#1) (i 3))) := by
  unfold Host.sort2
  rw [dif_pos (show 3 < S4x8x4096x16.rank by decide)]
  rfl

theorem number_at (i : S4x8x4096x16.Idx) (w : Fin 16) : iotaInDim S4x8x4096x16 32 ⟨3, by decide⟩ (Function.update i 3 w) = BitVec.ofNat 32 w.val :=
  congrArg (fun v : Fin 16 => BitVec.ofNat 32 v.val) (Function.update_self (3 : Fin S4x8x4096x16.rank) w i)

theorem choice_ref (b : Fin 4) (h : Fin 8) (s : Fin 4096) (j : Fin 3) :
    val_main_indices (F := Ideal) x0 x2 x3 x4 x5 (ix4 b h s j) = BitVec.ofNat 32
      (sortedFrom (fun k k' : Fin 16 => Ideal.cmp .ogt (pastOnly (gateAt x0 x2 x3 x4 x5 b h s) (s.val / 256) k) (pastOnly (gateAt x0 x2 x3 x4 x5 b h s) (s.val / 256) k') == 1#1) (j.castLE (by omega))).val := by
  have e : ∀ k : Fin 16, val_main_v85 (F := Ideal) x0 x2 x3 x4 x5 (Function.update (ix4 b h s (j.castLE (by omega))) 3 k) = pastOnly (gateAt x0 x2 x3 x4 x5 b h s) (s.val / 256) k := fun k => by
    rw [← past_ref]
    exact congrArg _ (funext fun a => match a with | ⟨0, _⟩ => rfl | ⟨1, _⟩ => rfl | ⟨2, _⟩ => rfl | ⟨3, _⟩ => rfl)
  simp only [← e]
  unfold val_main_indices Host.topK
  dsimp only
  refine (extractStridedSlice_apply (fun _ => 0) _ Gen.sliceFits_S4x8x4096x16_S4x8x4096x3 (ix4 b h s j) (ix4 b h s (j.castLE (by omega))) (fun a => match a with
    | ⟨0, _⟩ => (Nat.zero_add _).symm | ⟨1, _⟩ => (Nat.zero_add _).symm | ⟨2, _⟩ => (Nat.zero_add _).symm | ⟨3, _⟩ => (Nat.zero_add _).symm)).trans ?_
  generalize val_main_v85 (F := Ideal) x0 x2 x3 x4 x5 = y
  refine (sorted_at y _ _).trans ?_
  rw [dif_pos (show 3 < S4x8x4096x16.rank by decide)]
  exact number_at _ _

theorem count_ref (s : Fin 4096) (j : Fin 3) : val_main_v91 (F := Ideal) (ix2 s j) = BitVec.ofBool (decide (j.val < s.val / 256)) := by
  rw [val_main_v91_apply, val_main_v89_apply, val_main_v87_apply, val_main_v86_apply, val_main_v90_apply, val_main_v88_apply]
  rw [show idx_main_v88 (idx_main_v90 (ix2 s j)) = ix1 s from (funext fun a => Fin.ext (match a with | ⟨0, _⟩ => rfl)), block_ref]
  exact word_less3 j ⟨s.val / 256, by omega⟩

theorem own_ref (s t : Fin 4096) : val_main_v106 (F := Ideal) (ix2 s t) = BitVec.ofBool (decide (t.val / 256 = s.val / 256 ∧ t.val ≤ s.val)) := by
  rw [val_main_v106_apply, val_main_v100_apply, val_main_v98_apply, val_main_v96_apply, val_main_v99_apply, val_main_v97_apply,
    val_main_v105_apply, val_main_v103_apply, val_main_v101_apply, val_main_v104_apply, val_main_v102_apply, val_main_v72_apply, val_main_v72_apply]
  rw [show idx_main_v96 (idx_main_v98 (ix2 s t)) = ix1 t from (funext fun a => Fin.ext (match a with | ⟨0, _⟩ => rfl)), block_ref',
    show idx_main_v97 (idx_main_v99 (ix2 s t)) = ix1 s from (funext fun a => Fin.ext (match a with | ⟨0, _⟩ => rfl)), block_ref, word_same _ _ (by omega) (by omega)]
  refine (congrArg (IntOp.andi _) (word_upto t.val s.val (by omega) (by omega))).trans ?_
  show BitVec.ofBool _ &&& BitVec.ofBool _ = _
  rw [BitVec.ofBool_and_ofBool, Bool.decide_and]

/-- The blocks of a sort, by position. -/
def pick (g : Fin 16 → EReal) (own : ℕ) (j : Fin 3) : Fin 16 :=
  sortedFrom (fun k k' : Fin 16 => Ideal.cmp .ogt (pastOnly g own k) (pastOnly g own k') == 1#1) (j.castLE (by omega))

theorem pick_ref (b : Fin 4) (h : Fin 8) (s t : Fin 4096) (j : Fin 3) :
    IntOp.andi (IntOp.cmpi .eq (val_main_indices (F := Ideal) x0 x2 x3 x4 x5 (ix4 b h s j)) (val_main_v92 (F := Ideal) (ix1 t))) (val_main_v91 (F := Ideal) (ix2 s j))
      = BitVec.ofBool (decide (j.val < s.val / 256 ∧ pick (gateAt x0 x2 x3 x4 x5 b h s) (s.val / 256) j = (⟨t.val / 256, by omega⟩ : Fin 16))) := by
  rw [choice_ref, block_ref', count_ref, word_same _ _ (by omega) (by omega)]
  show BitVec.ofBool _ &&& BitVec.ofBool _ = _
  rw [BitVec.ofBool_and_ofBool, ← Bool.decide_and]
  refine congrArg BitVec.ofBool (decide_eq_decide.mpr ?_)
  rw [and_comm, Fin.ext_iff]
  rfl

/-- Position `t` may be attended from `s`: in the same block and not later, or in one of the chosen past blocks. -/
def visible (g : Fin 16 → EReal) (s t : Fin 4096) : Prop :=
  (t.val / 256 = s.val / 256 ∧ t.val ≤ s.val) ∨ (t.val / 256 < s.val / 256 ∧ rankOf g (s.val / 256) ⟨t.val / 256, by omega⟩ < 3)

instance (g : Fin 16 → EReal) (s t : Fin 4096) : Decidable (visible g s t) := inferInstanceAs (Decidable (_ ∨ _))

theorem mask_ref (b : Fin 4) (h : Fin 8) (s t : Fin 4096) :
    val_main_v149 (F := Ideal) x0 x2 x3 x4 x5 (ix4 b h s t) = BitVec.ofBool (decide (visible (gateAt x0 x2 x3 x4 x5 b h s) s t)) := by
  rw [val_main_v149_apply, val_main_v135_apply, val_main_v121_apply, val_main_v107_apply, val_main_v120_apply, val_main_v134_apply, val_main_v148_apply,
    val_main_v114_apply, val_main_v128_apply, val_main_v142_apply]
  rw [val_main_v112_apply, val_main_v110_apply, val_main_v109_apply, val_main_v108_apply, val_main_v113_apply, val_main_v111_apply,
    val_main_v119_apply, val_main_v118_apply, val_main_v117_apply, val_main_v116_apply, val_main_v115_apply]
  rw [val_main_v126_apply, val_main_v124_apply, val_main_v123_apply, val_main_v122_apply, val_main_v127_apply, val_main_v125_apply,
    val_main_v133_apply, val_main_v132_apply, val_main_v131_apply, val_main_v130_apply, val_main_v129_apply]
  rw [val_main_v140_apply, val_main_v138_apply, val_main_v137_apply, val_main_v136_apply, val_main_v141_apply, val_main_v139_apply,
    val_main_v147_apply, val_main_v146_apply, val_main_v145_apply, val_main_v144_apply, val_main_v143_apply]
  rw [show idx_main_v108 (idx_main_v109 (idx_main_v110 (idx_main_v112 (ix4 b h s t)))) = ix4 b h s (0 : Fin 3) from (funext fun a => match a with
      | ⟨0, _⟩ => Fin.ext (by simp [ix4] <;> omega) | ⟨1, _⟩ => Fin.ext (by simp [ix4] <;> omega) | ⟨2, _⟩ => Fin.ext (by simp [ix4] <;> omega) | ⟨3, _⟩ => Fin.ext (by simp [ix4] <;> omega)),
    show idx_main_v111 (idx_main_v113 (ix4 b h s t)) = ix1 t from (funext fun a => match a with | ⟨0, _⟩ => rfl),
    show idx_main_v115 (idx_main_v116 (idx_main_v117 (idx_main_v118 (idx_main_v119 (ix4 b h s t))))) = ix2 s (0 : Fin 3) from (funext fun a => match a with
      | ⟨0, _⟩ => Fin.ext (by simp [ix4, ix2] <;> omega) | ⟨1, _⟩ => Fin.ext (by simp [ix4, ix2] <;> omega)), pick_ref]
  rw [show idx_main_v122 (idx_main_v123 (idx_main_v124 (idx_main_v126 (ix4 b h s t)))) = ix4 b h s (1 : Fin 3) from (funext fun a => match a with
      | ⟨0, _⟩ => Fin.ext (by simp [ix4] <;> omega) | ⟨1, _⟩ => Fin.ext (by simp [ix4] <;> omega) | ⟨2, _⟩ => Fin.ext (by simp [ix4] <;> omega) | ⟨3, _⟩ => Fin.ext (by simp [ix4] <;> omega)),
    show idx_main_v125 (idx_main_v127 (ix4 b h s t)) = ix1 t from (funext fun a => match a with | ⟨0, _⟩ => rfl),
    show idx_main_v129 (idx_main_v130 (idx_main_v131 (idx_main_v132 (idx_main_v133 (ix4 b h s t))))) = ix2 s (1 : Fin 3) from (funext fun a => match a with
      | ⟨0, _⟩ => Fin.ext (by simp [ix4, ix2] <;> omega) | ⟨1, _⟩ => Fin.ext (by simp [ix4, ix2] <;> omega)), pick_ref]
  rw [show idx_main_v136 (idx_main_v137 (idx_main_v138 (idx_main_v140 (ix4 b h s t)))) = ix4 b h s (2 : Fin 3) from (funext fun a => match a with
      | ⟨0, _⟩ => Fin.ext (by simp [ix4] <;> omega) | ⟨1, _⟩ => Fin.ext (by simp [ix4] <;> omega) | ⟨2, _⟩ => Fin.ext (by simp [ix4] <;> omega) | ⟨3, _⟩ => Fin.ext (by simp [ix4] <;> omega)),
    show idx_main_v139 (idx_main_v141 (ix4 b h s t)) = ix1 t from (funext fun a => match a with | ⟨0, _⟩ => rfl),
    show idx_main_v143 (idx_main_v144 (idx_main_v145 (idx_main_v146 (idx_main_v147 (ix4 b h s t))))) = ix2 s (2 : Fin 3) from (funext fun a => match a with
      | ⟨0, _⟩ => Fin.ext (by simp [ix4, ix2] <;> omega) | ⟨1, _⟩ => Fin.ext (by simp [ix4, ix2] <;> omega)), pick_ref]
  rw [show idx_main_v107 (ix4 b h s t) = ix2 s t from (funext fun a => match a with | ⟨0, _⟩ => rfl | ⟨1, _⟩ => rfl), own_ref]
  show ((BitVec.ofBool _ ||| BitVec.ofBool _) ||| BitVec.ofBool _) ||| BitVec.ofBool _ = _
  rw [BitVec.ofBool_or_ofBool, BitVec.ofBool_or_ofBool, BitVec.ofBool_or_ofBool, ← Bool.decide_or, ← Bool.decide_or, ← Bool.decide_or]
  refine congrArg BitVec.ofBool (decide_eq_decide.mpr ?_)
  unfold visible
  have hs : (∃ j : Fin 3, j.val < s.val / 256 ∧ pick (gateAt x0 x2 x3 x4 x5 b h s) (s.val / 256) j = (⟨t.val / 256, by omega⟩ : Fin 16)) ↔ _ :=
    selected_iff (gateAt x0 x2 x3 x4 x5 b h s) (s.val / 256) (by omega) ⟨t.val / 256, by omega⟩
  rw [← hs, or_assoc, or_assoc]
  refine or_congr Iff.rfl ?_
  constructor
  · rintro (h | h | h)
    · exact ⟨0, h⟩
    · exact ⟨1, h⟩
    · exact ⟨2, h⟩
  · rintro ⟨j, h⟩
    obtain rfl | rfl | rfl : j = 0 ∨ j = 1 ∨ j = 2 := by omega
    · exact Or.inl h
    · exact Or.inr (Or.inl h)
    · exact Or.inr (Or.inr h)

end Cert.ReferenceIdeal.Moba

end
-- ==== Proof.RefOut.lean ====
/- The reference's result, entry by entry: the softmax over the visible positions, weighing the values. -/
module

public import proofs.«01_k».proof.Proof.Refs

@[expose] public section

set_option maxRecDepth 16384

noncomputable section

namespace Cert.ReferenceIdeal.Moba

open Idealize.ShloMosaic Idealize.ShloMosaic.TcCoe Idealize.SL.Sem
open Cert.ReferenceIdeal Cert.ReferenceIdeal.Read Cert.Moba
open Cert.KernelIdeal.Moba (twice signed)

variable (x0 : FVec Ideal S4x4096x6144 .f32) (x1 : FVec Ideal S4x4096x5120 .bf16) (x2 x3 : FVec Ideal S1x128 .f32) (x4 x5 : FVec Ideal S4096x64 .f32)

/-- A query's product with a key. -/
def dotAt (b : Fin 4) (h : Fin 8) (s t : Fin 4096) : EReal :=
  ∑ k : Fin 128, turned x0 x2 (twice x4) (signed x5) b s ⟨h.val, by omega⟩ k * turned x0 x3 (twice x4) (signed x5) b t ⟨8 + h.val, by omega⟩ k

/-- The scaled product at a visible position, `⊥` elsewhere. -/
def scoreAt (b : Fin 4) (h : Fin 8) (s t : Fin 4096) : EReal :=
  if visible (gateAt x0 x2 x3 x4 x5 b h s) s t then dotAt x0 x2 x3 x4 x5 b h s t * Ideal.ofBits .f32 0x3DB504F3#32 else ⊥

theorem score_ref (b : Fin 4) (h : Fin 8) (s t : Fin 4096) :
    val_main_v150 (F := Ideal) x0 x2 x3 x4 x5 (ix4 b h s t) = scoreAt x0 x2 x3 x4 x5 b h s t := by
  rw [val_main_v150_apply, mask_ref, Scalar.select_decide, val_main_v95_apply, val_main_v93_apply, val_main_v94_apply, val_main_call3_v1_apply]
  unfold scoreAt dotAt
  have e : ∀ k : Fin 128, val_main_v33 (F := Ideal) x0 x2 x4 x5 (lidx_main_v93 (ix4 b h s t) k) * val_main_v67 (F := Ideal) x0 x3 x4 x5 (ridx_main_v93 (ix4 b h s t) k)
      = turned x0 x2 (twice x4) (signed x5) b s ⟨h.val, by omega⟩ k * turned x0 x3 (twice x4) (signed x5) b t ⟨8 + h.val, by omega⟩ k := fun k => by
    rw [show lidx_main_v93 (ix4 b h s t) k = ix4 b h s k from (funext fun a => Fin.ext (match a with | ⟨0, _⟩ => rfl | ⟨1, _⟩ => rfl | ⟨2, _⟩ => rfl | ⟨3, _⟩ => rfl)),
      show ridx_main_v93 (ix4 b h s t) k = ix4 b h t k from (funext fun a => Fin.ext (match a with | ⟨0, _⟩ => rfl | ⟨1, _⟩ => rfl | ⟨2, _⟩ => rfl | ⟨3, _⟩ => rfl)),
      turned_q, turned_k]
  rw [Finset.sum_congr rfl fun k _ => e k]
  rw [← bot_word]
  rfl

theorem largest (y : FVec Ideal S4x8x4096x4096 .f32) (b : Fin 4) (h : Fin 8) (s : Fin 4096) :
    Host.reduce FloatOps.maximumf y (val_main_cst_11 (F := Ideal)) Gen.reducesTo_S4x8x4096x4096_S4x8x4096_d3 Gen.h_S_ (ix3 b h s)
      = Finset.univ.sup fun t : Fin 4096 => (y (ix4 b h s t) : EReal) := by
  unfold val_main_cst_11
  pointwise
  show Finset.fold max (Ideal.ofBits .f32 0xFF800000#32) _ _ = _
  rw [bot_word]
  rfl

theorem top_ref (b : Fin 4) (h : Fin 8) (s : Fin 4096) :
    val_main_v153 (F := Ideal) x0 x2 x3 x4 x5 (ix3 b h s) = Finset.univ.sup (scoreAt x0 x2 x3 x4 x5 b h s) := by
  rw [val_main_v153_apply, val_main_v152_apply]
  unfold val_main_v151
  rw [largest, Finset.sup_congr rfl fun t _ => score_ref x0 x2 x3 x4 x5 b h s t]
  show max (Ideal.ofBits .f32 0xFF800000#32) _ = _
  rw [bot_word, max_eq_right bot_le]

theorem weight_ref (b : Fin 4) (h : Fin 8) (s t : Fin 4096) :
    val_main_v157 (F := Ideal) x0 x2 x3 x4 x5 (ix4 b h s t)
      = Ideal.exp (scoreAt x0 x2 x3 x4 x5 b h s t - Finset.univ.sup (scoreAt x0 x2 x3 x4 x5 b h s)) := by
  rw [val_main_v157_apply, val_main_v156_apply, val_main_v155_apply, val_main_v154_apply, score_ref, ← top_ref]
  rw [show idx_main_v154 (idx_main_v155 (ix4 b h s t)) = ix3 b h s from (funext fun a => Fin.ext (match a with | ⟨0, _⟩ => rfl | ⟨1, _⟩ => rfl | ⟨2, _⟩ => rfl))]
  rfl

/-- The reference's result at head `h`, lane `d`. -/
def outAt (b : Fin 4) (h : Fin 8) (s : Fin 4096) (d : Fin 128) : EReal :=
  ∑ t : Fin 4096, Ideal.div (Ideal.exp (scoreAt x0 x2 x3 x4 x5 b h s t - Finset.univ.sup (scoreAt x0 x2 x3 x4 x5 b h s)))
      (∑ t' : Fin 4096, Ideal.exp (scoreAt x0 x2 x3 x4 x5 b h s t' - Finset.univ.sup (scoreAt x0 x2 x3 x4 x5 b h s)))
    * (x1 (ix3 b t ⟨h.val * 128 + d.val, by omega⟩) : EReal)

theorem out_ref (b : Fin 4) (h : Fin 8) (s : Fin 4096) (d : Fin 128) :
    val_main_v162 (F := Ideal) x0 x1 x2 x3 x4 x5 (ix4 b h s d) = outAt x0 x1 x2 x3 x4 x5 b h s d := by
  rw [val_main_v162_apply]
  unfold outAt
  refine Finset.sum_congr rfl fun t _ => ?_
  rw [show lidx_main_v162 (ix4 b h s d) t = ix4 b h s t from (funext fun a => Fin.ext (match a with | ⟨0, _⟩ => rfl | ⟨1, _⟩ => rfl | ⟨2, _⟩ => rfl | ⟨3, _⟩ => rfl)),
    show ridx_main_v162 (ix4 b h s d) t = ix4 b h t d from (funext fun a => Fin.ext (match a with | ⟨0, _⟩ => rfl | ⟨1, _⟩ => rfl | ⟨2, _⟩ => rfl | ⟨3, _⟩ => rfl)),
    split_v, val_main_v161_apply, val_main_v160_apply, val_main_v159_apply, val_main_v158_apply, weight_ref]
  have e : ∀ t' : Fin 4096, val_main_v157 (F := Ideal) x0 x2 x3 x4 x5 (idx_main_v158 (idx_main_v159 (idx_main_v160 (ix4 b h s t))) t')
      = Ideal.exp (scoreAt x0 x2 x3 x4 x5 b h s t' - Finset.univ.sup (scoreAt x0 x2 x3 x4 x5 b h s)) := fun t' => by
    rw [← weight_ref]
    exact congrArg _ (funext fun a => Fin.ext (match a with | ⟨0, _⟩ => rfl | ⟨1, _⟩ => rfl | ⟨2, _⟩ => rfl | ⟨3, _⟩ => rfl))
  rw [Finset.sum_congr rfl fun t' _ => e t']
  show Ideal.div _ (Ideal.ofBits .f32 0x00000000#32 + _) * _ = _
  rw [zero_word, zero_add]

/-- The reference's array. -/
theorem result_ref (b : Fin 4) (s : Fin 4096) (c : Fin 1024) :
    val_main_v165 (F := Ideal) x0 x1 x2 x3 x4 x5 (ix3 b s c) = outAt x0 x1 x2 x3 x4 x5 b ⟨c.val / 128, by omega⟩ s ⟨c.val % 128, by omega⟩ := by
  rw [val_main_v165_apply, val_main_v164_apply, val_main_v163_apply, ← out_ref]
  refine congrArg (val_main_v162 (F := Ideal) x0 x1 x2 x3 x4 x5) (funext fun a => ?_)
  match a with
  | ⟨0, _⟩ => exact Fin.ext (by simp [ix4, ix3] <;> omega)
  | ⟨1, _⟩ => exact Fin.ext (by simp [ix4, ix3] <;> omega)
  | ⟨2, _⟩ => exact Fin.ext (by simp [ix4, ix3] <;> omega)
  | ⟨3, _⟩ => exact Fin.ext (by simp [ix4, ix3] <;> omega)

end Cert.ReferenceIdeal.Moba

end
-- ==== Proof.Softmax.lean ====
/-
  The two normalised exponentials of the attention, over the extended reals: base 2 with the logarithm of 2 folded into the
  scale and one division of the weighted sum at the end, against base e with every weight divided first.
-/
module

public import Idealize.ShloMosaic.Lib.Pointwise

@[expose] public section

noncomputable section

namespace Cert.Moba

open Idealize.ShloMosaic

/-- A finite factor distributes over a sum of extended reals. -/
theorem sum_mul_real {ι : Type} (s : Finset ι) (f : ι → EReal) (r : ℝ) (hr : 0 ≤ r) :
    (∑ t ∈ s, f t) * (r : EReal) = ∑ t ∈ s, f t * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A sum of coerced reals is the coerced sum. -/
theorem coe_sum_real {ι : Type} (s : Finset ι) (f : ι → ℝ) : ((∑ t ∈ s, f t : ℝ) : EReal) = ∑ t ∈ s, (f t : EReal) := by
  classical
  induction s using Finset.induction_on with
  | empty => simp
  | insert a s ha ih => rw [Finset.sum_insert ha, Finset.sum_insert ha, EReal.coe_add, ih]

variable {ι : Type} [Fintype ι]

/-- A score that is seen at `w t * a` and is `⊥` otherwise. -/
def seen (w : ι → ℝ) (vis : ι → Prop) [DecidablePred vis] (a : ℝ) (t : ι) : EReal :=
  if vis t then ((w t * a : ℝ) : EReal) else ⊥

section
variable (w : ι → ℝ) (vis : ι → Prop) [DecidablePred vis] (hvis : ∃ t, vis t)
include hvis

/-- The greatest seen score is attained at a seen position, whatever the positive scale. -/
theorem exists_top : ∃ t₀, vis t₀ ∧ ∀ a : ℝ, 0 < a → Finset.univ.sup (seen w vis a) = ((w t₀ * a : ℝ) : EReal) := by
  classical
  obtain ⟨t₁, h₁⟩ := hvis
  obtain ⟨t₀, h₀, hmax⟩ := Finset.exists_max_image (Finset.univ.filter vis) w ⟨t₁, by simp [h₁]⟩
  refine ⟨t₀, by simpa using h₀, fun a ha => le_antisymm (Finset.sup_le fun t _ => ?_) ?_⟩
  · unfold seen
    split
    · next h => exact EReal.coe_le_coe_iff.2 (mul_le_mul_of_nonneg_right (hmax t (by simp [h])) ha.le)
    · exact bot_le
  · have h : seen w vis a t₀ = ((w t₀ * a : ℝ) : EReal) := if_pos (by simpa using h₀)
    rw [← h]
    exact Finset.le_sup (f := seen w vis a) (Finset.mem_univ t₀)

/-- The weights of the two programs are one nonnegative real weight, positive somewhere. -/
theorem weights (a : ℝ) (ha : 0 < a) : ∃ p : ι → ℝ, (∀ t, 0 ≤ p t) ∧ 0 < ∑ t, p t ∧
    (∀ t, Ideal.exp (seen w vis a t - Finset.univ.sup (seen w vis a)) = (p t : EReal)) ∧
    (∀ t, Ideal.exp2 (seen w vis (a * (Real.log 2)⁻¹) t - Finset.univ.sup (seen w vis (a * (Real.log 2)⁻¹))) = (p t : EReal)) := by
  classical
  obtain ⟨t₀, h₀, htop⟩ := exists_top w vis hvis
  have hlog : 0 < Real.log 2 := Real.log_pos (by norm_num)
  have hc : 0 < a * (Real.log 2)⁻¹ := mul_pos ha (inv_pos.2 hlog)
  refine ⟨fun t => if vis t then Real.exp (w t * a - w t₀ * a) else 0, fun t => ?_, ?_, fun t => ?_, fun t => ?_⟩
  · show 0 ≤ (if vis t then _ else _); split
    · exact (Real.exp_pos _).le
    · exact le_rfl
  · refine Finset.sum_pos' (fun t _ => ?_) ⟨t₀, Finset.mem_univ _, ?_⟩
    · split
      · exact (Real.exp_pos _).le
      · exact le_rfl
    · rw [if_pos h₀]; exact Real.exp_pos _
  · rw [htop a ha]; unfold seen
    show _ = ((if vis t then Real.exp (w t * a - w t₀ * a) else 0 : ℝ) : EReal)
    split
    · rw [← EReal.coe_sub, Ideal.exp_coe]
    · rw [EReal.bot_sub]; simp
  · rw [htop _ hc]; unfold seen
    show _ = ((if vis t then Real.exp (w t * a - w t₀ * a) else 0 : ℝ) : EReal)
    split
    · rw [← EReal.coe_sub, Ideal.exp2_coe]
      congr 1
      show (2 : ℝ) ^ (_ : ℝ) = _
      rw [Real.rpow_def_of_pos (by norm_num : (0:ℝ) < 2)]
      congr 1
      field_simp
    · rw [EReal.bot_sub]; simp

/-- One division of the weighted sum in base 2 is the sum weighted by the divided exponentials in base e. -/
theorem attend_eq (a : ℝ) (ha : 0 < a) (v : ι → EReal) :
    Ideal.div (∑ t, Ideal.exp2 (seen w vis (a * (Real.log 2)⁻¹) t - Finset.univ.sup (seen w vis (a * (Real.log 2)⁻¹))) * v t)
        (∑ t, Ideal.exp2 (seen w vis (a * (Real.log 2)⁻¹) t - Finset.univ.sup (seen w vis (a * (Real.log 2)⁻¹))))
      = ∑ t, Ideal.div (Ideal.exp (seen w vis a t - Finset.univ.sup (seen w vis a)))
          (∑ t', Ideal.exp (seen w vis a t' - Finset.univ.sup (seen w vis a))) * v t := by
  obtain ⟨p, h0, hpos, hE, h2⟩ := weights w vis hvis a ha
  simp only [hE, h2, ← coe_sum_real]
  have hne : (∑ t, p t) ≠ 0 := hpos.ne'
  rw [Ideal.div_coe hne, sum_mul_real _ _ _ (by positivity)]
  refine Finset.sum_congr rfl fun t _ => ?_
  rw [Ideal.div_coe hne]
  ac_rfl

end

end Cert.Moba

end
-- ==== Proof.Real.lean ====
/- The turned entries are real numbers when the gains and the tables are. -/
module

public import proofs.«01_k».proof.Proof.Spec
public import proofs.«01_k».proof.Proof.Softmax

@[expose] public section

set_option maxRecDepth 16384

noncomputable section

namespace Cert.Moba

open Idealize.ShloMosaic Cert.KernelIdeal

/-- A number of the line, neither infinity. -/
def IsReal (x : EReal) : Prop := ∃ r : ℝ, x = (r : EReal)

theorem IsReal.of_ne {x : EReal} (h : x ≠ ⊤) (h' : x ≠ ⊥) : IsReal x := ⟨x.toReal, (EReal.coe_toReal h h').symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩

theorem IsReal.exists_fun {ι : Type} {f : ι → EReal} (h : ∀ i, IsReal (f i)) : ∃ g : ι → ℝ, ∀ i, f i = (g i : EReal) :=
  ⟨fun i => (h i).choose, fun i => (h i).choose_spec⟩

theorem word_128 : Ideal.ofBits .f32 1124073472#32 = ((128 : ℝ) : EReal) := by
  simp [Ideal.ofBits, Ideal.ieee, -EReal.coe_mul]; norm_num

theorem word_eps : ∃ e : ℝ, 0 < e ∧ Ideal.ofBits .f32 897988541#32 = (e : EReal) := by
  simp [Ideal.ofBits, Ideal.ieee, -EReal.coe_mul]

/-- A square is not negative. -/
theorem square_nonneg (x : EReal) : 0 ≤ x * x := by
  induction x with
  | bot => simp
  | top => simp
  | coe r => rw [← EReal.coe_mul]; exact_mod_cast mul_self_nonneg r

/-- An entry times the reciprocal root of its row's mean square is real, whatever the row. -/
theorem scaled_real {n : ℕ} (x : Fin n → EReal) (j : Fin n) (N eps : ℝ) (hN : 0 < N) (he : 0 < eps) :
    IsReal (x j * Ideal.rsqrt (Ideal.div (∑ k, x k * x k) (N : EReal) + (eps : EReal))) := by
  have hdiv : ∀ y : EReal, Ideal.div y (N : EReal) = y * ((1 / N : ℝ) : EReal) := fun y => Ideal.div_coe hN.ne' y
  by_cases h : ∀ k, IsReal (x k)
  · obtain ⟨g, hg⟩ := IsReal.exists_fun h
    have hs : (∑ k, x k * x k) = ((∑ k, g k * g k : ℝ) : EReal) := by
      rw [coe_sum_real]
      exact Finset.sum_congr rfl fun k _ => by rw [hg, EReal.coe_mul]
    have hp : 0 < (∑ k, g k * g k) * (1 / N) + eps := by
      have : 0 ≤ ∑ k, g k * g k := Finset.sum_nonneg fun k _ => mul_self_nonneg _
      positivity
    rw [hs, hdiv, ← EReal.coe_mul, ← EReal.coe_add, Ideal.rsqrt_coe, if_neg (not_lt.mpr hp.le), if_neg hp.ne', hg]
    exact ⟨_, (EReal.coe_mul _ _).symm⟩
  · have ht : (∑ k, x k * x k) = ⊤ := by
      obtain ⟨k, hk⟩ := not_forall.mp h
      have hk' : x k * x k = ⊤ := by
        rcases eq_or_ne (x k) ⊤ with e | e
        · rw [e]; rfl
        · rcases eq_or_ne (x k) ⊥ with e' | e'
          · rw [e']; rfl
          · exact absurd (IsReal.of_ne e e') hk
      exact top_le_iff.mp (hk' ▸ Finset.single_le_sum (f := fun k => x k * x k) (fun k _ => square_nonneg (x k)) (Finset.mem_univ k))
    rw [ht, hdiv, EReal.top_mul_coe_of_pos (by positivity), EReal.top_add_coe, Ideal.rsqrt_top, mul_zero]
    exact ⟨0, rfl⟩

theorem unit_real {n : ℕ} (x : Fin n → EReal) (j : Fin n) (eps : ℝ) (he : 0 < eps) :
    IsReal (x j * Ideal.rsqrt (Ideal.div (∑ k, x k * x k) ((128 : ℝ) : EReal) + (eps : EReal))) :=
  scaled_real x j 128 eps (by norm_num) he

theorem normed_real (X : FVec Ideal S4x4096x6144 .f32) (G : FVec Ideal S1x128 .f32) (hG : ∀ i, IsReal (G i)) (b : Fin 4) (s : Fin 4096) (o : Fin 16) (d : Fin 128) :
    IsReal (normed X G b s o d) := by
  unfold normed
  obtain ⟨e, he, h⟩ := word_eps
  rw [word_128, h]
  exact (unit_real (fun k : Fin 128 => (X (ix3 b s ⟨o.val * 128 + k.val, by omega⟩) : EReal)) d e he).mul (hG _)

theorem turned_real (X : FVec Ideal S4x4096x6144 .f32) (G : FVec Ideal S1x128 .f32) (C S : FVec Ideal S4096x128 .f32) (hG : ∀ i, IsReal (G i))
    (hC : ∀ i, IsReal (C i)) (hS : ∀ i, IsReal (S i)) (b : Fin 4) (s : Fin 4096) (o : Fin 16) (d : Fin 128) : IsReal (turned X G C S b s o d) :=
  ((normed_real X G hG b s o d).mul (hC _)).add ((normed_real X G hG b s o _).mul (hS _))

end Cert.Moba

end
-- ==== Proof.Score.lean ====
/- One tile's attention is the attention over all positions, and the kernel's two results are the reference's. -/
module

public import proofs.«01_k».proof.Proof.RefOut
public import proofs.«01_k».proof.Proof.Real

@[expose] public section

set_option maxRecDepth 16384

noncomputable section

namespace Cert.KernelIdeal.Moba

open Idealize.ShloMosaic Idealize.ShloMosaic.TcCoe Idealize.SL.Sem
open Cert.KernelIdeal Cert.KernelIdeal.Gen Cert.Moba
open Cert.ReferenceIdeal.Moba (gateAt dotAt scoreAt outAt visible)

/-- The largest over `J` tiles of `T` positions each. -/
theorem sup_tiles {N : ℕ} (J T : ℕ) (hN : J * T = N) (hT : 0 < T) (f : Fin N → EReal) :
    (Finset.univ.sup fun n : Fin J => Finset.univ.sup fun k : Fin T => f ⟨n.val * T + k.val, by
      have hj := n.isLt; have ht := k.isLt; subst hN
      calc n.val * T + k.val < n.val * T + T := by omega
        _ = (n.val + 1) * T := by rw [Nat.add_mul, Nat.one_mul]
        _ ≤ J * T := Nat.mul_le_mul_right _ hj⟩) = Finset.univ.sup f := by
  apply le_antisymm
  · exact Finset.sup_le fun n _ => Finset.sup_le fun k _ => Finset.le_sup (f := f) (Finset.mem_univ _)
  · refine Finset.sup_le fun t _ => ?_
    have hj : t.val / T < J := Nat.div_lt_of_lt_mul (by rw [Nat.mul_comm, hN]; exact t.isLt)
    refine le_trans ?_ (Finset.le_sup (f := fun n : Fin J => Finset.univ.sup fun k : Fin T => f ⟨n.val * T + k.val, _⟩) (Finset.mem_univ (⟨t.val / T, hj⟩ : Fin J)))
    refine le_trans (le_of_eq ?_) (Finset.le_sup (Finset.mem_univ (⟨t.val % T, Nat.mod_lt _ hT⟩ : Fin T)))
    exact congrArg f (Fin.ext (Nat.div_add_mod' t.val T).symm)

/-- The mask over a tile's own block: nothing up to the query, `⊥` after it. -/
theorem own_mask (r k : Fin 256) : k2_pay5 (F := Ideal) (ix2 r k) = if k.val ≤ r.val then (0 : EReal) else ⊥ := by
  unfold_payloads
  pointwise [named_neg]
  rw [Cert.ReferenceIdeal.Moba.word_upto _ _ (by omega) (by omega), Scalar.select_decide]

/-- The lanes that name a block pick the block's own entry of the mask. -/
theorem mask_sum (P : Fin 16 → Prop) [DecidablePred P] (n : Fin 16) (inst : ∀ d : Fin 128, Decidable (∃ x : Fin 16, x.val = d.val ∧ P x)) :
    (∑ d : Fin 128, (if ∃ x : Fin 16, x.val = d.val ∧ P x then (0 : EReal) else ⊥) * (if n.val = d.val then (1 : EReal) else 0)) = if P n then 0 else ⊥ := by
  rw [Finset.sum_eq_single (⟨n.val, by omega⟩ : Fin 128) (fun d _ hd => by
    rw [if_neg (fun e : n.val = d.val => hd (Fin.ext e.symm)), mul_zero]) (fun hd => absurd (Finset.mem_univ _) hd)]
  rw [if_pos rfl, mul_one]
  refine if_congr ?_ rfl rfl
  constructor
  · rintro ⟨x, hx, hp⟩; rwa [← Fin.ext (a := x) (b := n) hx]
  · exact fun hp => ⟨n, rfl, hp⟩

variable (x0 : FVec Ideal S4x4096x6144 .f32) (x1 : FVec Ideal S4x4096x5120 .bf16) (x2 x3 : FVec Ideal S1x128 .f32) (x4 x5 : FVec Ideal S4096x64 .f32)

/-- The queries of the arguments. -/
abbrev qArr : FVec Ideal S4x4096x1024 .f32 := queryArray x0 x2 (twice x4) (signed x5)
/-- The mean keys of the arguments. -/
abbrev mArr : FVec Ideal S4x8x16x128 .f32 := meanArray x0 x3 (twice x4) (signed x5)
/-- The keys of the arguments. -/
abbrev kArr : FVec Ideal S4x4096x2048 .bf16 := keyArray x0 x3 (twice x4) (signed x5) named

theorem gates_eq (b : Fin 4) (h : Fin 8) (s : Fin 4096) : gates (qArr x0 x2 x4 x5) (mArr x0 x3 x4 x5) b h s = gateAt x0 x2 x3 x4 x5 b h s := by
  funext n
  unfold gates gateAt
  refine Finset.sum_congr rfl fun k _ => ?_
  rw [mul_comm]
  refine congrArg (fun y : EReal => y * _) ?_
  show turned x0 x2 (twice x4) (signed x5) b s _ _ = _
  congr 1 <;> exact Fin.ext (by dsimp [ix3]; omega)

theorem aug_low (b : Fin 4) (h : Fin 8) (s : Fin 4096) (d : Fin 128) :
    augArray (qArr x0 x2 x4 x5) (mArr x0 x3 x4 x5) (ix3 b s ⟨h.val * 256 + d.val, by omega⟩) = turned x0 x2 (twice x4) (signed x5) b s ⟨h.val, by omega⟩ d * scale2 := by
  unfold augArray
  have hc : (h.val * 256 + d.val) % 256 < 128 := by omega
  refine (if_pos hc).trans ?_
  refine congrArg (fun y : EReal => y * scale2) ?_
  show turned x0 x2 (twice x4) (signed x5) b s _ _ = _
  congr 1 <;> exact Fin.ext (by dsimp [ix3]; omega)

theorem aug_high (b : Fin 4) (h : Fin 8) (s : Fin 4096) (d : Fin 128) :
    augArray (qArr x0 x2 x4 x5) (mArr x0 x3 x4 x5) (ix3 b s ⟨h.val * 256 + (128 + d.val), by omega⟩)
      = if ∃ x : Fin 16, x.val = d.val ∧ kept (gateAt x0 x2 x3 x4 x5 b h s) ⟨s.val / 256, by omega⟩ x then (0 : EReal) else ⊥ := by
  unfold augArray
  have hc : ¬ (h.val * 256 + (128 + d.val)) % 256 < 128 := by omega
  refine (if_neg hc).trans ?_
  refine if_congr ?_ rfl rfl
  have e1 : (⟨(h.val * 256 + (128 + d.val)) / 256, by omega⟩ : Fin 8) = h := Fin.ext (by dsimp only; omega)
  have e2 : (h.val * 256 + (128 + d.val)) % 128 = d.val := by omega
  show (∃ x : Fin 16, x.val = (h.val * 256 + (128 + d.val)) % 128 ∧ kept (gates (qArr x0 x2 x4 x5) (mArr x0 x3 x4 x5) b ⟨(h.val * 256 + (128 + d.val)) / 256, _⟩ s) ⟨s.val / 256, _⟩ x) ↔ _
  rw [e1, e2, gates_eq]

theorem key_low (b : Fin 4) (h : Fin 8) (t : Fin 4096) (d : Fin 128) :
    kArr x0 x3 x4 x5 (ix3 b t ⟨h.val * 256 + d.val, by omega⟩) = turned x0 x3 (twice x4) (signed x5) b t ⟨8 + h.val, by omega⟩ d := by
  unfold kArr keyArray
  have hc : (h.val * 256 + d.val) % 256 < 128 := by omega
  refine (if_pos hc).trans ?_
  show turned x0 x3 (twice x4) (signed x5) b t _ _ = _
  congr 1 <;> exact Fin.ext (by dsimp [ix3]; omega)

theorem key_high (b : Fin 4) (h : Fin 8) (t : Fin 4096) (d : Fin 128) :
    kArr x0 x3 x4 x5 (ix3 b t ⟨h.val * 256 + (128 + d.val), by omega⟩) = if t.val / 256 = d.val then (1 : EReal) else 0 := by
  unfold kArr keyArray
  have hc : ¬ (h.val * 256 + (128 + d.val)) % 256 < 128 := by omega
  refine (if_neg hc).trans ?_
  unfold named
  have e2 : (h.val * 256 + (128 + d.val)) % 128 = d.val := by omega
  show (if t.val / 256 = (h.val * 256 + (128 + d.val)) % 128 then (1 : EReal) else 0) = _
  rw [e2]

/-- The scale the kernel names is the reference's, over the logarithm of two. -/
theorem scale2_eq : scale2 = ((11863283 / 134217728 * (Real.log 2)⁻¹ : ℝ) : EReal) := rfl

theorem score_word : Ideal.ofBits .f32 0x3DB504F3#32 = ((11863283 / 134217728 : ℝ) : EReal) := by
  simp [Ideal.ofBits, Ideal.ieee, -EReal.coe_mul]; norm_num

section tile

variable (b : Fin 4) (h : Fin 8) (T n : Fin 16) (r k : Fin 256)

theorem pair_score (s t : Fin 4096) (q : Fin 128 → ℝ) (kk : Fin 128 → ℝ)
    (hq : ∀ d, turned x0 x2 (twice x4) (signed x5) b s ⟨h.val, by omega⟩ d = (q d : EReal))
    (hk : ∀ d, turned x0 x3 (twice x4) (signed x5) b t ⟨8 + h.val, by omega⟩ d = (kk d : EReal)) :
    (∑ l : Fin 256, (augArray (qArr x0 x2 x4 x5) (mArr x0 x3 x4 x5) (ix3 b s ⟨h.val * 256 + l.val, by omega⟩) : EReal) * kArr x0 x3 x4 x5 (ix3 b t ⟨h.val * 256 + l.val, by omega⟩))
      = if kept (gateAt x0 x2 x3 x4 x5 b h s) ⟨s.val / 256, by omega⟩ ⟨t.val / 256, by omega⟩ then (((∑ d, q d * kk d) * (11863283 / 134217728 * (Real.log 2)⁻¹) : ℝ) : EReal) else ⊥ := by
  rw [Fin.sum_univ_two_halves 128 128 rfl]
  have e1 : (∑ d : Fin 128, (augArray (qArr x0 x2 x4 x5) (mArr x0 x3 x4 x5) (ix3 b s ⟨h.val * 256 + d.val, by omega⟩) : EReal) * kArr x0 x3 x4 x5 (ix3 b t ⟨h.val * 256 + d.val, by omega⟩))
      = (((∑ d, q d * kk d) * (11863283 / 134217728 * (Real.log 2)⁻¹) : ℝ) : EReal) := by
    rw [Finset.sum_mul, coe_sum_real]
    refine Finset.sum_congr rfl fun d _ => ?_
    rw [aug_low, key_low, hq, hk, scale2_eq, ← EReal.coe_mul, ← EReal.coe_mul]
    congr 1
    ring
  have e2 : (∑ d : Fin 128, (augArray (qArr x0 x2 x4 x5) (mArr x0 x3 x4 x5) (ix3 b s ⟨h.val * 256 + (128 + d.val), by omega⟩) : EReal) * kArr x0 x3 x4 x5 (ix3 b t ⟨h.val * 256 + (128 + d.val), by omega⟩))
      = if kept (gateAt x0 x2 x3 x4 x5 b h s) ⟨s.val / 256, by omega⟩ ⟨t.val / 256, by omega⟩ then 0 else ⊥ := by
    refine Eq.trans ?_ (mask_sum (kept (gateAt x0 x2 x3 x4 x5 b h s) ⟨s.val / 256, by omega⟩) ⟨t.val / 256, by omega⟩ (fun d => inferInstance))
    refine Finset.sum_congr rfl fun d _ => ?_
    rw [aug_high, key_high]
  refine (congr (congrArg (fun a b : EReal => a + b) e1) e2).trans ?_
  split
  · exact add_zero _
  · exact EReal.add_bot _

end tile

end Cert.KernelIdeal.Moba

end
-- ==== Proof.Final.lean ====
/- The kernel's two results are the two halves of the reference's. -/
module

public import proofs.«01_k».proof.Proof.Score

@[expose] public section

set_option maxRecDepth 16384

noncomputable section

namespace Cert.KernelIdeal.Moba

open Idealize.ShloMosaic Idealize.ShloMosaic.TcCoe Idealize.SL.Sem
open Cert.KernelIdeal Cert.KernelIdeal.Gen Cert.Moba
open Cert.ReferenceIdeal.Moba (gateAt dotAt scoreAt outAt visible)

variable (x0 : FVec Ideal S4x4096x6144 .f32) (x1 : FVec Ideal S4x4096x5120 .bf16) (x2 x3 : FVec Ideal S1x128 .f32) (x4 x5 : FVec Ideal S4096x64 .f32)

variable (b : Fin 4) (h : Fin 8) (T n : Fin 16) (r k : Fin 256)

/-- Row `x` of tile `T`. -/
def pos (T : Fin 16) (x : Fin 256) : Fin 4096 := ⟨T.val * 256 + x.val, by omega⟩

variable (q : Fin 128 → ℝ) (kk : Fin 4096 → Fin 128 → ℝ)
  (hq : ∀ d, turned x0 x2 (twice x4) (signed x5) b (pos T r) ⟨h.val, by omega⟩ d = (q d : EReal))
  (hk : ∀ t d, turned x0 x3 (twice x4) (signed x5) b t ⟨8 + h.val, by omega⟩ d = (kk t d : EReal))

/-- The real products. -/
def prod (q : Fin 128 → ℝ) (kk : Fin 4096 → Fin 128 → ℝ) (t : Fin 4096) : ℝ := ∑ d, q d * kk t d

/-- One head's queries at tile `T`. -/
abbrev qT : FVec Ideal S1x256x256 .bf16 := queryTile (augArray (qArr x0 x2 x4 x5) (mArr x0 x3 x4 x5)) b.val h.val T.val
/-- One head's keys. -/
abbrev kT : FVec Ideal S1x4096x256 .bf16 := keyCols (kArr x0 x3 x4 x5) b.val h.val

include hq hk in
theorem raw_score : raw (qT x0 x2 x3 x4 x5 b h T) (keyRows (kT x0 x3 x4 x5 b h) n.val) (ix2 r k)
    = if kept (gateAt x0 x2 x3 x4 x5 b h (pos T r)) T n then ((prod q kk (pos n k) * (11863283 / 134217728 * (Real.log 2)⁻¹) : ℝ) : EReal) else ⊥ := by
  rw [raw_at]
  have hp := pair_score x0 x2 x3 x4 x5 b h (pos T r) (pos n k) q (kk (pos n k)) hq (hk (pos n k))
  rw [show (⟨(pos T r).val / 256, by have := (pos T r).isLt; omega⟩ : Fin 16) = T from Fin.ext (by show (T.val * 256 + r.val) / 256 = T.val; omega),
    show (⟨(pos n k).val / 256, by have := (pos n k).isLt; omega⟩ : Fin 16) = n from Fin.ext (by show (n.val * 256 + k.val) / 256 = n.val; omega)] at hp
  refine Eq.trans (Finset.sum_congr rfl fun l _ => ?_) hp
  refine congr (congrArg (fun a b : EReal => a * b) ?_) ?_
  · refine congrArg (augArray (qArr x0 x2 x4 x5) (mArr x0 x3 x4 x5)) (funext fun a => ?_)
    match a with
    | ⟨0, _⟩ => exact Fin.ext (by show b.val % 4 = b.val; omega)
    | ⟨1, _⟩ => exact Fin.ext (by show (T.val * 256 + r.val) % 4096 = T.val * 256 + r.val; omega)
    | ⟨2, _⟩ => exact Fin.ext (by show (h.val * 256 + l.val) % 2048 = h.val * 256 + l.val; omega)
  · refine congrArg (kArr x0 x3 x4 x5) (funext fun a => ?_)
    match a with
    | ⟨0, _⟩ => exact Fin.ext (by show b.val % 4 = b.val; omega)
    | ⟨1, _⟩ => exact Fin.ext (by show (n.val * 256 + k.val) % 4096 = n.val * 256 + k.val; omega)
    | ⟨2, _⟩ => exact Fin.ext (by show (h.val * 256 + l.val) % 2048 = h.val * 256 + l.val; omega)

include hq hk in
theorem tile_seen : (tileScore (qT x0 x2 x3 x4 x5 b h T) (kT x0 x3 x4 x5 b h) T.val n.val (ix2 r k) : EReal)
    = seen (prod q kk) (visible (gateAt x0 x2 x3 x4 x5 b h (pos T r)) (pos T r)) (11863283 / 134217728 * (Real.log 2)⁻¹) (pos n k) := by
  have hr := raw_score x0 x2 x3 x4 x5 b h T n r k q kk hq hk
  have hT : (pos T r).val / 256 = T.val := by show (T.val * 256 + r.val) / 256 = T.val; omega
  have hn : (pos n k).val / 256 = n.val := by show (n.val * 256 + k.val) / 256 = n.val; omega
  have hn' : (⟨(pos n k).val / 256, by have := (pos n k).isLt; omega⟩ : Fin 16) = n := Fin.ext hn
  have hv : visible (gateAt x0 x2 x3 x4 x5 b h (pos T r)) (pos T r) (pos n k) ↔
      (n.val = T.val ∧ k.val ≤ r.val) ∨ (n.val < T.val ∧ rankOf (gateAt x0 x2 x3 x4 x5 b h (pos T r)) T.val n < 3) := by
    unfold visible
    rw [hn', hT, hn]
    refine or_congr (and_congr_right fun e => ?_) Iff.rfl
    show n.val * 256 + k.val ≤ T.val * 256 + r.val ↔ _
    rw [e]; omega
  unfold seen
  rw [if_congr hv rfl rfl]
  unfold tileScore
  by_cases h1 : n.val < T.val
  · rw [if_pos h1, hr]
    refine if_congr ?_ rfl rfl
    unfold kept
    have : n ≠ T := fun e => by rw [e] at h1; omega
    have : n.val ≠ T.val := h1.ne
    tauto
  · rw [if_neg h1]
    by_cases h2 : n.val = T.val
    · rw [if_pos h2]
      have e : n = T := Fin.ext h2
      show (raw _ _ (ix2 r k) : EReal) + k2_pay5 (F := Ideal) (ix2 r k) = _
      rw [hr, own_mask, if_pos (show kept _ T n from Or.inr e)]
      by_cases h3 : k.val ≤ r.val
      · rw [if_pos h3, if_pos (Or.inl ⟨h2, h3⟩), add_zero]
      · rw [if_neg h3, if_neg (by tauto), EReal.add_bot]
    · rw [if_neg h2, if_neg (by tauto)]

include hq hk in
/-- One entry of one tile is the reference's entry. -/
theorem tile_out (d : Fin 128) : tileOut (qT x0 x2 x3 x4 x5 b h T) (kT x0 x3 x4 x5 b h) (valueCols x1 b.val h.val) T.val r d
    = outAt x0 x1 x2 x3 x4 x5 b h (pos T r) d := by
  have hvis : ∃ t, visible (gateAt x0 x2 x3 x4 x5 b h (pos T r)) (pos T r) t := ⟨pos T r, Or.inl ⟨rfl, le_rfl⟩⟩
  have hs : ∀ (n : Fin 16) (k : Fin 256), (tileScore (qT x0 x2 x3 x4 x5 b h T) (kT x0 x3 x4 x5 b h) T.val n.val (ix2 r k) : EReal)
      = seen (prod q kk) (visible (gateAt x0 x2 x3 x4 x5 b h (pos T r)) (pos T r)) (11863283 / 134217728 * (Real.log 2)⁻¹) (pos n k) :=
    fun n k => tile_seen x0 x2 x3 x4 x5 b h T n r k q kk hq hk
  have hb : tileBest (qT x0 x2 x3 x4 x5 b h T) (kT x0 x3 x4 x5 b h) T.val r
      = Finset.univ.sup (seen (prod q kk) (visible (gateAt x0 x2 x3 x4 x5 b h (pos T r)) (pos T r)) (11863283 / 134217728 * (Real.log 2)⁻¹)) := by
    unfold tileBest best
    simp only [hs]
    exact sup_tiles 16 256 rfl (by norm_num) _
  have hw : ∀ t, scoreAt x0 x2 x3 x4 x5 b h (pos T r) t = seen (prod q kk) (visible (gateAt x0 x2 x3 x4 x5 b h (pos T r)) (pos T r)) (11863283 / 134217728) t := fun t => by
    unfold scoreAt seen dotAt prod
    refine if_congr Iff.rfl ?_ rfl
    rw [score_word, EReal.coe_mul, coe_sum_real]
    refine congrArg (fun y : EReal => y * _) (Finset.sum_congr rfl fun d _ => ?_)
    rw [hq, hk, EReal.coe_mul]
  unfold tileOut outAt num den
  rw [hb]
  simp only [hs, hw]
  have hm := attend_eq (prod q kk) (visible (gateAt x0 x2 x3 x4 x5 b h (pos T r)) (pos T r)) hvis (11863283 / 134217728) (by norm_num)
    (fun t => (x1 (ix3 b t ⟨h.val * 128 + d.val, by omega⟩) : EReal))
  rw [Fin.sum_univ_tiles 16 256 rfl, Fin.sum_univ_tiles 16 256 rfl] at hm
  refine Eq.trans ?_ (hm.trans ?_)
  · refine congrArg (fun y => Ideal.div y _) (Finset.sum_congr rfl fun n _ => Finset.sum_congr rfl fun k _ => ?_)
    refine congr (congrArg (fun a b : EReal => a * b) rfl) (congrArg x1 (funext fun a => ?_))
    match a with
    | ⟨0, _⟩ => exact Fin.ext (by show b.val % 4 = b.val; omega)
    | ⟨1, _⟩ => exact Fin.ext (by show (n.val * 256 + k.val) % 4096 = n.val * 256 + k.val; omega)
    | ⟨2, _⟩ => exact Fin.ext (by show (h.val * 128 + d.val) % 5120 = h.val * 128 + d.val; omega)
  · have he : scoreAt x0 x2 x3 x4 x5 b h (pos T r) = seen (prod q kk) (visible (gateAt x0 x2 x3 x4 x5 b h (pos T r)) (pos T r)) (11863283 / 134217728) := funext hw
    rw [he]

/-- A table written twice is real when the table is. -/
theorem twice_real (C : FVec Ideal S4096x64 .f32) (hC : ∀ i, IsReal (C i)) : ∀ i, IsReal (twice C i) := fun i => hC _
theorem signed_real (C : FVec Ideal S4096x64 .f32) (hC : ∀ i, IsReal (C i)) : ∀ i, IsReal (signed C i) := fun i => by
  unfold signed
  split
  · exact (hC _).neg
  · exact hC _

/-- Either half of the kernel's result, entry by entry. -/
theorem half_out (h2 : ∀ i, IsReal (x2 i)) (h3 : ∀ i, IsReal (x3 i)) (h4 : ∀ i, IsReal (x4 i)) (h5 : ∀ i, IsReal (x5 i)) (T0 : ℕ) (hT0 : T0 ≤ 8)
    (i : S4x2048x1024.Idx) : attArray (augArray (qArr x0 x2 x4 x5) (mArr x0 x3 x4 x5)) (kArr x0 x3 x4 x5) x1 T0 i
      = outAt x0 x1 x2 x3 x4 x5 (i 0) ⟨(i 2).val / 128, by have : (i 2).val < 1024 := (i 2).isLt; omega⟩
        ⟨T0 * 256 + (i 1).val, by have : (i 1).val < 2048 := (i 1).isLt; omega⟩ ⟨(i 2).val % 128, by omega⟩ := by
  have hi1 : (i 1).val < 2048 := (i 1).isLt
  have hi2 : (i 2).val < 1024 := (i 2).isLt
  obtain ⟨q, hq⟩ := IsReal.exists_fun fun d => turned_real x0 x2 (twice x4) (signed x5) h2 (twice_real x4 h4) (signed_real x5 h5) (i 0)
    (pos ⟨T0 + (i 1).val / 256, by omega⟩ ⟨(i 1).val % 256, by omega⟩) ⟨(i 2).val / 128, by omega⟩ d
  have hk0 : ∀ t, ∃ f : Fin 128 → ℝ, ∀ d, turned x0 x3 (twice x4) (signed x5) (i 0) t ⟨8 + (i 2).val / 128, by omega⟩ d = (f d : EReal) := fun t =>
    IsReal.exists_fun fun d => turned_real x0 x3 (twice x4) (signed x5) h3 (twice_real x4 h4) (signed_real x5 h5) (i 0) t ⟨8 + (i 2).val / 128, by omega⟩ d
  refine (tile_out x0 x1 x2 x3 x4 x5 (i 0) ⟨(i 2).val / 128, by omega⟩ ⟨T0 + (i 1).val / 256, by omega⟩ ⟨(i 1).val % 256, by omega⟩ q
    (fun t => (hk0 t).choose) hq (fun t => (hk0 t).choose_spec) ⟨(i 2).val % 128, by omega⟩).trans ?_
  refine congrArg (fun s => outAt x0 x1 x2 x3 x4 x5 (i 0) _ s _) (Fin.ext ?_)
  show (T0 + (i 1).val / 256) * 256 + (i 1).val % 256 = T0 * 256 + (i 1).val
  omega

end Cert.KernelIdeal.Moba

end
-- ==== Proof.Claim.lean ====
/- The precondition read as real numbers, and the claim about the two results. -/
module

public import proofs.«01_k».proof.Defs
public import proofs.«01_k».proof.Proof.Run
public import proofs.«01_k».proof.Proof.Chain
public import proofs.«01_k».proof.Proof.Final
public import proofs.«01_k».proof.Proof.Gen.Pre_finite
public import Idealize.ShloMosaic.Lib.Claim
public import Idealize.ShloMosaic.Lib.ReduceAll

@[expose] public section

set_option maxRecDepth 16384
set_option maxHeartbeats 400000

noncomputable section

namespace Cert.KernelIdeal.Moba

open Idealize.ShloMosaic Idealize.ShloMosaic.TcCoe Idealize.SL.Sem
open Cert.KernelIdeal Cert.KernelIdeal.Gen Cert.Moba
open Cert.ReferenceIdeal.Moba (outAt result_ref)

/-- A number whose absolute value is below the top is real. -/
theorem real_of_below (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  refine IsReal.of_ne (fun e => ?_) (fun e => ?_)
  all_goals rw [e] at h'; simp at h'

variable (x0 : FVec Ideal S4x4096x6144 .f32) (x1 : FVec Ideal S4x4096x5120 .bf16) (x2 x3 : FVec Ideal S1x128 .f32) (x4 x5 : FVec Ideal S4096x64 .f32)

theorem all_real [Cert.Pre_finite.Facts] (h : Cert.Pre_finite.fn (F := Ideal) x0 x1 x2 x3 x4 x5 = fun _ => 1#1) :
    (∀ i, IsReal (x2 i)) ∧ (∀ i, IsReal (x3 i)) ∧ (∀ i, IsReal (x4 i)) ∧ (∀ i, IsReal (x5 i)) := by
  have hj := congrFun h (fun a => a.elim0)
  dsimp only [Cert.Pre_finite.fn, Cert.Pre_finite.fn_part1] at hj
  obtain ⟨h123, h4⟩ := IntOp.andi_eq_one.1 hj
  obtain ⟨h12, h3⟩ := IntOp.andi_eq_one.1 h123
  obtain ⟨h1, h2⟩ := IntOp.andi_eq_one.1 h12
  have : Subsingleton Cert.Pre_finite.S_.Idx := ⟨fun a b => funext fun k => k.elim0⟩
  exact ⟨fun i => real_of_below _ (Host.reduce_andi_all _ _ _ _ _ h1 i), fun i => real_of_below _ (Host.reduce_andi_all _ _ _ _ _ h2 i),
    fun i => real_of_below _ (Host.reduce_andi_all _ _ _ _ _ h3 i), fun i => real_of_below _ (Host.reduce_andi_all _ _ _ _ _ h4 i)⟩

theorem first_same (h2 : ∀ i, IsReal (x2 i)) (h3 : ∀ i, IsReal (x3 i)) (h4 : ∀ i, IsReal (x4 i)) (h5 : ∀ i, IsReal (x5 i)) :
    attArray (augArray (qArr x0 x2 x4 x5) (mArr x0 x3 x4 x5)) (kArr x0 x3 x4 x5) x1 0
      = Cert.ReferenceIdeal.Read.val_main_v166 (F := Ideal) x0 x1 x2 x3 x4 x5 := by
  funext i
  rw [half_out x0 x1 x2 x3 x4 x5 h2 h3 h4 h5 0 (by norm_num), Cert.ReferenceIdeal.Read.val_main_v166_apply]
  refine Eq.trans ?_ (result_ref x0 x1 x2 x3 x4 x5 (i 0) ⟨(i 1).val, by have : (i 1).val < 2048 := (i 1).isLt; omega⟩ (i 2)).symm
  exact congrArg (fun s => outAt x0 x1 x2 x3 x4 x5 (i 0) _ s _) (Fin.ext (by show 0 * 256 + (i 1).val = (i 1).val; omega))

theorem second_same (h2 : ∀ i, IsReal (x2 i)) (h3 : ∀ i, IsReal (x3 i)) (h4 : ∀ i, IsReal (x4 i)) (h5 : ∀ i, IsReal (x5 i)) :
    attArray (augArray (qArr x0 x2 x4 x5) (mArr x0 x3 x4 x5)) (kArr x0 x3 x4 x5) x1 8
      = Cert.ReferenceIdeal.Read.val_main_v167 (F := Ideal) x0 x1 x2 x3 x4 x5 := by
  funext i
  rw [half_out x0 x1 x2 x3 x4 x5 h2 h3 h4 h5 8 (by norm_num), Cert.ReferenceIdeal.Read.val_main_v167_apply]
  refine Eq.trans ?_ (result_ref x0 x1 x2 x3 x4 x5 (i 0) ⟨2048 + (i 1).val, by have : (i 1).val < 2048 := (i 1).isLt; omega⟩ (i 2)).symm
  exact congrArg (fun s => outAt x0 x1 x2 x3 x4 x5 (i 0) _ s _) (Fin.ext (by show 8 * 256 + (i 1).val = 2048 + (i 1).val; omega))

/-- The reference's first result, from the kernel's arguments. -/
def outA (m : (ℓ : Loc nD τ sig) → Buf (Elt Ideal) ℓ) (c : Dev nD) : FVec Ideal S4x2048x1024 .bf16 :=
  Cert.ReferenceIdeal.Read.val_main_v166 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
/-- The reference's second result, from the kernel's arguments. -/
def outB (m : (ℓ : Loc nD τ sig) → Buf (Elt Ideal) ℓ) (c : Dev nD) : FVec Ideal S4x2048x1024 .bf16 :=
  Cert.ReferenceIdeal.Read.val_main_v167 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- Over the extended reals the kernel's two results are the reference's. -/
theorem algebraic [Cert.Pre_finite.Facts] : Cert.algebraic_KernelIdeal_ReferenceIdeal := by
  intro m g m' g' hpre hag
  refine ⟨outA m, outB m, (θ_run defs _ _).mono (fun r h c => ?_) (run_results m g),
    (θ_run Cert.ReferenceIdeal.defs _ _).mono (fun r h c => ?_) (Cert.ReferenceIdeal.Value.run (F := Ideal) m' g')⟩
  · obtain ⟨hr0, hr1, hargs⟩ := h c
    obtain ⟨h2, h3, h4, h5⟩ := all_real _ _ _ _ _ _ (hpre c)
    exact ⟨hr0.trans ((first_held m g c).trans (first_same _ _ _ _ _ _ h2 h3 h4 h5)),
      hr1.trans ((second_held m g c).trans (second_same _ _ _ _ _ _ h2 h3 h4 h5)), hargs⟩
  · obtain ⟨hr0, hr1, hargs⟩ := h c
    obtain ⟨a0, a1, a2, a3, a4, a5⟩ := hag c
    refine ⟨hr0.trans ((Cert.ReferenceIdeal.Read.val_main_v166_eq (StableHlo.launchContents m' c)).trans ?_),
      hr1.trans ((Cert.ReferenceIdeal.Read.val_main_v167_eq (StableHlo.launchContents m' c)).trans ?_), hargs⟩
    · rw [StableHlo.launchContents_devRef, StableHlo.launchContents_devRef, StableHlo.launchContents_devRef, StableHlo.launchContents_devRef, StableHlo.launchContents_devRef, StableHlo.launchContents_devRef, a0, a1, a2, a3, a4, a5]
      rfl
    · rw [StableHlo.launchContents_devRef, StableHlo.launchContents_devRef, StableHlo.launchContents_devRef, StableHlo.launchContents_devRef, StableHlo.launchContents_devRef, StableHlo.launchContents_devRef, a0, a1, a2, a3, a4, a5]
      rfl

end Cert.KernelIdeal.Moba

end
-- ==== Proof.Layer.lean ====
/- A row's root mean square norm over 1024 columns, and the columns of the projection the narrow call takes. -/
module

public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.Layer

open Idealize.ShloMosaic Cert.Kernel3Ideal

/-- Entry `k` of row `r` of `X`, divided by the row's root mean square and scaled by the gain. -/
def rowNorm (X : FVec Ideal S16384x1024 .f32) (G : FVec Ideal S1x1024 .f32) (r : Fin 16384) (k : Fin 1024) : EReal :=
  X (ix2 r k) * Ideal.rsqrt (Ideal.div (∑ q : Fin 1024, X (ix2 r q) * X (ix2 r q)) (Ideal.ofBits .f32 0x44800000#32)
      + Ideal.ofBits .f32 0x358637BD#32) * G (ix2 0 k)

/-- The same of position `s` of batch `b`. -/
def posNorm (x : FVec Ideal S4x4096x1024 .f32) (g : FVec Ideal S1024 .f32) (b : Fin 4) (s : Fin 4096) (k : Fin 1024) : EReal :=
  x (ix3 b s k) * Ideal.rsqrt (Ideal.div (∑ q : Fin 1024, x (ix3 b s q) * x (ix3 b s q)) (Ideal.ofBits .f32 0x44800000#32)
      + Ideal.ofBits .f32 0x358637BD#32) * g (ix1 k)

/-- Rows are positions batch by batch. -/
theorem rowNorm_of (x : FVec Ideal S4x4096x1024 .f32) (g : FVec Ideal S1024 .f32) (X : FVec Ideal S16384x1024 .f32) (G : FVec Ideal S1x1024 .f32)
    (hX : ∀ (r : Fin 16384) (k : Fin 1024), X (ix2 r k) = x (ix3 ⟨r.val / 4096, by omega⟩ ⟨r.val % 4096, by omega⟩ k))
    (hG : ∀ k : Fin 1024, G (ix2 0 k) = g (ix1 k)) (r : Fin 16384) (k : Fin 1024) :
    rowNorm X G r k = posNorm x g ⟨r.val / 4096, by omega⟩ ⟨r.val % 4096, by omega⟩ k := by
  unfold rowNorm posNorm
  simp only [hX, hG]

theorem zero_word : Ideal.ofBits .f32 0x00000000#32 = 0 := by
  simp [Ideal.ofBits, Ideal.ieee, -EReal.coe_mul]

/-- The projection's column that column `n` of the narrow result is. -/
def colOf (n : Fin 5120) : Fin 11280 :=
  if n.val < 1024 then ⟨2048 + n.val, by omega⟩ else if n.val < 2048 then ⟨6160 + (n.val - 1024), by omega⟩ else ⟨8208 + (n.val - 2048), by omega⟩

/-- One entry of the narrow result: the normalised row against one column of the projection. -/
def narrowAt (x : FVec Ideal S4x4096x1024 .f32) (g : FVec Ideal S1024 .f32) (w : FVec Ideal S1024x11280 .f32) (r : Fin 16384) (n : Fin 5120) : EReal :=
  ∑ k : Fin 1024, posNorm x g ⟨r.val / 4096, by omega⟩ ⟨r.val % 4096, by omega⟩ k * w (ix2 k (colOf n))

end Cert.Layer

end
-- ==== Proof.InB.lean ====
/- The narrow projection's call: what its result array holds when it ends. -/
module

public import proofs.«01_k».proof.Proof.Layer
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

namespace Cert.Kernel3Ideal.Layer

open Idealize.ShloMosaic Idealize.ShloMosaic.TcCoe Idealize.SL.Sem
open Idealize.ShloMosaic.Pipeline (Dat)
open Cert.Kernel3Ideal Cert.Kernel3Ideal.Gen Cert.Layer

variable (m : (ℓ : Loc nD τ sig) → Buf (Elt Ideal) ℓ)

theorem idx : ∀ t : Fin cfg0.N,
    win0_0.index t = ![t.val / 5, 0] ∧ win0_1.index t = ![0, 0] ∧ win0_2.index t = ![0, t.val % 5] ∧ win0_3.index t = ![t.val / 5, t.val % 5] :=
  (by decide +kernel : ∀ t : Fin grid0.N, _)

/-- The normalised rows a run of five points shares. -/
def rows (c : Dev nD) (t : Fin cfg0.N) : FVec Ideal S1024x1024 .bf16 := fun y =>
  rowNorm (V m c main_v0) (V m c main_v6) ⟨t.val / 5 * 1024 + (y 0).val, by have := (y 0).isLt; have : t.val < 80 := t.isLt; show _ < 16384; simp at *; omega⟩ (y 1)

theorem rows_at (c : Dev nD) (t : Fin cfg0.N) (y) : k0_pay1 (iblk m c 0 t) (iblk m c 1 t) y = rows m c t y := by
  unfold rows rowNorm
  unfold_payloads
  pointwise
  blk_point [iblk, V, idx t]

theorem kept_rows (c : Dev nD) (t : Fin cfg0.N) (y) :
    (outsAt0 m c t.val t.isLt).2 y = rows m c ⟨5 * (t.val / 5), Pipeline.run_start_lt t⟩ y := by
  refine Pipeline.eq_of_write_hold_apply (fun n h => (outsAt0 m c n h).2) 5 (rows m c) (fun t h y => ?_) (fun t h y => ?_) t y
  · rw [outsAt0_A m c t h]; dsimp only; unfold sout0_A_0; frame_out
    exact rows_at m c t y
  · rw [outsAt0_B m c t h]; rfl

/-- The call's result array from its prepared arrays. -/
def product (X : FVec Ideal S16384x1024 .f32) (G : FVec Ideal S1x1024 .f32) (W : FVec Ideal S1024x5120 .bf16) : FVec Ideal S16384x5120 .bf16 := fun i =>
  ∑ k : Fin 1024, rowNorm X G (i 0) k * W (ix2 k (i 1))

theorem run_block (n : ℕ) : 5 * (n / 5) / 5 = n / 5 := by omega

/-- The rows are those of the run's first point. -/
theorem rows_run (c : Dev nD) (t : Fin cfg0.N) : rows m c ⟨5 * (t.val / 5), Pipeline.run_start_lt t⟩ = rows m c t := by
  funext y
  unfold rows
  exact congrArg (fun r => rowNorm (V m c main_v0) (V m c main_v6) r (y 1)) (Fin.ext (congrArg (fun q => q * 1024 + (y 0).val) (run_block t.val)))

theorem product_at (c : Dev nD) (t : Fin cfg0.N) (y) :
    k0_pay2 (rows m c t) (iblk m c 2 t) y
      = product (V m c main_v0) (V m c main_v6) (V m c main_v5) (((cfg0.win 3).blk t).view.emb y) := by
  unfold product rows
  unfold_payloads
  pointwise
  blk_point [iblk, V, idx t]

theorem result_held (c : Dev nD) : (dats m 0 c).arrAt 3 cfg0.N = product (V m c main_v0) (V m c main_v6) (V m c main_v5) := by
  refine (dats m 0 c).arrAt_eq_of_covers 3 _ (by decide +kernel) fun t hf y => ?_
  blk_simp
  rw [after0_3]
  by_cases h : t.val % 5 = 0
  · rw [outsAt0_A m c t h]; dsimp only; unfold out0_A_3; frame_out
    have e : (k0_pay1 (iblk m c 0 t) (iblk m c 1 t)) = rows m c t := funext fun y => rows_at m c t y
    rw [e]
    exact product_at m c t y
  · rw [outsAt0_B m c t h]; dsimp only; unfold out0_B_3; frame_out
    have e : (outsAt0 m c (t.val - 1) (Nat.lt_of_le_of_lt (Nat.sub_le _ _) t.isLt)).2 = rows m c ⟨5 * (t.val / 5), Pipeline.run_start_lt t⟩ := by
      refine funext fun y => (kept_rows m c ⟨t.val - 1, Nat.lt_of_le_of_lt (Nat.sub_le _ _) t.isLt⟩ y).trans ?_
      exact congrArg (fun u => rows m c u y) (Fin.ext (by show 5 * ((t.val - 1) / 5) = 5 * (t.val / 5); omega))
    rw [e, rows_run, read_unread_whole]
    exact product_at m c t y

/-! ### The prepared arrays -/

theorem rows_prepared (c : Dev nD) (r : Fin 16384) (k : Fin 1024) :
    (V m c main_v0 : FVec Ideal S16384x1024 .f32) (ix2 r k) = (m ((c : Thread nD τ).loc main_arg0) : FVec Ideal S4x4096x1024 .f32) (ix3 ⟨r.val / 4096, by omega⟩ ⟨r.val % 4096, by omega⟩ k) := by
  unfold V
  after_results
  pointwise

theorem gain_prepared (c : Dev nD) (k : Fin 1024) :
    (V m c main_v6 : FVec Ideal S1x1024 .f32) (ix2 0 k) = (m ((c : Thread nD τ).loc main_arg1) : FVec Ideal S1024 .f32) (ix1 k) := by
  unfold V
  after_results
  pointwise

theorem joined (w : FVec Ideal S1024x11280 .f32) (k : Fin 1024) (n : Fin 5120) :
    (truncf .bf16 (concatenate S1024x5120 1 [⟨S1024x1024, extractStridedSlice S1024x1024 ![0, 2048] w slices_S1024x11280_S1024x1024_0_2048⟩,
      ⟨S1024x1024, extractStridedSlice S1024x1024 ![0, 6160] w slices_S1024x11280_S1024x1024_0_6160⟩,
      ⟨S1024x3072, extractStridedSlice S1024x3072 ![0, 8208] w slices_S1024x11280_S1024x3072_0_8208⟩]
      concatenates_S1024x1024_S1024x1024_S1024x3072_S1024x5120_d1) bitsLt_bf16_f32 : FVec Ideal S1024x5120 .bf16) (ix2 k n) = w (ix2 k (colOf n)) := by
  unfold colOf
  pointwise
  by_cases h1 : n.val < 1024
  · rw [dif_pos h1, if_pos h1]
  · rw [dif_neg h1, if_neg h1]
    by_cases h2 : n.val < 2048
    · rw [dif_pos (show n.val - 1024 < 1024 by omega), if_pos h2]
    · rw [dif_neg (show ¬ n.val - 1024 < 1024 by omega), if_neg h2]
      exact congrArg w (congrArg (ix2 k) (Fin.ext (by dsimp only; omega)))

theorem weights_prepared (c : Dev nD) (k : Fin 1024) (n : Fin 5120) :
    (V m c main_v5 : FVec Ideal S1024x5120 .bf16) (ix2 k n) = (m ((c : Thread nD τ).loc main_arg2) : FVec Ideal S1024x11280 .f32) (ix2 k (colOf n)) := by
  refine Eq.trans ?_ (joined _ k n)
  unfold V
  after_results
  rfl

/-- The result array, from the kernel's arguments. -/
theorem result_entry (c : Dev nD) (i : S16384x5120.Idx) :
    product (V m c main_v0) (V m c main_v6) (V m c main_v5) i
      = narrowAt (m ((c : Thread nD τ).loc main_arg0)) (m ((c : Thread nD τ).loc main_arg1)) (m ((c : Thread nD τ).loc main_arg2)) (i 0) (i 1) := by
  unfold product narrowAt
  refine Finset.sum_congr rfl fun k _ => ?_
  exact congrArg₂ (fun a b : EReal => a * b) (rowNorm_of _ _ _ _ (rows_prepared m c) (gain_prepared m c) (i 0) k) (weights_prepared m c k (i 1))

end Cert.Kernel3Ideal.Layer

end
-- ==== Proof.InBRef.lean ====
/- The narrow projection's reference, entry by entry. -/
module

public import proofs.«01_k».proof.Proof.Layer
public import proofs.«01_k».proof.Proof.Gen.Reference3Ideal.Read

@[expose] public section

set_option maxRecDepth 16384

noncomputable section

namespace Cert.Reference3Ideal.Layer

open Idealize.ShloMosaic Idealize.ShloMosaic.TcCoe Idealize.SL.Sem
open Cert.Reference3Ideal Cert.Reference3Ideal.Read Cert.Layer

variable (x0 : FVec Ideal S4x4096x1024 .f32) (x1 : FVec Ideal S1024 .f32) (x2 : FVec Ideal S1024x11280 .f32)

theorem normed_ref (b : Fin 4) (s : Fin 4096) (k : Fin 1024) : val_main_v12 (F := Ideal) x0 x1 (ix3 b s k) = posNorm x0 x1 b s k := by
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply]
  simp only [val_main_v0_apply, val_main_cst_apply, val_main_cst_0_apply, val_main_cst_1_apply]
  unfold posNorm
  show (_ * Ideal.rsqrt (Ideal.div (Ideal.ofBits .f32 0x00000000#32 + _) _ + _)) * _ = _
  rw [zero_word, zero_add]
  have e : ∀ q : Fin 1024, idx_main_v1 (idx_main_v2 (idx_main_v8 (ix3 b s k))) q = ix3 b s q := fun q => funext fun a => by
    match a with
    | ⟨0, _⟩ => rfl
    | ⟨1, _⟩ => rfl
    | ⟨2, _⟩ => rfl
  have e1 : idx_main_v10 (idx_main_v11 (ix3 b s k)) = ix1 k := funext fun a => by
    match a with
    | ⟨0, _⟩ => rfl
  simp only [e, e1]
  rfl

theorem product_ref (b : Fin 4) (s : Fin 4096) (n : Fin 11280) :
    val_main_v13 (F := Ideal) x0 x1 x2 (ix3 b s n) = ∑ k : Fin 1024, posNorm x0 x1 b s k * x2 (ix2 k n) := by
  rw [val_main_v13_apply]
  refine Finset.sum_congr rfl fun k _ => ?_
  rw [← normed_ref, show lidx_main_v13 (ix3 b s n) k = ix3 b s k from funext fun a => by
    match a with
    | ⟨0, _⟩ => rfl
    | ⟨1, _⟩ => rfl
    | ⟨2, _⟩ => rfl,
    show ridx_main_v13 (ix3 b s n) k = ix2 k n from funext fun a => by
    match a with
    | ⟨0, _⟩ => rfl
    | ⟨1, _⟩ => rfl]

theorem columns_ref (b : Fin 4) (s : Fin 4096) (n : Fin 5120) :
    val_main_v17 (F := Ideal) x0 x1 x2 (ix3 b s n) = val_main_v13 (F := Ideal) x0 x1 x2 (ix3 b s (colOf n)) := by
  unfold val_main_v17 colOf
  pointwise
  by_cases h1 : n.val < 1024
  · rw [dif_pos h1, if_pos h1, val_main_v14_apply]
    exact congrArg (val_main_v13 (F := Ideal) x0 x1 x2) (funext fun a => by
      match a with
      | ⟨0, _⟩ => rfl
      | ⟨1, _⟩ => rfl
      | ⟨2, _⟩ => rfl)
  · rw [dif_neg h1, if_neg h1]
    by_cases h2 : n.val < 2048
    · rw [dif_pos (show n.val - 1024 < 1024 by omega), if_pos h2, val_main_v15_apply]
      exact congrArg (val_main_v13 (F := Ideal) x0 x1 x2) (funext fun a => by
        match a with
        | ⟨0, _⟩ => rfl
        | ⟨1, _⟩ => rfl
        | ⟨2, _⟩ => rfl)
    · rw [dif_neg (show ¬ n.val - 1024 < 1024 by omega), if_neg h2, val_main_v16_apply]
      exact congrArg (val_main_v13 (F := Ideal) x0 x1 x2) (funext fun a => by
        match a with
        | ⟨0, _⟩ => rfl
        | ⟨1, _⟩ => rfl
        | ⟨2, _⟩ => exact Fin.ext (by show 8208 + (n.val - 1024 - 1024) = 8208 + (n.val - 2048); omega))

theorem result_ref (i : S16384x5120.Idx) : val_main_v19 (F := Ideal) x0 x1 x2 i = narrowAt x0 x1 x2 (i 0) (i 1) := by
  rw [val_main_v19_apply]
  show val_main_v18 (F := Ideal) x0 x1 x2 i = _
  rw [val_main_v18_apply]
  have hi : (i 1).val < 5120 := (i 1).isLt
  have hr : (i 0).val < 16384 := (i 0).isLt
  have e : idx_main_v18 i = ix3 ⟨(i 0).val / 4096, by omega⟩ ⟨(i 0).val % 4096, by omega⟩ ⟨(i 1).val, hi⟩ := funext fun a => by
    match a with
    | ⟨0, _⟩ => refine Fin.ext ?_; simp [ix3]; omega
    | ⟨1, _⟩ => refine Fin.ext ?_; simp [ix3]; omega
    | ⟨2, _⟩ => refine Fin.ext ?_; simp [ix3]; omega
  rw [e, columns_ref, product_ref]
  rfl

end Cert.Reference3Ideal.Layer

end
-- ==== Proof.InBClaim.lean ====
/- The claim about the narrow projections' result. -/
module

public import proofs.«01_k».proof.Defs
public import proofs.«01_k».proof.Proof.InB
public import proofs.«01_k».proof.Proof.InBRef
public import Idealize.ShloMosaic.Lib.Claim

@[expose] public section

set_option maxRecDepth 16384
set_option maxHeartbeats 400000

noncomputable section

namespace Cert.Kernel3Ideal.Layer

open Idealize.ShloMosaic Idealize.ShloMosaic.TcCoe Idealize.SL.Sem
open Cert.Kernel3Ideal Cert.Kernel3Ideal.Gen

/-- The reference's result, from the kernel's arguments. -/
def out (m : (ℓ : Loc nD τ sig) → Buf (Elt Ideal) ℓ) (c : Dev nD) : FVec Ideal S16384x5120 .bf16 :=
  Cert.Reference3Ideal.Read.val_main_v19 (F := Ideal) (m ((c.tc : Thread nD τ).loc main_arg0)) (m ((c.tc : Thread nD τ).loc main_arg1)) (m ((c.tc : Thread nD τ).loc main_arg2))

theorem result_same (m : (ℓ : Loc nD τ sig) → Buf (Elt Ideal) ℓ) (c : Dev nD) : (dats m 0 c).arrAt 3 cfg0.N = out m c :=
  (result_held m c).trans (funext fun i => (result_entry m c i).trans (Cert.Reference3Ideal.Layer.result_ref _ _ _ i).symm)

/-- Over the extended reals the kernel's result is the reference's. -/
theorem algebraic : Cert.algebraic_Kernel3Ideal_Reference3Ideal := by
  intro m g m' g' hpre hag
  refine ⟨out m, ?_, (θ_run Cert.Reference3Ideal.defs _ _).mono (fun r h c => ?_) (Cert.Reference3Ideal.Value.run (F := Ideal) m' g')⟩
  · run_from Gen.run_main m g & Gen.unchanged m g
    exact result_same m c
  · obtain ⟨hr, hargs⟩ := h c
    obtain ⟨a0, a1, a2⟩ := hag c
    refine ⟨hr.trans ((Cert.Reference3Ideal.Read.val_main_v19_eq _ _ _).trans ?_), hargs⟩
    rw [a0, a1, a2]
    rfl

end Cert.Kernel3Ideal.Layer

end
-- ==== Proof.Merge.lean ====
/- The merging call: what its result array holds when it ends. -/
module

public import proofs.«01_k».proof.Proof.Gen.Kernel4Ideal.Frame
public import Idealize.ShloMosaic.Lib.Pipeline.ValueKit
public import Idealize.ShloMosaic.Lib.Pointwise
public import Idealize.ShloMosaic.Lib.Claim

@[expose] public section

set_option maxRecDepth 16384

noncomputable section

namespace Cert.Kernel4Ideal.Layer

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

theorem idx : ∀ t : Fin cfg0.N,
    win0_0.index t = ![t.val, 0] ∧ win0_1.index t = ![t.val / 16 * 8 + min (t.val % 16) 7, 0] ∧ win0_2.index t = ![t.val / 16 * 8 + (t.val % 16 - 8), 0]
    ∧ win0_3.index t = ![t.val, 0] ∧ win0_4.index t = ![t.val, 0] ∧ win0_5.index t = ![t.val, 2] ∧ win0_6.index t = ![t.val, 3] ∧ win0_7.index t = ![t.val, 4]
    ∧ win0_8.index t = ![0, 0, 0] ∧ win0_9.index t = ![0, 0] ∧ win0_10.index t = ![t.val, 0] :=
  (by decide +kernel : ∀ t : Fin grid0.N, _)

/-- A point takes the first half's block while its tile lies in the sequence's first half. -/
theorem half_word : ∀ t : Fin 64,
    Scalar.cmpi .slt (Scalar.select (Scalar.andi (Scalar.xori (Scalar.cmpi .slt (Scalar.remsi (BitVec.ofNat 32 t.val) (Scalar.select (Scalar.cmpi .eq 16#32 0#32) 1#32 16#32)) 0#32)
        (Scalar.cmpi .slt (Scalar.select (Scalar.cmpi .eq 16#32 0#32) 1#32 16#32) 0#32))
      (Scalar.cmpi .ne (Scalar.remsi (BitVec.ofNat 32 t.val) (Scalar.select (Scalar.cmpi .eq 16#32 0#32) 1#32 16#32)) 0#32))
      (Scalar.addi (Scalar.remsi (BitVec.ofNat 32 t.val) (Scalar.select (Scalar.cmpi .eq 16#32 0#32) 1#32 16#32)) (Scalar.select (Scalar.cmpi .eq 16#32 0#32) 1#32 16#32))
      (Scalar.remsi (BitVec.ofNat 32 t.val) (Scalar.select (Scalar.cmpi .eq 16#32 0#32) 1#32 16#32))) 8#32
    = BitVec.ofBool (decide (t.val % 16 < 8)) := by
  decide +kernel

theorem point_number : ∀ t : Fin cfg0.N, ((grid0.coords t) 0).val = t.val := (by decide +kernel : ∀ t : Fin grid0.N, _)

/-- The first branch's product, its operand chosen by the point's number. -/
theorem first_branch (t : Fin cfg0.N) (a b : Vec Ideal S256x1024 .bf16) (w : Vec Ideal S1x1024x1024 .bf16) (g : Vec Ideal S256x1024 .bf16) (y : S256x1024.Idx) :
    k0_pay3 (grid0.coords t) a b w g y
      = Ideal.logistic (g y) * ∑ k : Fin 1024, (if t.val % 16 < 8 then a (ix2 (y 0) k) else b (ix2 (y 0) k)) * w (ix3 0 k (y 1)) := by
  unfold k0_pay3
  dsimp only
  rw [point_number t, half_word ⟨t.val, t.isLt⟩, Scalar.select_decide]
  by_cases h : t.val % 16 < 8
  · simp only [h, if_true]
    pointwise
  · simp only [h, if_false]
    pointwise

/-- A row of the first branch: the sequence's first half from one array, its second half from the other. -/
def halves (L H : FVec Ideal S8192x1024 .bf16) (r : Fin 16384) (k : Fin 1024) : EReal :=
  if r.val % 4096 < 2048 then L (ix2 ⟨r.val / 4096 * 2048 + r.val % 4096 % 2048, by omega⟩ k) else H (ix2 ⟨r.val / 4096 * 2048 + r.val % 4096 % 2048, by omega⟩ k)

/-- The gated sum of the three projected branches. -/
def mixed (L H : FVec Ideal S8192x1024 .bf16) (D E : FVec Ideal S16384x1024 .bf16) (P : FVec Ideal S16384x5120 .bf16) (W : FVec Ideal S3x1024x1024 .bf16)
    (r : Fin 16384) (e : Fin 1024) : EReal :=
  Ideal.logistic (P (ix2 r ⟨2048 + e.val, by omega⟩)) * (∑ k : Fin 1024, halves L H r k * W (ix3 0 k e))
    + Ideal.logistic (P (ix2 r ⟨3072 + e.val, by omega⟩)) * (∑ k : Fin 1024, D (ix2 r k) * W (ix3 1 k e))
    + Ideal.logistic (P (ix2 r ⟨4096 + e.val, by omega⟩)) * (∑ k : Fin 1024, E (ix2 r k) * W (ix3 2 k e))

/-- The call's result array from its prepared arrays. -/
def merged (X : FVec Ideal S16384x1024 .f32) (L H : FVec Ideal S8192x1024 .bf16) (D E : FVec Ideal S16384x1024 .bf16) (P : FVec Ideal S16384x5120 .bf16)
    (W : FVec Ideal S3x1024x1024 .bf16) (O : FVec Ideal S1024x1024 .bf16) : FVec Ideal S16384x1024 .f32 := fun i =>
  X i + ∑ e : Fin 1024, mixed L H D E P W (i 0) e * O (ix2 e (i 1))

/-- A load of one of the three weight matrices. -/
theorem weight_load (X : FVec Ideal S3x1024x1024 .bf16) (off : Fin 3 → ℕ) (n : Fin 3) (h : off = ![n.val, 0, 0]) (inb) :
    View.ld (Val := Elt Ideal) (e' := .bf16) (S := S3x1024x1024) X (Rect.unit off ![1, 1024, 1024] inb) = fun j => X (ix3 n (j 1) (j 2)) := by
  subst h
  funext j
  refine congrArg X (funext fun a => Fin.ext ?_)
  fin_cases a
  · have : (j 0).val < 1 := (j 0).isLt
    show n.val + 1 * (j 0).val = n.val
    omega
  · show 0 + 1 * (j 1).val = (j 1).val
    omega
  · show 0 + 1 * (j 2).val = (j 2).val
    omega

theorem payload (t : Fin cfg0.N) (x0 : Vec Ideal S256x1024 .f32) (x1 x2 x3 x4 x5 x6 x7 : Vec Ideal S256x1024 .bf16) (w0 w1 w2 : Vec Ideal S1x1024x1024 .bf16) (x9 : Vec Ideal S1024x1024 .bf16) (y : S256x1024.Idx) :
    k0_pay1 (k0_pay2 x4) (k0_pay3 (grid0.coords t) x1 x2 w0 x5) (k0_pay4 x3 w1) (k0_pay5 x6) w2 x7 x0 x9 y
      = x0 y + ∑ e : Fin 1024, (Ideal.logistic (x5 (ix2 (y 0) e)) * (∑ k : Fin 1024, (if t.val % 16 < 8 then x1 (ix2 (y 0) k) else x2 (ix2 (y 0) k)) * w0 (ix3 0 k e))
          + Ideal.logistic (x6 (ix2 (y 0) e)) * (∑ k : Fin 1024, x3 (ix2 (y 0) k) * w1 (ix3 0 k e))
          + Ideal.logistic (x7 (ix2 (y 0) e)) * (∑ k : Fin 1024, x4 (ix2 (y 0) k) * w2 (ix3 0 k e))) * x9 (ix2 e (y 1)) := by
  unfold k0_pay1 k0_pay2 k0_pay4 k0_pay5
  pointwise
  simp only [first_branch]
  rfl

theorem payload_loaded (t : Fin cfg0.N) (x0 : Vec Ideal S256x1024 .f32) (x1 x2 x3 x4 x5 x6 x7 : Vec Ideal S256x1024 .bf16) (x8 : Vec Ideal S3x1024x1024 .bf16) (x9 : Vec Ideal S1024x1024 .bf16) (y : S256x1024.Idx) :
    k0_pay1 (k0_pay2 x4) (k0_pay3 (grid0.coords t) x1 x2 (View.ld (Val := Elt Ideal) (e' := .bf16) (S := S3x1024x1024) x8 r0_1) x5) (k0_pay4 x3 (View.ld (Val := Elt Ideal) (e' := .bf16) (S := S3x1024x1024) x8 r0_2)) (k0_pay5 x6) (View.ld (Val := Elt Ideal) (e' := .bf16) (S := S3x1024x1024) x8 r0_3) x7 x0 x9 y
      = x0 y + ∑ e : Fin 1024, (Ideal.logistic (x5 (ix2 (y 0) e)) * (∑ k : Fin 1024, (if t.val % 16 < 8 then x1 (ix2 (y 0) k) else x2 (ix2 (y 0) k)) * x8 (ix3 0 k e))
          + Ideal.logistic (x6 (ix2 (y 0) e)) * (∑ k : Fin 1024, x3 (ix2 (y 0) k) * x8 (ix3 1 k e))
          + Ideal.logistic (x7 (ix2 (y 0) e)) * (∑ k : Fin 1024, x4 (ix2 (y 0) k) * x8 (ix3 2 k e))) * x9 (ix2 e (y 1)) := by
  refine (payload t x0 x1 x2 x3 x4 x5 x6 x7 _ _ _ x9 y).trans ?_
  rw [weight_load x8 ![0, 0, 0] 0 rfl, weight_load x8 ![1, 0, 0] 1 rfl, weight_load x8 ![2, 0, 0] 2 rfl]
  rfl

theorem half_rows (c : Dev nD) (t : Fin cfg0.N) (a : Fin 256) (k : Fin 1024) (ht : t.val * 256 + a.val < 16384) :
    (if t.val % 16 < 8 then (iblk m c 1 t : FVec Ideal S256x1024 .bf16) (ix2 a k) else (iblk m c 2 t : FVec Ideal S256x1024 .bf16) (ix2 a k))
      = halves (V m c main_v1) (V m c main_v2) ⟨t.val * 256 + a.val, ht⟩ k := by
  unfold halves
  by_cases h : t.val % 16 < 8
  · rw [if_pos h, if_pos (by dsimp only; omega)]
    blk_point [iblk, V, idx t]
  · rw [if_neg h, if_neg (by dsimp only; omega)]
    blk_point [iblk, V, idx t]

/-- The point's value from blocks that are the arrays' rows. -/
theorem merged_of_blocks (t : Fin cfg0.N) (X : FVec Ideal S16384x1024 .f32) (L H : FVec Ideal S8192x1024 .bf16) (D E : FVec Ideal S16384x1024 .bf16) (P : FVec Ideal S16384x5120 .bf16)
    (W : FVec Ideal S3x1024x1024 .bf16) (O : FVec Ideal S1024x1024 .bf16)
    (x0 : Vec Ideal S256x1024 .f32) (x1 x2 x3 x4 x5 x6 x7 : Vec Ideal S256x1024 .bf16) (x8 : Vec Ideal S3x1024x1024 .bf16) (x9 : Vec Ideal S1024x1024 .bf16)
    (a : Fin 256) (d : Fin 1024) (r : Fin 16384)
    (h0 : x0 (ix2 a d) = X (ix2 r d))
    (h1 : ∀ k : Fin 1024, (if t.val % 16 < 8 then x1 (ix2 a k) else x2 (ix2 a k)) = halves L H r k)
    (h3 : ∀ k : Fin 1024, x3 (ix2 a k) = D (ix2 r k)) (h4 : ∀ k : Fin 1024, x4 (ix2 a k) = E (ix2 r k))
    (h5 : ∀ e : Fin 1024, x5 (ix2 a e) = P (ix2 r ⟨2048 + e.val, by omega⟩)) (h6 : ∀ e : Fin 1024, x6 (ix2 a e) = P (ix2 r ⟨3072 + e.val, by omega⟩))
    (h7 : ∀ e : Fin 1024, x7 (ix2 a e) = P (ix2 r ⟨4096 + e.val, by omega⟩))
    (h8 : ∀ (n : Fin 3) (k e : Fin 1024), x8 (ix3 n k e) = W (ix3 n k e)) (h9 : ∀ e : Fin 1024, x9 (ix2 e d) = O (ix2 e d)) :
    x0 (ix2 a d) + ∑ e : Fin 1024, (Ideal.logistic (x5 (ix2 a e)) * (∑ k : Fin 1024, (if t.val % 16 < 8 then x1 (ix2 a k) else x2 (ix2 a k)) * x8 (ix3 0 k e))
          + Ideal.logistic (x6 (ix2 a e)) * (∑ k : Fin 1024, x3 (ix2 a k) * x8 (ix3 1 k e))
          + Ideal.logistic (x7 (ix2 a e)) * (∑ k : Fin 1024, x4 (ix2 a k) * x8 (ix3 2 k e))) * x9 (ix2 e d)
      = merged X L H D E P W O (ix2 r d) := by
  simp only [h0, h1, h3, h4, h5, h6, h7, h8, h9]
  rfl

section Blocks
variable (c : Dev nD) (t : Fin cfg0.N) (a : Fin 256) (k : Fin 1024) (r : Fin 16384) (hr : r.val = t.val * 256 + a.val)
include hr

theorem block_input : (iblk m c 0 t : FVec Ideal S256x1024 .f32) (ix2 a k) = (V m c main_v0 : FVec Ideal S16384x1024 .f32) (ix2 r k) := by
  obtain ⟨r, hlt⟩ := r
  dsimp only at hr
  subst hr
  blk_point [iblk, V, idx t]

theorem block_second : (iblk m c 3 t : FVec Ideal S256x1024 .bf16) (ix2 a k) = (V m c main_v3 : FVec Ideal S16384x1024 .bf16) (ix2 r k) := by
  obtain ⟨r, hlt⟩ := r
  dsimp only at hr
  subst hr
  blk_point [iblk, V, idx t]

theorem block_third : (iblk m c 4 t : FVec Ideal S256x1024 .bf16) (ix2 a k) = (V m c main_v4 : FVec Ideal S16384x1024 .bf16) (ix2 r k) := by
  obtain ⟨r, hlt⟩ := r
  dsimp only at hr
  subst hr
  blk_point [iblk, V, idx t]

theorem block_gate_first : (iblk m c 5 t : FVec Ideal S256x1024 .bf16) (ix2 a k) = (V m c main_arg5 : FVec Ideal S16384x5120 .bf16) (ix2 r ⟨2048 + k.val, by omega⟩) := by
  obtain ⟨r, hlt⟩ := r
  dsimp only at hr
  subst hr
  blk_point [iblk, V, idx t]

theorem block_gate_second : (iblk m c 6 t : FVec Ideal S256x1024 .bf16) (ix2 a k) = (V m c main_arg5 : FVec Ideal S16384x5120 .bf16) (ix2 r ⟨3072 + k.val, by omega⟩) := by
  obtain ⟨r, hlt⟩ := r
  dsimp only at hr
  subst hr
  blk_point [iblk, V, idx t]

theorem block_gate_third : (iblk m c 7 t : FVec Ideal S256x1024 .bf16) (ix2 a k) = (V m c main_arg5 : FVec Ideal S16384x5120 .bf16) (ix2 r ⟨4096 + k.val, by omega⟩) := by
  obtain ⟨r, hlt⟩ := r
  dsimp only at hr
  subst hr
  blk_point [iblk, V, idx t]

end Blocks

theorem block_weights (c : Dev nD) (t : Fin cfg0.N) (n : Fin 3) (k e : Fin 1024) :
    (iblk m c 8 t : FVec Ideal S3x1024x1024 .bf16) (ix3 n k e) = (V m c main_v5 : FVec Ideal S3x1024x1024 .bf16) (ix3 n k e) := by
  blk_point [iblk, V, idx t]

theorem block_output (c : Dev nD) (t : Fin cfg0.N) (k e : Fin 1024) :
    (iblk m c 9 t : FVec Ideal S1024x1024 .bf16) (ix2 k e) = (V m c main_v6 : FVec Ideal S1024x1024 .bf16) (ix2 k e) := by
  blk_point [iblk, V, idx t]

theorem result_position (t : Fin cfg0.N) (a : Fin 256) (d : Fin 1024) (r : Fin 16384) (hr : r.val = t.val * 256 + a.val) :
    ((cfg0.win 10).blk t).view.emb (ix2 a d : S256x1024.Idx) = (ix2 r d : S16384x1024.Idx) := by
  obtain ⟨r, hlt⟩ := r
  dsimp only at hr
  subst hr
  blk_point [idx t]

theorem point (c : Dev nD) (t : Fin cfg0.N) (y : S256x1024.Idx) :
    k0_pay1 (k0_pay2 (iblk m c 4 t))
      (k0_pay3 (grid0.coords t) (iblk m c 1 t) (iblk m c 2 t) (View.ld (Val := Elt Ideal) (e' := .bf16) (S := S3x1024x1024) (iblk m c 8 t) r0_1) (iblk m c 5 t))
      (k0_pay4 (iblk m c 3 t) (View.ld (Val := Elt Ideal) (e' := .bf16) (S := S3x1024x1024) (iblk m c 8 t) r0_2)) (k0_pay5 (iblk m c 6 t))
      (View.ld (Val := Elt Ideal) (e' := .bf16) (S := S3x1024x1024) (iblk m c 8 t) r0_3) (iblk m c 7 t) (iblk m c 0 t) (iblk m c 9 t) y
    = merged (V m c main_v0) (V m c main_v1) (V m c main_v2) (V m c main_v3) (V m c main_v4) (V m c main_arg5) (V m c main_v5) (V m c main_v6)
        (((cfg0.win 10).blk t).view.emb y) := by
  obtain ⟨a, d, rfl⟩ : ∃ (a : Fin 256) (d : Fin 1024), y = ix2 a d := ⟨y 0, y 1, funext fun j => by
    match j with
    | ⟨0, _⟩ => rfl
    | ⟨1, _⟩ => rfl⟩
  have ht : t.val < 64 := t.isLt
  have hr : t.val * 256 + a.val < 16384 := by omega
  refine (payload_loaded t _ _ _ _ _ _ _ _ _ _ _).trans ?_
  refine Eq.trans ?_ (congrArg _ (result_position t a d ⟨t.val * 256 + a.val, hr⟩ rfl).symm)
  exact merged_of_blocks t _ _ _ _ _ _ _ _ _ _ _ _ _ _ _ _ _ _ a d _ (block_input m c t a d _ rfl) (fun k => half_rows m c t a k hr)
    (fun k => block_second m c t a k _ rfl) (fun k => block_third m c t a k _ rfl) (fun k => block_gate_first m c t a k _ rfl)
    (fun k => block_gate_second m c t a k _ rfl) (fun k => block_gate_third m c t a k _ rfl) (fun n k e => block_weights m c t n k e) (fun e => block_output m c t e d)

theorem result_held (c : Dev nD) : (dats m 0 c).arrAt 10 cfg0.N
    = merged (V m c main_v0) (V m c main_v1) (V m c main_v2) (V m c main_v3) (V m c main_v4) (V m c main_arg5) (V m c main_v5) (V m c main_v6) := by
  refine (dats m 0 c).arrAt_eq_of_covers 10 _ (by decide +kernel) fun t hf y => ?_
  blk_simp
  rw [after0_10]; unfold out0_10; frame_out
  exact point m c t y

/-! ### From the kernel's arguments -/

/-- A position of the first branch's result, its two halves apart. -/
def halfRow (lo hi : FVec Ideal S4x2048x1024 .bf16) (b : Fin 4) (s : Fin 4096) (k : Fin 1024) : EReal :=
  if s.val < 2048 then lo (ix3 b ⟨s.val % 2048, by omega⟩ k) else hi (ix3 b ⟨s.val % 2048, by omega⟩ k)

/-- The gated sum of the three projected branches at a position. -/
def mixedAt (lo hi : FVec Ideal S4x2048x1024 .bf16) (dn me : FVec Ideal S4x4096x1024 .bf16) (p : FVec Ideal S16384x5120 .bf16) (wb : FVec Ideal S3x1024x1024 .f32)
    (b : Fin 4) (s : Fin 4096) (e : Fin 1024) : EReal :=
  Ideal.logistic (p (ix2 ⟨b.val * 4096 + s.val, by omega⟩ ⟨2048 + e.val, by omega⟩)) * (∑ k : Fin 1024, halfRow lo hi b s k * wb (ix3 0 k e))
    + Ideal.logistic (p (ix2 ⟨b.val * 4096 + s.val, by omega⟩ ⟨3072 + e.val, by omega⟩)) * (∑ k : Fin 1024, dn (ix3 b s k) * wb (ix3 1 k e))
    + Ideal.logistic (p (ix2 ⟨b.val * 4096 + s.val, by omega⟩ ⟨4096 + e.val, by omega⟩)) * (∑ k : Fin 1024, me (ix3 b s k) * wb (ix3 2 k e))

/-- The layer's input with the projected sum added, at a position. -/
def mergedAt (x : FVec Ideal S4x4096x1024 .f32) (lo hi : FVec Ideal S4x2048x1024 .bf16) (dn me : FVec Ideal S4x4096x1024 .bf16) (p : FVec Ideal S16384x5120 .bf16)
    (wb : FVec Ideal S3x1024x1024 .f32) (wo : FVec Ideal S1024x1024 .f32) (b : Fin 4) (s : Fin 4096) (d : Fin 1024) : EReal :=
  x (ix3 b s d) + ∑ e : Fin 1024, mixedAt lo hi dn me p wb b s e * wo (ix2 e d)

theorem input_prepared (c : Dev nD) (r : Fin 16384) (k : Fin 1024) :
    (V m c main_v0 : FVec Ideal S16384x1024 .f32) (ix2 r k) = (m ((c : Thread nD τ).loc main_arg0) : FVec Ideal S4x4096x1024 .f32) (ix3 ⟨r.val / 4096, by omega⟩ ⟨r.val % 4096, by omega⟩ k) := by
  unfold V
  after_results
  pointwise

theorem low_prepared (c : Dev nD) (r : Fin 8192) (k : Fin 1024) :
    (V m c main_v1 : FVec Ideal S8192x1024 .bf16) (ix2 r k) = (m ((c : Thread nD τ).loc main_arg1) : FVec Ideal S4x2048x1024 .bf16) (ix3 ⟨r.val / 2048, by omega⟩ ⟨r.val % 2048, by omega⟩ k) := by
  unfold V
  after_results
  pointwise

theorem high_prepared (c : Dev nD) (r : Fin 8192) (k : Fin 1024) :
    (V m c main_v2 : FVec Ideal S8192x1024 .bf16) (ix2 r k) = (m ((c : Thread nD τ).loc main_arg2) : FVec Ideal S4x2048x1024 .bf16) (ix3 ⟨r.val / 2048, by omega⟩ ⟨r.val % 2048, by omega⟩ k) := by
  unfold V
  after_results
  pointwise

theorem second_prepared (c : Dev nD) (r : Fin 16384) (k : Fin 1024) :
    (V m c main_v3 : FVec Ideal S16384x1024 .bf16) (ix2 r k) = (m ((c : Thread nD τ).loc main_arg3) : FVec Ideal S4x4096x1024 .bf16) (ix3 ⟨r.val / 4096, by omega⟩ ⟨r.val % 4096, by omega⟩ k) := by
  unfold V
  after_results
  pointwise

theorem third_prepared (c : Dev nD) (r : Fin 16384) (k : Fin 1024) :
    (V m c main_v4 : FVec Ideal S16384x1024 .bf16) (ix2 r k) = (m ((c : Thread nD τ).loc main_arg4) : FVec Ideal S4x4096x1024 .bf16) (ix3 ⟨r.val / 4096, by omega⟩ ⟨r.val % 4096, by omega⟩ k) := by
  unfold V
  after_results
  pointwise

theorem branches_prepared (c : Dev nD) : (V m c main_v5 : FVec Ideal S3x1024x1024 .bf16) = (m ((c : Thread nD τ).loc main_arg6) : FVec Ideal S3x1024x1024 .f32) := by
  unfold V
  after_results
  rfl

theorem output_prepared (c : Dev nD) : (V m c main_v6 : FVec Ideal S1024x1024 .bf16) = (m ((c : Thread nD τ).loc main_arg7) : FVec Ideal S1024x1024 .f32) := by
  unfold V
  after_results
  rfl

theorem gates_prepared (c : Dev nD) : V m c main_arg5 = m ((c : Thread nD τ).loc main_arg5) := V_main_arg5 m c

/-- The merging of prepared arrays is the merging of the arguments they were prepared from. -/
theorem merged_of (x : FVec Ideal S4x4096x1024 .f32) (lo hi : FVec Ideal S4x2048x1024 .bf16) (dn me : FVec Ideal S4x4096x1024 .bf16) (p : FVec Ideal S16384x5120 .bf16)
    (wb : FVec Ideal S3x1024x1024 .f32) (wo : FVec Ideal S1024x1024 .f32)
    (X : FVec Ideal S16384x1024 .f32) (L H : FVec Ideal S8192x1024 .bf16) (D E : FVec Ideal S16384x1024 .bf16)
    (hX : ∀ (r : Fin 16384) (k : Fin 1024), X (ix2 r k) = x (ix3 ⟨r.val / 4096, by omega⟩ ⟨r.val % 4096, by omega⟩ k))
    (hL : ∀ (r : Fin 8192) (k : Fin 1024), L (ix2 r k) = lo (ix3 ⟨r.val / 2048, by omega⟩ ⟨r.val % 2048, by omega⟩ k))
    (hH : ∀ (r : Fin 8192) (k : Fin 1024), H (ix2 r k) = hi (ix3 ⟨r.val / 2048, by omega⟩ ⟨r.val % 2048, by omega⟩ k))
    (hD : ∀ (r : Fin 16384) (k : Fin 1024), D (ix2 r k) = dn (ix3 ⟨r.val / 4096, by omega⟩ ⟨r.val % 4096, by omega⟩ k))
    (hE : ∀ (r : Fin 16384) (k : Fin 1024), E (ix2 r k) = me (ix3 ⟨r.val / 4096, by omega⟩ ⟨r.val % 4096, by omega⟩ k))
    (r : Fin 16384) (d : Fin 1024) :
    merged X L H D E p wb wo (ix2 r d) = mergedAt x lo hi dn me p wb wo ⟨r.val / 4096, by omega⟩ ⟨r.val % 4096, by omega⟩ d := by
  have er : (⟨r.val / 4096 * 4096 + r.val % 4096, by omega⟩ : Fin 16384) = r := Fin.ext (by dsimp only; omega)
  have eh : ∀ k : Fin 1024, halves L H r k = halfRow lo hi ⟨r.val / 4096, by omega⟩ ⟨r.val % 4096, by omega⟩ k := fun k => by
    unfold halves halfRow
    rw [hL, hH]
    have e0 : (⟨(r.val / 4096 * 2048 + r.val % 4096 % 2048) / 2048, by omega⟩ : Fin 4) = ⟨r.val / 4096, by omega⟩ := Fin.ext (by dsimp only; omega)
    have e1 : (⟨(r.val / 4096 * 2048 + r.val % 4096 % 2048) % 2048, by omega⟩ : Fin 2048) = ⟨r.val % 4096 % 2048, by omega⟩ := Fin.ext (by dsimp only; omega)
    simp only [e0, e1]
  unfold merged mergedAt mixedAt mixed
  show X (ix2 r d) + ∑ e : Fin 1024, _ * wo (ix2 e d) = _
  simp only [er, hX]
  show _ + ∑ e : Fin 1024, (_ * (∑ k : Fin 1024, halves L H r k * _) + _ * (∑ k : Fin 1024, D (ix2 r k) * _) + _ * (∑ k : Fin 1024, E (ix2 r k) * _)) * _ = _
  simp only [eh, hD, hE]
  rfl

theorem result_entry (c : Dev nD) (i : S16384x1024.Idx) :
    merged (V m c main_v0) (V m c main_v1) (V m c main_v2) (V m c main_v3) (V m c main_v4) (V m c main_arg5) (V m c main_v5) (V m c main_v6) i
      = mergedAt (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          ⟨(i 0).val / 4096, by have : (i 0).val < 16384 := (i 0).isLt; omega⟩ ⟨(i 0).val % 4096, by omega⟩ (i 1) := by
  rw [gates_prepared, branches_prepared, output_prepared]
  refine Eq.trans (congrArg _ ?_) (merged_of _ _ _ _ _ _ _ _ _ _ _ _ _ (input_prepared m c) (low_prepared m c) (high_prepared m c) (second_prepared m c) (third_prepared m c) (i 0) (i 1))
  exact funext fun a => by
    match a with
    | ⟨0, _⟩ => rfl
    | ⟨1, _⟩ => rfl

end Cert.Kernel4Ideal.Layer

end
-- ==== Proof.MergeRef.lean ====
/- The merging's reference, entry by entry. -/
module

public import proofs.«01_k».proof.Proof.Merge
public import proofs.«01_k».proof.Proof.Gen.Reference4Ideal.Read

@[expose] public section

set_option maxRecDepth 16384

noncomputable section

namespace Cert.Reference4Ideal.Layer

open Idealize.ShloMosaic Idealize.ShloMosaic.TcCoe Idealize.SL.Sem
open Cert.Reference4Ideal Cert.Reference4Ideal.Read
open Cert.Kernel4Ideal.Layer (halfRow mixedAt mergedAt)

variable (x0 : FVec Ideal S4x4096x1024 .f32) (x1 x2 : FVec Ideal S4x2048x1024 .bf16) (x3 x4 : FVec Ideal S4x4096x1024 .bf16) (x5 : FVec Ideal S16384x5120 .bf16)
  (x6 : FVec Ideal S3x1024x1024 .f32) (x7 : FVec Ideal S1024x1024 .f32)

theorem zero_word : Ideal.ofBits .f32 0x00000000#32 = 0 := by
  simp [Ideal.ofBits, Ideal.ieee, -EReal.coe_mul]

theorem one_word : Ideal.ofBits .f32 0x3F800000#32 = 1 := by
  simp [Ideal.ofBits, Ideal.ieee, -EReal.coe_mul]
  norm_num

theorem halves_ref (b : Fin 4) (s : Fin 4096) (k : Fin 1024) : val_main_v0 (F := Ideal) x1 x2 (ix3 b s k) = halfRow x1 x2 b s k := by
  unfold val_main_v0 halfRow
  pointwise
  by_cases h : s.val < 2048
  · rw [dif_pos h, if_pos h]
    exact congrArg (fun q => x1 (ix3 b q k)) (Fin.ext (by dsimp only; omega))
  · rw [dif_neg h, if_neg h]
    exact congrArg (fun q => x2 (ix3 b q k)) (Fin.ext (by dsimp only; omega))

theorem branch_first (b : Fin 4) (s : Fin 4096) (k : Fin 1024) : val_main_v7 (F := Ideal) x1 x2 x3 x4 (ix4 b s 0 k) = halfRow x1 x2 b s k := by
  rw [← halves_ref]
  unfold val_main_v7
  pointwise
  rw [val_main_v4_apply, val_main_v1_apply]
  exact congrArg (val_main_v0 (F := Ideal) x1 x2) (funext fun a => by
    match a with
    | ⟨0, _⟩ => rfl
    | ⟨1, _⟩ => rfl
    | ⟨2, _⟩ => rfl)

theorem branch_second (b : Fin 4) (s : Fin 4096) (k : Fin 1024) : val_main_v7 (F := Ideal) x1 x2 x3 x4 (ix4 b s 1 k) = x3 (ix3 b s k) := by
  unfold val_main_v7
  pointwise
  rw [val_main_v5_apply, val_main_v2_apply]
  exact congrArg (x3) (funext fun a => by
    match a with
    | ⟨0, _⟩ => rfl
    | ⟨1, _⟩ => rfl
    | ⟨2, _⟩ => rfl)

theorem branch_third (b : Fin 4) (s : Fin 4096) (k : Fin 1024) : val_main_v7 (F := Ideal) x1 x2 x3 x4 (ix4 b s 2 k) = x4 (ix3 b s k) := by
  unfold val_main_v7
  pointwise
  rw [val_main_v6_apply, val_main_v3_apply]
  exact congrArg (x4) (funext fun a => by
    match a with
    | ⟨0, _⟩ => rfl
    | ⟨1, _⟩ => rfl
    | ⟨2, _⟩ => rfl)

theorem gate_ref (b : Fin 4) (s : Fin 4096) (n : Fin 3) (e : Fin 1024) :
    val_main_v18 (F := Ideal) x5 (ix4 b s n e) = Ideal.logistic (x5 (ix2 ⟨b.val * 4096 + s.val, by omega⟩ ⟨2048 + n.val * 1024 + e.val, by omega⟩)) := by
  rw [val_main_v18_apply, val_main_v17_apply, val_main_v16_apply, val_main_v15_apply, val_main_v14_apply, val_main_v13_apply, val_main_v12_apply, val_main_v11_apply,
    val_main_v10_apply, val_main_cst_0_apply, val_main_cst_apply]
  show Ideal.div (Ideal.ofBits .f32 0x3F800000#32) (Ideal.ofBits .f32 0x3F800000#32 + Ideal.exp (-(x5 _))) = _
  rw [one_word]
  unfold Ideal.logistic
  refine congrArg (fun j => Ideal.div 1 (1 + Ideal.exp (-(x5 j)))) (funext fun a => ?_)
  match a with
  | ⟨0, _⟩ => refine Fin.ext ?_; simp [ix4, ix2]; omega
  | ⟨1, _⟩ => refine Fin.ext ?_; simp [ix4, ix2]; omega

theorem product_ref (b : Fin 4) (s : Fin 4096) (n : Fin 3) (e : Fin 1024) :
    val_main_v9 (F := Ideal) x1 x2 x3 x4 x6 (ix4 b s n e) = ∑ k : Fin 1024, val_main_v7 (F := Ideal) x1 x2 x3 x4 (ix4 b s n k) * x6 (ix3 n k e) := by
  rw [val_main_v9_apply, val_main_v8_apply]
  refine Finset.sum_congr rfl fun k _ => ?_
  rw [mul_comm]
  exact congrArg₂ (fun i j => val_main_v7 (F := Ideal) x1 x2 x3 x4 i * x6 j)
    (funext fun a => by
      match a with
      | ⟨0, _⟩ => rfl
      | ⟨1, _⟩ => rfl
      | ⟨2, _⟩ => rfl
      | ⟨3, _⟩ => rfl)
    (funext fun a => by
      match a with
      | ⟨0, _⟩ => rfl
      | ⟨1, _⟩ => rfl
      | ⟨2, _⟩ => rfl)

theorem mixed_ref (b : Fin 4) (s : Fin 4096) (e : Fin 1024) :
    val_main_v20 (F := Ideal) x1 x2 x3 x4 x5 x6 (ix3 b s e) = mixedAt x1 x2 x3 x4 x5 x6 b s e := by
  rw [val_main_v20_apply, val_main_cst_1_apply, Fin.sum_univ_three]
  have e0 : ∀ n : Fin 3, idx_main_v20 (ix3 b s e) n = ix4 b s n e := fun n => funext fun a => by
    match a with
    | ⟨0, _⟩ => rfl
    | ⟨1, _⟩ => rfl
    | ⟨2, _⟩ => rfl
    | ⟨3, _⟩ => rfl
  rw [e0, e0, e0, val_main_v19_apply, val_main_v19_apply, val_main_v19_apply, gate_ref, gate_ref, gate_ref, product_ref, product_ref, product_ref]
  simp only [branch_first, branch_second, branch_third]
  show Ideal.ofBits .f32 0x00000000#32 + _ = _
  rw [zero_word, zero_add]
  rfl

theorem result_ref (i : S16384x1024.Idx) : val_main_v23 (F := Ideal) x0 x1 x2 x3 x4 x5 x6 x7 i
    = mergedAt x0 x1 x2 x3 x4 x5 x6 x7 ⟨(i 0).val / 4096, by have : (i 0).val < 16384 := (i 0).isLt; omega⟩ ⟨(i 0).val % 4096, by omega⟩ (i 1) := by
  have hi : (i 1).val < 1024 := (i 1).isLt
  have hr : (i 0).val < 16384 := (i 0).isLt
  rw [val_main_v23_apply, val_main_v22_apply]
  have e : idx_main_v23 i = ix3 ⟨(i 0).val / 4096, by omega⟩ ⟨(i 0).val % 4096, by omega⟩ ⟨(i 1).val, hi⟩ := funext fun a => by
    match a with
    | ⟨0, _⟩ => refine Fin.ext ?_; simp [ix3]; omega
    | ⟨1, _⟩ => refine Fin.ext ?_; simp [ix3]; omega
    | ⟨2, _⟩ => refine Fin.ext ?_; simp [ix3]; omega
  rw [e, val_main_v21_apply]
  unfold mergedAt
  show x0 _ + _ = _
  refine congrArg (fun q : EReal => x0 (ix3 ⟨(i 0).val / 4096, by omega⟩ ⟨(i 0).val % 4096, by omega⟩ ⟨(i 1).val, hi⟩) + q) (Finset.sum_congr rfl fun k _ => ?_)
  rw [← mixed_ref]
  exact congrArg₂ (fun i j => val_main_v20 (F := Ideal) x1 x2 x3 x4 x5 x6 i * x7 j)
    (funext fun a => by
      match a with
      | ⟨0, _⟩ => rfl
      | ⟨1, _⟩ => rfl
      | ⟨2, _⟩ => rfl)
    (funext fun a => by
      match a with
      | ⟨0, _⟩ => rfl
      | ⟨1, _⟩ => rfl)

end Cert.Reference4Ideal.Layer

end
-- ==== Proof.MergeClaim.lean ====
/- The claim about the merging's result. -/
module

public import proofs.«01_k».proof.Defs
public import proofs.«01_k».proof.Proof.Merge
public import proofs.«01_k».proof.Proof.MergeRef
public import Idealize.ShloMosaic.Lib.Claim

@[expose] public section

set_option maxRecDepth 16384
set_option maxHeartbeats 400000

noncomputable section

namespace Cert.Kernel4Ideal.Layer

open Idealize.ShloMosaic Idealize.ShloMosaic.TcCoe Idealize.SL.Sem
open Cert.Kernel4Ideal Cert.Kernel4Ideal.Gen

/-- The reference's result, from the kernel's arguments. -/
def out (m : (ℓ : Loc nD τ sig) → Buf (Elt Ideal) ℓ) (c : Dev nD) : FVec Ideal S16384x1024 .f32 :=
  Cert.Reference4Ideal.Read.val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

theorem result_same (m : (ℓ : Loc nD τ sig) → Buf (Elt Ideal) ℓ) (c : Dev nD) : (dats m 0 c).arrAt 10 cfg0.N = out m c :=
  (result_held m c).trans (funext fun i => (result_entry m c i).trans (Cert.Reference4Ideal.Layer.result_ref _ _ _ _ _ _ _ _ i).symm)

/-- Over the extended reals the kernel's result is the reference's. -/
theorem algebraic : Cert.algebraic_Kernel4Ideal_Reference4Ideal := by
  intro m g m' g' hpre hag
  refine ⟨out m, ?_, (θ_run Cert.Reference4Ideal.defs _ _).mono (fun r h c => ?_) (Cert.Reference4Ideal.Value.run (F := Ideal) m' g')⟩
  · run_from Gen.run_main m g & Gen.unchanged m g
    exact result_same m c
  · obtain ⟨hr, hargs⟩ := h c
    obtain ⟨a0, a1, a2, a3, a4, a5, a6, a7⟩ := hag c
    refine ⟨hr.trans ((Cert.Reference4Ideal.Read.val_main_v23_eq _ _ _ _ _ _ _ _).trans ?_), hargs⟩
    rw [a0, a1, a2, a3, a4, a5, a6, a7]
    rfl

end Cert.Kernel4Ideal.Layer

end
-- ==== Proof.InAFrame.lean ====
/- The frame of the input projection (`Kernel2Ideal`): a row block is normalised at its first grid point, kept in the scratch and
   the narrow projection is stored then; at the block's other points the kernel only multiplies the kept rows. -/
module

public import proofs.«01_k».proof.Proof.Gen.Kernel2Ideal.Frame
public import proofs.«01_k».proof.Proof.Gen.Kernel2Ideal.Skeleton
public import Idealize.ShloMosaic.Lib.Pipeline.TableIdle
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points start a row block -/

/-- The kernel normalises at the first of a row block's 6 points. -/
theorem starts_iff : ∀ t : Fin cfg0.N, k0_cond1 (grid0.coords t) = 1#1 ↔ t.val % 6 = 0 :=
  (by decide +kernel : ∀ t : Fin grid0.N, k0_cond1 (grid0.coords t) = 1#1 ↔ t.val % 6 = 0)

/-- At the others it leaves the second output alone. -/
theorem idle_iff : ∀ t : Fin cfg0.N, cfg0.idle 5 (cfg0.grid.coords t) = !decide (t.val % 6 = 0) :=
  (by decide +kernel : ∀ t : Fin grid0.N, idle0 5 (grid0.coords t) = !decide (t.val % 6 = 0))

/-- The second output's buffer holds nothing yet exactly at the start of a row block. -/
theorem fresh_iff (n : ℕ) (h : n ≤ cfg0.N) : cfg0.fresh 5 n = decide (n % 6 = 0) :=
  cfg0.fresh_tab 5 (fun n => decide (n % 6 = 0)) rfl
    (by decide +kernel : ∀ t : Fin cfg0.N, decide ((t.val + 1) % 6 = 0)
      = ((cfg0.win 5).flush t || (cfg0.idle 5 (cfg0.grid.coords t) && decide (t.val % 6 = 0)))) n h

/-- The first point of `t`'s row block. -/
def start (t : Fin cfg0.N) : Fin cfg0.N := ⟨6 * (t.val / 6), lt_of_le_of_lt (Nat.mul_div_le _ _) t.isLt⟩

theorem start_starts (t : Fin cfg0.N) : (start t).val % 6 = 0 := Nat.mul_mod_right _ _

theorem start_self (t : Fin cfg0.N) (h : t.val % 6 = 0) : start t = t := by
  refine Fin.ext ?_; show 6 * (t.val / 6) = t.val; omega

theorem start_next (t : Fin cfg0.N) (h : ¬ t.val % 6 = 0) : start t = start ⟨t.val - 1, by omega⟩ := by
  refine Fin.ext ?_; show 6 * (t.val / 6) = 6 * ((t.val - 1) / 6); omega

/-! ## The buffers -/

abbrev mainView : View sig .tc .vmem S1024x1024 .f32 := (Memref.whole cc0_stg4_0 : Memref sig .tc .vmem S1024x1024 .f32).view
abbrev sideView : View sig .tc .vmem S1024x128 .f32 := (Memref.whole cc0_stg5_0 : Memref sig .tc .vmem S1024x128 .f32).view
abbrev scr : Memref sig .tc .vmem S1024x1024 .bf16 := Memref.whole cc0_scratch0
abbrev scrView : View sig .tc .vmem S1024x1024 .bf16 := scr.view
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x128 .f32 := win0_5.stage (cfg0.slots t 5)
abbrev hs5 (t : Fin cfg0.N) : (ms5 t).IsWhole := hstage0_5 ((cfg0.slots t 5).cast nbuf0_5)

/-- Before the first point the scratch holds anything. -/
theorem before_any (c : Dev nD) :
    (Pipeline.ΦA spec0 c : sProp 𝕄)
      = iprop((∃ d, owns (c : Thread nD τ) scr fullShare d) ∗ (∃ r, prngReg c r)) := by
  unfold Pipeline.ΦA; rw [scopedRest0_eq]; simp only [scr, owns_whole]; try rfl

/-! ## The body at the two kinds of point -/

set_option maxHeartbeats 2000000 in
/-- The body at the start of a row block: what it stores in the two outputs and the scratch. -/
noncomputable def runStart (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x256 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1024 .bf16) (harg8 : arg8.IsWhole) (hc : k0_cond1 i = 1#1) (x0 : Vec F S1024x1024 .f32) (x1 : Vec F S1x1024 .f32) (x2 : Vec F S1024x1024 .bf16) (x3 : Vec F S1024x256 .bf16) :
    Σ' (Lm : List (View.Piece (Elt F) S1024x1024 .f32)) (Ls : List (View.Piece (Elt F) S1024x128 .f32)), { Lc : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f Lm) ∗ (∃ f, arg7.view.loc (c : Thread nD τ) ↦[arg7.view.set]{fullShare} arg7.view.writes (Elt F) f Ls) ∗ (∃ f, arg8.view.loc (c : Thread nD τ) ↦[arg8.view.set]{fullShare} arg8.view.writes (Elt F) f Lc)) -∗ K ⟨⟩))
          ⊢ wp frame (wpE (defs₀ (F := F)) Variants.none c none) E (cc0_in_proj i arg2 harg2 arg3 harg3 arg4 harg4 arg5 harg5 arg6 harg6 arg7 harg7 arg8 harg8) K } := by
  refine ⟨?_, ?_, ?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%dm, %fm, -, Hm⟩, ⟨%ds, %fs, -, Hs⟩, ⟨%dc, %fc, -, Hc⟩, Hk⟩
    obtain rfl := harg2.eq_unread hf0; obtain rfl := harg3.eq_unread hf1; obtain rfl := harg4.eq_unread hf2; obtain rfl := harg5.eq_unread hf3
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [Hm]; · iexists _; iexact Hm
    isplitl [Hs]; · iexists _; iexact Hs
    iexists _; iexact Hc

set_option maxHeartbeats 2000000 in
/-- The body at another point: it stores the first output from the scratch and keeps the rest. -/
noncomputable def runNext (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x256 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1024 .bf16) (harg8 : arg8.IsWhole) (hc : ¬ k0_cond1 i = 1#1) (x0 : Vec F S1024x1024 .f32) (x1 : Vec F S1x1024 .f32) (x2 : Vec F S1024x1024 .bf16) (x3 : Vec F S1024x256 .bf16) (xs : Vec F S1024x128 .f32) (xc : Vec F S1024x1024 .bf16) :
    { Lm : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs ∗ owns (c : Thread nD τ) arg8 fullShare xc
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f Lm) ∗ owns (c : Thread nD τ) arg7 fullShare xs ∗ owns (c : Thread nD τ) arg8 fullShare xc) -∗ K ⟨⟩))
          ⊢ wp frame (wpE (defs₀ (F := F)) Variants.none c none) E (cc0_in_proj i arg2 harg2 arg3 harg3 arg4 harg4 arg5 harg5 arg6 harg6 arg7 harg7 arg8 harg8) K } := by
  refine ⟨?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%dm, %fm, -, Hm⟩, ⟨%fs, %hfs, Hs⟩, ⟨%fc, %hfc, Hc⟩, Hk⟩
    obtain rfl := harg2.eq_unread hf0; obtain rfl := harg3.eq_unread hf1; obtain rfl := harg4.eq_unread hf2; obtain rfl := harg5.eq_unread hf3; obtain rfl := harg7.eq_unread hfs; obtain rfl := harg8.eq_unread hfc
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [Hm]; · iexists _; iexact Hm
    isplitl [Hs]
    · iexists _; isplitr; · ipureintro; exact harg7.read_unread _
      iexact Hs
    iexists _; isplitr; · ipureintro; exact harg8.read_unread _
    iexact Hc

/-! ## What the stores leave -/

theorem start_covers_main (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x256 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1024 .bf16) (harg8 : arg8.IsWhole) (hc : k0_cond1 i = 1#1) (x0 : Vec F S1024x1024 .f32) (x1 : Vec F S1x1024 .f32) (x2 : Vec F S1024x1024 .bf16) (x3 : Vec F S1024x256 .bf16) (y : S1024x1024.Idx) :
    ∃ p ∈ (runStart c i arg2 harg2 arg3 harg3 arg4 harg4 arg5 harg5 arg6 harg6 arg7 harg7 arg8 harg8 hc x0 x1 x2 x3).1, y ∈ p.1.set :=
  View.cover_of_tiledL (runStart c i arg2 harg2 arg3 harg3 arg4 harg4 arg5 harg5 arg6 harg6 arg7 harg7 arg8 harg8 hc x0 x1 x2 x3).1 S1024x1024.size (by sl_kernel_rfl) y

theorem start_covers_side (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x256 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1024 .bf16) (harg8 : arg8.IsWhole) (hc : k0_cond1 i = 1#1) (x0 : Vec F S1024x1024 .f32) (x1 : Vec F S1x1024 .f32) (x2 : Vec F S1024x1024 .bf16) (x3 : Vec F S1024x256 .bf16) (y : S1024x128.Idx) :
    ∃ p ∈ (runStart c i arg2 harg2 arg3 harg3 arg4 harg4 arg5 harg5 arg6 harg6 arg7 harg7 arg8 harg8 hc x0 x1 x2 x3).2.1, y ∈ p.1.set :=
  View.cover_of_tiledL (runStart c i arg2 harg2 arg3 harg3 arg4 harg4 arg5 harg5 arg6 harg6 arg7 harg7 arg8 harg8 hc x0 x1 x2 x3).2.1 S1024x128.size (by sl_kernel_rfl) y

theorem start_covers_scr (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x256 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1024 .bf16) (harg8 : arg8.IsWhole) (hc : k0_cond1 i = 1#1) (x0 : Vec F S1024x1024 .f32) (x1 : Vec F S1x1024 .f32) (x2 : Vec F S1024x1024 .bf16) (x3 : Vec F S1024x256 .bf16) (y : S1024x1024.Idx) :
    ∃ p ∈ (runStart c i arg2 harg2 arg3 harg3 arg4 harg4 arg5 harg5 arg6 harg6 arg7 harg7 arg8 harg8 hc x0 x1 x2 x3).2.2.1, y ∈ p.1.set :=
  View.cover_of_tiledL (runStart c i arg2 harg2 arg3 harg3 arg4 harg4 arg5 harg5 arg6 harg6 arg7 harg7 arg8 harg8 hc x0 x1 x2 x3).2.2.1 S1024x1024.size (by sl_kernel_rfl) y

theorem next_covers_main (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x256 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1024 .bf16) (harg8 : arg8.IsWhole) (hc : ¬ k0_cond1 i = 1#1) (x0 : Vec F S1024x1024 .f32) (x1 : Vec F S1x1024 .f32) (x2 : Vec F S1024x1024 .bf16) (x3 : Vec F S1024x256 .bf16) (xs : Vec F S1024x128 .f32) (xc : Vec F S1024x1024 .bf16) (y : S1024x1024.Idx) :
    ∃ p ∈ (runNext c i arg2 harg2 arg3 harg3 arg4 harg4 arg5 harg5 arg6 harg6 arg7 harg7 arg8 harg8 hc x0 x1 x2 x3 xs xc).1, y ∈ p.1.set :=
  View.cover_of_tiledL (runNext c i arg2 harg2 arg3 harg3 arg4 harg4 arg5 harg5 arg6 harg6 arg7 harg7 arg8 harg8 hc x0 x1 x2 x3 xs xc).1 S1024x1024.size (by sl_kernel_rfl) y

/-- The first output's block after a starting point, the second's, and the kept rows. -/
def startMain (c : Dev nD) (t : Fin cfg0.N) (h : t.val % 6 = 0) : Vec F S1024x1024 .f32 :=
  mainView.read (Elt F) (mainView.writes (Elt F) mainView.junk (runStart c (grid0.coords t) (ms0 t) (hs0 t) (ms1 t) (hs1 t) (ms2 t) (hs2 t) (ms3 t) (hs3 t) (ms4 t) (hs4 t) (ms5 t) (hs5 t) scr (Memref.isWhole_whole _) ((starts_iff t).mpr h) (iblk m c 0 t) (iblk m c 1 t) (iblk m c 2 t) (iblk m c 3 t)).1)
def startSide (c : Dev nD) (t : Fin cfg0.N) (h : t.val % 6 = 0) : Vec F S1024x128 .f32 :=
  sideView.read (Elt F) (sideView.writes (Elt F) sideView.junk (runStart c (grid0.coords t) (ms0 t) (hs0 t) (ms1 t) (hs1 t) (ms2 t) (hs2 t) (ms3 t) (hs3 t) (ms4 t) (hs4 t) (ms5 t) (hs5 t) scr (Memref.isWhole_whole _) ((starts_iff t).mpr h) (iblk m c 0 t) (iblk m c 1 t) (iblk m c 2 t) (iblk m c 3 t)).2.1)
def startScr (c : Dev nD) (t : Fin cfg0.N) (h : t.val % 6 = 0) : Vec F S1024x1024 .bf16 :=
  scrView.read (Elt F) (scrView.writes (Elt F) scrView.junk (runStart c (grid0.coords t) (ms0 t) (hs0 t) (ms1 t) (hs1 t) (ms2 t) (hs2 t) (ms3 t) (hs3 t) (ms4 t) (hs4 t) (ms5 t) (hs5 t) scr (Memref.isWhole_whole _) ((starts_iff t).mpr h) (iblk m c 0 t) (iblk m c 1 t) (iblk m c 2 t) (iblk m c 3 t)).2.2.1)

/-- What the second output and the scratch hold after any point: what the block's first point stored. -/
def sideAt (c : Dev nD) (t : Fin cfg0.N) : Vec F S1024x128 .f32 := startSide m c (start t) (start_starts t)
def scrAt (c : Dev nD) (t : Fin cfg0.N) : Vec F S1024x1024 .bf16 := startScr m c (start t) (start_starts t)

/-- The first output's block after another point. -/
def nextMain (c : Dev nD) (t : Fin cfg0.N) (h : ¬ t.val % 6 = 0) : Vec F S1024x1024 .f32 :=
  mainView.read (Elt F) (mainView.writes (Elt F) mainView.junk (runNext c (grid0.coords t) (ms0 t) (hs0 t) (ms1 t) (hs1 t) (ms2 t) (hs2 t) (ms3 t) (hs3 t) (ms4 t) (hs4 t) (ms5 t) (hs5 t) scr (Memref.isWhole_whole _) (fun e => h ((starts_iff t).mp e)) (iblk m c 0 t) (iblk m c 1 t) (iblk m c 2 t) (iblk m c 3 t) (sideAt m c t) (scrAt m c t)).1)

def mainAt (c : Dev nD) (t : Fin cfg0.N) : Vec F S1024x1024 .f32 :=
  if h : t.val % 6 = 0 then startMain m c t h else nextMain m c t h

theorem startSide_congr (c : Dev nD) (s t : Fin cfg0.N) (e : s = t) (hs : s.val % 6 = 0) (ht : t.val % 6 = 0) :
    startSide m c s hs = startSide m c t ht := by subst e; rfl
theorem startScr_congr (c : Dev nD) (s t : Fin cfg0.N) (e : s = t) (hs : s.val % 6 = 0) (ht : t.val % 6 = 0) :
    startScr m c s hs = startScr m c t ht := by subst e; rfl

theorem sideAt_start (c : Dev nD) (t : Fin cfg0.N) (h : t.val % 6 = 0) : sideAt m c t = startSide m c t h :=
  startSide_congr m c _ _ (start_self t h) _ _
theorem scrAt_start (c : Dev nD) (t : Fin cfg0.N) (h : t.val % 6 = 0) : scrAt m c t = startScr m c t h :=
  startScr_congr m c _ _ (start_self t h) _ _
theorem sideAt_next (c : Dev nD) (t : Fin cfg0.N) (h : ¬ t.val % 6 = 0) : sideAt m c t = sideAt m c ⟨t.val - 1, by omega⟩ :=
  startSide_congr m c _ _ (start_next t h) _ _
theorem scrAt_next (c : Dev nD) (t : Fin cfg0.N) (h : ¬ t.val % 6 = 0) : scrAt m c t = scrAt m c ⟨t.val - 1, by omega⟩ :=
  startScr_congr m c _ _ (start_next t h) _ _

/-! ## The pipeline's proof data -/

/-- Between points: the scratch holds the kept rows, once there are some. -/
def keeps (c : Dev nD) : (n : ℕ) → n ≤ cfg0.N → sProp 𝕄
  | 0, _ => Pipeline.ΦA spec0 c
  | n + 1, hn => iprop(owns (c : Thread nD τ) scr fullShare (scrAt m c ⟨n, hn⟩) ∗ (∃ r, prngReg c r))

theorem keeps_pos (c : Dev nD) (n : ℕ) (h : n ≤ cfg0.N) (hz : n ≠ 0) :
    keeps m c n h = iprop(owns (c : Thread nD τ) scr fullShare (scrAt m c ⟨n - 1, by omega⟩) ∗ (∃ r, prngReg c r)) := by
  cases n with
  | zero => exact absurd rfl hz
  | succ n => rfl

/-- Before any point the scratch holds something. -/
theorem keeps_any (c : Dev nD) (n : ℕ) (h : n ≤ cfg0.N) :
    keeps m c n h ⊢ iprop((∃ d, owns (c : Thread nD τ) scr fullShare d) ∗ (∃ r, prngReg c r)) := by
  cases n with
  | zero => exact Entails.of_eq (before_any c)
  | succ n =>
    show iprop(owns (c : Thread nD τ) scr fullShare (scrAt m c ⟨n, h⟩) ∗ (∃ r, prngReg c r)) ⊢ _
    iintro ⟨H, Hg⟩
    isplitl [H]
    · iexists _; iexact H
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => mainAt m c t
    | ⟨5, _⟩ => sideAt m c t
  Φ t := keeps m c t.val (Nat.le_of_lt_succ t.isLt)
  q _ := fullShare
  owed _ := 0

theorem A_eq (c : Dev nD) (w : Fin cfg0.W) : (dats m 0 c).A w = V m c (Pipeline.arrRef spec0 w) := by dsimp only [dats]

theorem keeps_at (c : Dev nD) (t : Fin cfg0.N) : (dats m 0 c).Φ t.castSucc = keeps m c t.val (Nat.le_of_lt t.isLt) := by
  dsimp only [dats]; exact Pipeline.Dat.Φ_castSucc (keeps m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = mainAt m c t := by dsimp only [dats]
theorem after0_5 (c : Dev nD) (t : Fin cfg0.N) : (dats m 0 c).after 5 t = sideAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At another point the second output's buffer still holds what the first point stored. -/
theorem before_side (c : Dev nD) (t : Fin cfg0.N) (h : ¬ t.val % 6 = 0) (d) : (dats m 0 c).before 5 t d = sideAt m c t := by
  have e := Pipeline.Dat.before_out_traj (dats m 0 c) 5 rfl (fun _ _ => rfl)
    (fun s hs hi _ => by
      rw [after0_5, after0_5]
      refine sideAt_next m c s fun h0 => ?_
      rw [idle_iff, decide_eq_true h0] at hi
      exact absurd hi (by decide)) t.val t rfl d
  rw [fresh_iff t.val (Nat.le_of_lt t.isLt), if_neg (by rw [decide_eq_false h]; decide), after0_5] at e
  exact e.trans (sideAt_next m c t h).symm

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 3200000 in
theorem body_start (c : Dev nD) (t : Fin cfg0.N) (h : t.val % 6 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5]
  rw [show (dats m 0 c).Φ t.succ
      = iprop(owns (c : Thread nD τ) scr fullShare (scrAt m c t) ∗ (∃ r, prngReg c r)) from rfl]
  rw [keeps_at m c t, scrAt_start m c t h, sideAt_start m c t h, show mainAt m c t = startMain m c t h from dif_pos h]
  refine (sep_mono (keeps_any m c _ _) .rfl).trans ?_
  unfold startMain startSide startScr
  iintro ⟨⟨Hc, Hg⟩, Ho, ⟨%d0, H0⟩, ⟨%d1, H1⟩, ⟨%d2, H2⟩, ⟨%d3, H3⟩, ⟨%dm, Hm⟩, ⟨%ds, Hs⟩⟩
  iapply ((runStart c (grid0.coords t) _ _ _ _ _ _ _ _ _ _ _ _ _ _ ((starts_iff t).mpr h) (iblk m c 0 t) (iblk m c 1 t) (iblk m c 2 t) (iblk m c 3 t)).2.2.2 Set.univ _)
  isplitl [H0]; · iexact H0
  isplitl [H1]; · iexact H1
  isplitl [H2]; · iexact H2
  isplitl [H3]; · iexact H3
  isplitl [Hm]; · iexists _; iexact Hm
  isplitl [Hs]; · iexists _; iexact Hs
  isplitl [Hc]; · iexact Hc
  iintro ⟨H0, H1, H2, H3, ⟨%em, Hm⟩, ⟨%es, Hs⟩, ⟨%ec, Hc⟩⟩
  isplitl [Hc Hg]
  · isplitl [Hc]
    · unfold owns; iexists _; isplitr
      swap; · iexact Hc
      ipureintro; exact View.read_writes_of_cover _ _ _ _ _ (start_covers_scr c _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [Hm]
  · unfold owns; iexists _; isplitr
    swap; · iexact Hm
    ipureintro; exact View.read_writes_of_cover _ _ _ _ _ (start_covers_main c _ _ _ _ _ _ _ _ _ _ _ _ _ _ _ _ _ _ _ _)
  unfold owns; iexists _; isplitr
  swap; · iexact Hs
  ipureintro; exact View.read_writes_of_cover _ _ _ _ _ (start_covers_side c _ _ _ _ _ _ _ _ _ _ _ _ _ _ _ _ _ _ _ _)

set_option maxHeartbeats 3200000 in
theorem body_next (c : Dev nD) (t : Fin cfg0.N) (h : ¬ t.val % 6 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before_side m c t h]
  rw [show (dats m 0 c).owesAt () t.succ = (dats m 0 c).owesAt () t.castSucc from rfl,
    after0_0, after0_1, after0_2, after0_3, after0_4, after0_5]
  rw [show (dats m 0 c).Φ t.succ
      = iprop(owns (c : Thread nD τ) scr fullShare (scrAt m c t) ∗ (∃ r, prngReg c r)) from rfl]
  rw [keeps_at m c t, keeps_pos m c _ _ (fun e => h (by rw [e])), ← scrAt_next m c t h,
    show mainAt m c t = nextMain m c t h from dif_neg h]
  unfold nextMain
  iintro ⟨⟨Hc, Hg⟩, Ho, ⟨%d0, H0⟩, ⟨%d1, H1⟩, ⟨%d2, H2⟩, ⟨%d3, H3⟩, ⟨%dm, Hm⟩, ⟨%ds, Hs⟩⟩
  iapply ((runNext c (grid0.coords t) _ _ _ _ _ _ _ _ _ _ _ _ _ _ (fun e => h ((starts_iff t).mp e)) (iblk m c 0 t) (iblk m c 1 t) (iblk m c 2 t) (iblk m c 3 t) (sideAt m c t) (scrAt m c t)).2 Set.univ _)
  isplitl [H0]; · iexact H0
  isplitl [H1]; · iexact H1
  isplitl [H2]; · iexact H2
  isplitl [H3]; · iexact H3
  isplitl [Hm]; · iexists _; iexact Hm
  isplitl [Hs]; · iexact Hs
  isplitl [Hc]; · iexact Hc
  iintro ⟨H0, H1, H2, H3, ⟨%em, Hm⟩, Hs, Hc⟩
  isplitl [Hc Hg]
  · isplitl [Hc]
    · iexact Hc
    iexact Hg
  isplitl [Ho]; · iexact Ho
  isplitl [H0]; · iexact H0
  isplitl [H1]; · iexact H1
  isplitl [H2]; · iexact H2
  isplitl [H3]; · iexact H3
  isplitl [Hm]
  · unfold owns; iexists _; isplitr
    swap; · iexact Hm
    ipureintro; exact View.read_writes_of_cover _ _ _ _ _ (next_covers_main c _ _ _ _ _ _ _ _ _ _ _ _ _ _ _ _ _ _ _ _ _ _)
  iexact Hs

theorem body_at (c : Dev nD) (t : Fin cfg0.N) :
    bodyPre m c t ⊢ wp frame (wpE (defs₀ (F := F)) Variants.none c none) Set.univ (bodyAt0 t) (fun _ => bodyPost m c t) := by
  by_cases h : t.val % 6 = 0
  · exact body_start m c t h
  · exact body_next m c t h

/-- Holding what the first point stored is what the pipeline asks of the second output at every point. -/
theorem side_left (c : Dev nD) (t : Fin cfg0.N) :
    owns (c : Thread nD τ) (ms5 t) fullShare ((dats (F := F) m 0 c).after 5 t) ⊢ (dats (F := F) m 0 c).leavesExact 5 t := by
  unfold Pipeline.Dat.leavesExact
  cases hi : cfg0.idle 5 (cfg0.grid.coords t)
  · exact .rfl
  cases hf : (cfg0.win 5).flush t
  · have h : ¬ t.val % 6 = 0 := fun h0 => by
      rw [idle_iff, decide_eq_true h0] at hi
      exact absurd hi (by decide)
    simp only [before_side m c t h, after0_5]
    iintro H
    iexists (sideAt m c t)
    iexact H
  · exact .rfl

theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (body_at m c t) rfl .rfl fun _ => sep_mono .rfl (sep_mono .rfl (sep_mono .rfl (sep_mono .rfl (sep_mono .rfl (sep_mono .rfl (sep_mono .rfl (side_left m c t)))))))

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  rw [show (dats m 0 c).Φ (Fin.last cfg0.N) = keeps m c cfg0.N (Nat.le_refl _) from rfl, before_any]
  exact keeps_any m c _ _

/-! ## The run -/

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- The arguments end as they were. -/
theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

end Cert.Kernel2Ideal.Gen

end
-- ==== Proof.InA.lean ====
/- The wide projection call: what its two result arrays hold when it ends. -/
module

public import proofs.«01_k».proof.Proof.Layer
public import proofs.«01_k».proof.Proof.InAFrame
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel2Ideal.Layer

open Idealize.ShloMosaic Idealize.ShloMosaic.TcCoe Idealize.SL.Sem
open Idealize.ShloMosaic.Pipeline (Dat)
open Cert.Kernel2Ideal Cert.Kernel2Ideal.Gen Cert.Layer

variable (m : (ℓ : Loc nD τ sig) → Buf (Elt Ideal) ℓ)

theorem idx : ∀ t : Fin cfg0.N,
    win0_0.index t = ![t.val / 6, 0] ∧ win0_1.index t = ![0, 0] ∧ win0_2.index t = ![0, t.val % 6] ∧ win0_3.index t = ![0, 0]
      ∧ win0_4.index t = ![t.val / 6, t.val % 6] ∧ win0_5.index t = ![t.val / 6, 0] :=
  (by decide +kernel : ∀ t : Fin grid0.N, _)

/-- The row of the whole array that row `y` of the block of point `t` is. -/
def rowAt (t : Fin cfg0.N) (y : Fin 1024) : Fin 16384 :=
  ⟨t.val / 6 * 1024 + y.val, by have := y.isLt; have : t.val < 96 := t.isLt; omega⟩

theorem rowAt_start (t : Fin cfg0.N) (y : Fin 1024) : rowAt (start t) y = rowAt t y :=
  Fin.ext (congrArg (fun q => q * 1024 + y.val) (show 6 * (t.val / 6) / 6 = t.val / 6 by omega))

/-- The normalised rows the points of a row block share. -/
def rows (c : Dev nD) (t : Fin cfg0.N) : FVec Ideal S1024x1024 .bf16 := fun y => rowNorm (V m c main_v0) (V m c main_v8) (rowAt t (y 0)) (y 1)

theorem rows_start (c : Dev nD) (t : Fin cfg0.N) : rows m c (start t) = rows m c t := by
  funext y
  unfold rows
  exact congrArg (fun r => rowNorm (V m c main_v0) (V m c main_v8) r (y 1)) (rowAt_start t (y 0))

theorem kept_at (c : Dev nD) (t : Fin cfg0.N) (y) : k0_pay2 (iblk m c 0 t) (iblk m c 1 t) y = rows m c t y := by
  unfold rows rowNorm rowAt
  unfold_payloads
  pointwise
  blk_point [iblk, V, idx t]

theorem first_at (c : Dev nD) (t : Fin cfg0.N) (y) : k0_pay1 (iblk m c 0 t) (iblk m c 1 t) y = rows m c t y := by
  unfold rows rowNorm rowAt
  unfold_payloads
  pointwise
  blk_point [iblk, V, idx t]

theorem scrAt_eq (c : Dev nD) (t : Fin cfg0.N) : scrAt m c t = rows m c t := by
  rw [← rows_start]
  funext y
  unfold scrAt startScr
  frame_out
  exact kept_at m c (start t) y

/-- The first result array from the prepared arrays. -/
def product (X : FVec Ideal S16384x1024 .f32) (G : FVec Ideal S1x1024 .f32) (W : FVec Ideal S1024x6144 .bf16) : FVec Ideal S16384x6144 .f32 := fun i =>
  ∑ k : Fin 1024, rowNorm X G (i 0) k * W (ix2 k (i 1))

theorem product_at (c : Dev nD) (t : Fin cfg0.N) (y) :
    k0_pay4 (rows m c t) (iblk m c 2 t) y
      = product (V m c main_v0) (V m c main_v8) (V m c main_v5) (((cfg0.win 4).blk t).view.emb y) := by
  unfold product rows rowAt
  unfold_payloads
  pointwise
  blk_point [iblk, V, idx t]

theorem wide_held (c : Dev nD) : (dats m 0 c).arrAt 4 cfg0.N = product (V m c main_v0) (V m c main_v8) (V m c main_v5) := by
  refine (dats m 0 c).arrAt_eq_of_covers 4 _ (by decide +kernel) fun t hf y => ?_
  blk_simp
  rw [after0_4]
  unfold mainAt
  by_cases h : t.val % 6 = 0
  · rw [dif_pos h]; unfold startMain; frame_out
    have e : (k0_pay2 (iblk m c 0 t) (iblk m c 1 t)) = rows m c t := funext fun y => kept_at m c t y
    rw [e]
    exact product_at m c t y
  · rw [dif_neg h]; unfold nextMain; frame_out
    rw [scrAt_eq, read_unread_whole]
    exact product_at m c t y

/-! ### The sixteen columns shown in two parts -/

/-- A row against column `n` in parts: the leading part, the part left over by the column, the part left over by the row. -/
def inParts (h : Fin 1024 → EReal) (W : FVec Ideal S1024x256 .bf16) (n : Fin 128) : EReal :=
  ((∑ k : Fin 1024, h k * W (ix2 k ⟨n.val, by omega⟩)) + ∑ k : Fin 1024, h k * W (ix2 k ⟨128 + n.val, by omega⟩))
    + ∑ k : Fin 1024, (h k - h k) * W (ix2 k ⟨n.val, by omega⟩)

/-- One block of the second result from blocks of the arrays. -/
theorem parts_point (H : FVec Ideal S1024x1024 .bf16) (x : Vec Ideal S1024x1024 .f32) (g : Vec Ideal S1x1024 .f32) (w : Vec Ideal S1024x256 .bf16)
    (e : ∀ y, k0_pay1 x g y = H y) (y) : k0_pay3 x g w y = inParts (fun k => H (ix2 (y 0) k)) w (y 1) := by
  unfold k0_pay3 inParts
  have e' : k0_pay1 x g = (H : FVec Ideal S1024x1024 .f32) := funext e
  rw [e']
  pointwise

/-- The second result array from the prepared arrays. -/
def partsArr (X : FVec Ideal S16384x1024 .f32) (G : FVec Ideal S1x1024 .f32) (W : FVec Ideal S1024x256 .bf16) : FVec Ideal S16384x128 .f32 := fun i =>
  inParts (rowNorm X G (i 0)) W (i 1)

theorem whole_side (c : Dev nD) (t : Fin cfg0.N) (y) : (iblk m c 3 t : FVec Ideal S1024x256 .bf16) y = (V m c main_v13 : FVec Ideal S1024x256 .bf16) y := by
  blk_point [iblk, V, idx t]

theorem side_position (t : Fin cfg0.N) (y : S1024x128.Idx) : (((cfg0.win 5).blk t).view.emb y : S16384x128.Idx) = ix2 (rowAt t (y 0)) (y 1) := by
  unfold rowAt
  blk_point [idx t]

theorem side_at (c : Dev nD) (t : Fin cfg0.N) (y) :
    k0_pay3 (iblk m c 0 t) (iblk m c 1 t) (iblk m c 3 t) y
      = partsArr (V m c main_v0) (V m c main_v8) (V m c main_v13) (ix2 (rowAt t (y 0)) (y 1)) := by
  rw [parts_point (rows m c t) _ _ _ (first_at m c t)]
  exact congrArg (fun w => inParts _ w (y 1)) (funext (whole_side m c t))

theorem sideAt_eq (c : Dev nD) (t : Fin cfg0.N) (y) : sideAt m c t y = partsArr (V m c main_v0) (V m c main_v8) (V m c main_v13) (ix2 (rowAt t (y 0)) (y 1)) := by
  refine Eq.trans ?_ (congrArg (fun r => partsArr (V m c main_v0) (V m c main_v8) (V m c main_v13) (ix2 r (y 1))) (rowAt_start t (y 0)))
  unfold sideAt startSide
  frame_out
  exact side_at m c (start t) y

theorem side_held (c : Dev nD) : (dats m 0 c).arrAt 5 cfg0.N = partsArr (V m c main_v0) (V m c main_v8) (V m c main_v13) := by
  refine (dats m 0 c).arrAt_eq_of_covers 5 _ (by decide +kernel) fun t hf y => ?_
  blk_simp
  rw [after0_5, sideAt_eq]
  exact congrArg (partsArr (V m c main_v0) (V m c main_v8) (V m c main_v13)) (side_position t y).symm

end Cert.Kernel2Ideal.Layer

end
-- ==== Proof.InAArgs.lean ====
/- The wide projection call's two results from the arguments it is called with. -/
module

public import proofs.«01_k».proof.Proof.InA
public import proofs.«01_k».proof.Proof.Real

@[expose] public section

set_option maxRecDepth 16384

noncomputable section

namespace Cert.Kernel2Ideal.Layer

open Idealize.ShloMosaic Idealize.ShloMosaic.TcCoe Idealize.SL.Sem
open Cert.Kernel2Ideal Cert.Kernel2Ideal.Gen Cert.Layer Cert.Moba

/-- The projection's column that column `n` of the wide result is. -/
def wideCol (n : Fin 6144) : Fin 11280 :=
  if n.val < 2048 then ⟨n.val, by omega⟩ else if n.val < 5120 then ⟨3072 + (n.val - 2048), by omega⟩ else ⟨7184 + (n.val - 5120), by omega⟩

/-- One entry of the wide result: the normalised row against one column of the projection. -/
def wideAt (x : FVec Ideal S4x4096x1024 .f32) (g : FVec Ideal S1024 .f32) (w : FVec Ideal S1024x11280 .f32) (r : Fin 16384) (n : Fin 6144) : EReal :=
  ∑ k : Fin 1024, posNorm x g ⟨r.val / 4096, by omega⟩ ⟨r.val % 4096, by omega⟩ k * w (ix2 k (wideCol n))

/-- The projection's gate columns, the columns past the sixteenth zero. -/
def gateCol (w : FVec Ideal S1024x11280 .f32) (k : Fin 1024) (n : Fin 128) : EReal :=
  if h : n.val < 16 then w (ix2 k ⟨6144 + n.val, by omega⟩) else 0

/-- One entry of the gate result. -/
def gateAt (x : FVec Ideal S4x4096x1024 .f32) (g : FVec Ideal S1024 .f32) (w : FVec Ideal S1024x11280 .f32) (r : Fin 16384) (n : Fin 128) : EReal :=
  ∑ k : Fin 1024, posNorm x g ⟨r.val / 4096, by omega⟩ ⟨r.val % 4096, by omega⟩ k * gateCol w k n

theorem zero_int : (FloatOps.sitofp (F := Ideal) .f32 (0#32) : EReal) = 0 := by
  show ((((0#32 : BitVec 32).toInt : ℤ) : ℝ) : EReal) = 0
  simp

theorem joined (w : FVec Ideal S1024x11280 .f32) (k : Fin 1024) (n : Fin 6144) :
    (truncf .bf16 (concatenate S1024x6144 1 [⟨S1024x2048, extractStridedSlice S1024x2048 ![0, 0] w slices_S1024x11280_S1024x2048_0_0⟩,
      ⟨S1024x3072, extractStridedSlice S1024x3072 ![0, 3072] w slices_S1024x11280_S1024x3072_0_3072⟩,
      ⟨S1024x1024, extractStridedSlice S1024x1024 ![0, 7184] w slices_S1024x11280_S1024x1024_0_7184⟩]
      concatenates_S1024x2048_S1024x3072_S1024x1024_S1024x6144_d1) bitsLt_bf16_f32 : FVec Ideal S1024x6144 .bf16) (ix2 k n) = w (ix2 k (wideCol n)) := by
  unfold wideCol
  pointwise
  by_cases h1 : n.val < 2048
  · rw [dif_pos h1, if_pos h1]
  · rw [dif_neg h1, if_neg h1]
    by_cases h2 : n.val < 5120
    · rw [dif_pos (show n.val - 2048 < 3072 by omega), if_pos h2]
    · rw [dif_neg (show ¬ n.val - 2048 < 3072 by omega), if_neg h2]
      exact congrArg w (congrArg (ix2 k) (Fin.ext (by dsimp only; omega)))

/-- The gate columns padded to 128. -/
def padded (w : FVec Ideal S1024x11280 .f32) : FVec Ideal S1024x128 .f32 :=
  pad S1024x128 ![0, 0] ![0, 112] ![0, 0] (extractStridedSlice S1024x16 ![0, 6144] w slices_S1024x11280_S1024x16_0_6144)
    (sitofp .f32 (constantI S_ 32 0#32) : FVec Ideal S_ .f32) pads_S1024x16_S1024x128_000_01120 h_S_

theorem padded_at (w : FVec Ideal S1024x11280 .f32) (k : Fin 1024) (n : Fin 128) : padded w (ix2 k n) = gateCol w k n := by
  unfold padded gateCol
  pointwise
  rw [zero_int]

theorem twice (w : FVec Ideal S1024x128 .f32) (k : Fin 1024) (n : Fin 128) :
    (concatenate S1024x256 1 [⟨S1024x128, (truncf .bf16 w bitsLt_bf16_f32 : FVec Ideal S1024x128 .bf16)⟩,
      ⟨S1024x128, (truncf .bf16 (subf w (extf .f32 (truncf .bf16 w bitsLt_bf16_f32 : FVec Ideal S1024x128 .bf16) bitsLt_bf16_f32)) bitsLt_bf16_f32 : FVec Ideal S1024x128 .bf16)⟩]
      concatenates_S1024x128_S1024x128_S1024x256_d1 : FVec Ideal S1024x256 .bf16) (ix2 k ⟨n.val, by omega⟩) = w (ix2 k n) := by
  pointwise

theorem twice_over (w : FVec Ideal S1024x128 .f32) (k : Fin 1024) (n : Fin 128) :
    (concatenate S1024x256 1 [⟨S1024x128, (truncf .bf16 w bitsLt_bf16_f32 : FVec Ideal S1024x128 .bf16)⟩,
      ⟨S1024x128, (truncf .bf16 (subf w (extf .f32 (truncf .bf16 w bitsLt_bf16_f32 : FVec Ideal S1024x128 .bf16) bitsLt_bf16_f32)) bitsLt_bf16_f32 : FVec Ideal S1024x128 .bf16)⟩]
      concatenates_S1024x128_S1024x128_S1024x256_d1 : FVec Ideal S1024x256 .bf16) (ix2 k ⟨128 + n.val, by omega⟩) = w (ix2 k n) - w (ix2 k n) := by
  pointwise

variable (m : (ℓ : Loc nD τ sig) → Buf (Elt Ideal) ℓ)

theorem rows_prepared (c : Dev nD) (r : Fin 16384) (k : Fin 1024) :
    (V m c main_v0 : FVec Ideal S16384x1024 .f32) (ix2 r k)
      = (m ((c : Thread nD τ).loc main_arg0) : FVec Ideal S4x4096x1024 .f32) (ix3 ⟨r.val / 4096, by omega⟩ ⟨r.val % 4096, by omega⟩ k) := by
  unfold V
  simp only [hostOps0, hostOps0_1, hostOps0_2, List.flatten_cons, List.flatten_nil, List.append_nil, List.cons_append, List.nil_append]
  after_results
  pointwise

theorem gain_prepared (c : Dev nD) (k : Fin 1024) :
    (V m c main_v8 : FVec Ideal S1x1024 .f32) (ix2 0 k) = (m ((c : Thread nD τ).loc main_arg1) : FVec Ideal S1024 .f32) (ix1 k) := by
  unfold V
  simp only [hostOps0, hostOps0_1, hostOps0_2, List.flatten_cons, List.flatten_nil, List.append_nil, List.cons_append, List.nil_append]
  after_results
  pointwise

theorem weights_prepared (c : Dev nD) (k : Fin 1024) (n : Fin 6144) :
    (V m c main_v5 : FVec Ideal S1024x6144 .bf16) (ix2 k n) = (m ((c : Thread nD τ).loc main_arg2) : FVec Ideal S1024x11280 .f32) (ix2 k (wideCol n)) := by
  refine Eq.trans ?_ (joined _ k n)
  unfold V
  simp only [hostOps0, hostOps0_1, hostOps0_2, List.flatten_cons, List.flatten_nil, List.append_nil, List.cons_append, List.nil_append]
  after_results
  rfl

theorem gates_prepared (c : Dev nD) (k : Fin 1024) (n : Fin 128) :
    (V m c main_v13 : FVec Ideal S1024x256 .bf16) (ix2 k ⟨n.val, by omega⟩) = gateCol (m ((c : Thread nD τ).loc main_arg2)) k n := by
  refine Eq.trans ?_ ((twice (padded (m ((c : Thread nD τ).loc main_arg2))) k n).trans (padded_at _ k n))
  unfold V padded
  simp only [hostOps0, hostOps0_1, hostOps0_2, List.flatten_cons, List.flatten_nil, List.append_nil, List.cons_append, List.nil_append]
  after_results
  rfl

theorem gates_over (c : Dev nD) (k : Fin 1024) (n : Fin 128) :
    (V m c main_v13 : FVec Ideal S1024x256 .bf16) (ix2 k ⟨128 + n.val, by omega⟩)
      = gateCol (m ((c : Thread nD τ).loc main_arg2)) k n - gateCol (m ((c : Thread nD τ).loc main_arg2)) k n := by
  refine Eq.trans ?_ ((twice_over (padded (m ((c : Thread nD τ).loc main_arg2))) k n).trans (congrArg (fun a : EReal => a - a) (padded_at _ k n)))
  unfold V padded
  simp only [hostOps0, hostOps0_1, hostOps0_2, List.flatten_cons, List.flatten_nil, List.append_nil, List.cons_append, List.nil_append]
  after_results
  rfl

theorem row_entry (c : Dev nD) (r : Fin 16384) (k : Fin 1024) :
    rowNorm (V m c main_v0) (V m c main_v8) r k
      = posNorm (m ((c : Thread nD τ).loc main_arg0)) (m ((c : Thread nD τ).loc main_arg1)) ⟨r.val / 4096, by omega⟩ ⟨r.val % 4096, by omega⟩ k :=
  rowNorm_of _ _ _ _ (rows_prepared m c) (gain_prepared m c) r k

/-- The first result array, from the kernel's arguments. -/
theorem wide_entry (c : Dev nD) (i : S16384x6144.Idx) :
    product (V m c main_v0) (V m c main_v8) (V m c main_v5) i
      = wideAt (m ((c : Thread nD τ).loc main_arg0)) (m ((c : Thread nD τ).loc main_arg1)) (m ((c : Thread nD τ).loc main_arg2)) (i 0) (i 1) := by
  unfold product wideAt
  refine Finset.sum_congr rfl fun k _ => ?_
  exact congrArg₂ (fun a b : EReal => a * b) (row_entry m c (i 0) k) (weights_prepared m c k (i 1))

/-! ### What is left over is zero -/

theorem real_sub_self {x : EReal} (h : IsReal x) : x - x = 0 := by
  obtain ⟨a, rfl⟩ := h
  rw [← EReal.coe_sub, sub_self]
  rfl

theorem word_1024 : Ideal.ofBits .f32 0x44800000#32 = ((1024 : ℝ) : EReal) := by
  simp [Ideal.ofBits, Ideal.ieee, -EReal.coe_mul]; norm_num

theorem posNorm_real (x : FVec Ideal S4x4096x1024 .f32) (g : FVec Ideal S1024 .f32) (hg : ∀ i, IsReal (g i)) (b : Fin 4) (s : Fin 4096) (k : Fin 1024) :
    IsReal (posNorm x g b s k) := by
  unfold posNorm
  obtain ⟨e, he, h⟩ := word_eps
  rw [word_1024, h]
  exact (scaled_real (fun k : Fin 1024 => (x (ix3 b s k) : EReal)) k 1024 e (by norm_num) he).mul (hg _)

/-- Real columns against a real row in parts is the plain product. -/
theorem parts_sum (h w : Fin 1024 → EReal) (hh : ∀ k, IsReal (h k)) (hw : ∀ k, IsReal (w k)) :
    ((∑ k : Fin 1024, h k * w k) + ∑ k : Fin 1024, h k * (w k - w k)) + ∑ k : Fin 1024, (h k - h k) * w k = ∑ k : Fin 1024, h k * w k := by
  have e1 : (∑ k : Fin 1024, h k * (w k - w k)) = 0 := Finset.sum_eq_zero fun k _ => by rw [real_sub_self (hw k), mul_zero]
  have e2 : (∑ k : Fin 1024, (h k - h k) * w k) = 0 := Finset.sum_eq_zero fun k _ => by rw [real_sub_self (hh k), zero_mul]
  rw [e1, e2, add_zero, add_zero]

theorem gateCol_real (w : FVec Ideal S1024x11280 .f32) (hw : ∀ (k : Fin 1024) (n : Fin 16), IsReal (w (ix2 k ⟨6144 + n.val, by omega⟩))) (k : Fin 1024) (n : Fin 128) :
    IsReal (gateCol w k n) := by
  unfold gateCol
  by_cases h : n.val < 16
  · rw [dif_pos h]; exact hw k ⟨n.val, h⟩
  · rw [dif_neg h]; exact ⟨0, rfl⟩

/-- The second result array, from the kernel's arguments, when the gain and the gate columns are real. -/
theorem gate_entry (c : Dev nD) (hg : ∀ i, IsReal ((m ((c : Thread nD τ).loc main_arg1) : FVec Ideal S1024 .f32) i))
    (hw : ∀ (k : Fin 1024) (n : Fin 16), IsReal ((m ((c : Thread nD τ).loc main_arg2) : FVec Ideal S1024x11280 .f32) (ix2 k ⟨6144 + n.val, by omega⟩)))
    (i : S16384x128.Idx) :
    partsArr (V m c main_v0) (V m c main_v8) (V m c main_v13) i
      = gateAt (m ((c : Thread nD τ).loc main_arg0)) (m ((c : Thread nD τ).loc main_arg1)) (m ((c : Thread nD τ).loc main_arg2)) (i 0) (i 1) := by
  unfold partsArr gateAt
  refine Eq.trans ?_ (parts_sum _ _ (fun k => posNorm_real _ _ hg _ _ k) (fun k => gateCol_real _ hw k (i 1)))
  unfold inParts
  have eh : rowNorm (V m c main_v0) (V m c main_v8) (i 0) = _ := funext fun k => row_entry m c (i 0) k
  rw [eh]
  refine congrArg₂ (fun a b : EReal => a + b) (congrArg₂ (fun a b : EReal => a + b) ?_ ?_) ?_
  · exact Finset.sum_congr rfl fun k _ => congrArg (fun a : EReal => _ * a) (gates_prepared m c k (i 1))
  · exact Finset.sum_congr rfl fun k _ => congrArg (fun a : EReal => _ * a) (gates_over m c k (i 1))
  · exact Finset.sum_congr rfl fun k _ => congrArg (fun a : EReal => _ * a) (gates_prepared m c k (i 1))

end Cert.Kernel2Ideal.Layer

end
-- ==== Proof.InARef.lean ====
/- The wide projection's reference entry by entry. -/
module

public import proofs.«01_k».proof.Proof.InAArgs
public import proofs.«01_k».proof.Proof.Gen.Reference2Ideal.Read

@[expose] public section

set_option maxRecDepth 16384

noncomputable section

namespace Cert.Reference2Ideal.Layer

open Idealize.ShloMosaic Cert.Reference2Ideal Cert.Reference2Ideal.Gen Cert.Reference2Ideal.Read Cert.Layer
open Cert.Kernel2Ideal.Layer (wideCol wideAt gateCol gateAt zero_int)

variable (x0 : FVec Ideal S4x4096x1024 .f32) (x1 : FVec Ideal S1024 .f32) (x2 : FVec Ideal S1024x11280 .f32)

theorem normed_ref (b : Fin 4) (s : Fin 4096) (k : Fin 1024) : val_main_v12 (F := Ideal) x0 x1 (ix3 b s k) = posNorm x0 x1 b s k := by
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply]
  simp only [val_main_v0_apply, val_main_cst_apply, val_main_cst_0_apply, val_main_cst_1_apply]
  unfold posNorm
  show (_ * Ideal.rsqrt (Ideal.div (Ideal.ofBits .f32 0x00000000#32 + _) _ + _)) * _ = _
  rw [zero_word, zero_add]
  have e : ∀ q : Fin 1024, idx_main_v1 (idx_main_v2 (idx_main_v8 (ix3 b s k))) q = ix3 b s q := fun q => funext fun a => by
    match a with
    | ⟨0, _⟩ => rfl
    | ⟨1, _⟩ => rfl
    | ⟨2, _⟩ => rfl
  have e1 : idx_main_v10 (idx_main_v11 (ix3 b s k)) = ix1 k := funext fun a => by
    match a with
    | ⟨0, _⟩ => rfl
  simp only [e, e1]
  rfl

theorem product_ref (b : Fin 4) (s : Fin 4096) (n : Fin 11280) :
    val_main_v13 (F := Ideal) x0 x1 x2 (ix3 b s n) = ∑ k : Fin 1024, posNorm x0 x1 b s k * x2 (ix2 k n) := by
  rw [val_main_v13_apply]
  refine Finset.sum_congr rfl fun k _ => ?_
  rw [← normed_ref, show lidx_main_v13 (ix3 b s n) k = ix3 b s k from funext fun a => by
    match a with
    | ⟨0, _⟩ => rfl
    | ⟨1, _⟩ => rfl
    | ⟨2, _⟩ => rfl,
    show ridx_main_v13 (ix3 b s n) k = ix2 k n from funext fun a => by
    match a with
    | ⟨0, _⟩ => rfl
    | ⟨1, _⟩ => rfl]

theorem wide_ref (b : Fin 4) (s : Fin 4096) (n : Fin 6144) :
    val_main_v18 (F := Ideal) x0 x1 x2 (ix3 b s n) = val_main_v13 (F := Ideal) x0 x1 x2 (ix3 b s (wideCol n)) := by
  unfold val_main_v18 wideCol
  pointwise
  by_cases h1 : n.val < 2048
  · rw [dif_pos h1, if_pos h1, val_main_v14_apply]
    exact congrArg (val_main_v13 (F := Ideal) x0 x1 x2) (funext fun a => by
      match a with
      | ⟨0, _⟩ => rfl
      | ⟨1, _⟩ => rfl
      | ⟨2, _⟩ => rfl)
  · rw [dif_neg h1, if_neg h1]
    by_cases h2 : n.val < 5120
    · rw [dif_pos (show n.val - 2048 < 3072 by omega), if_pos h2, val_main_v15_apply]
      exact congrArg (val_main_v13 (F := Ideal) x0 x1 x2) (funext fun a => by
        match a with
        | ⟨0, _⟩ => rfl
        | ⟨1, _⟩ => rfl
        | ⟨2, _⟩ => rfl)
    · rw [dif_neg (show ¬ n.val - 2048 < 3072 by omega), if_neg h2, val_main_v17_apply]
      exact congrArg (val_main_v13 (F := Ideal) x0 x1 x2) (funext fun a => by
        match a with
        | ⟨0, _⟩ => rfl
        | ⟨1, _⟩ => rfl
        | ⟨2, _⟩ => exact Fin.ext (by show 7184 + (n.val - 2048 - 3072) = 7184 + (n.val - 5120); omega))

theorem first_ref (i : S16384x6144.Idx) : val_main_v19 (F := Ideal) x0 x1 x2 i = wideAt x0 x1 x2 (i 0) (i 1) := by
  rw [val_main_v19_apply]
  have hi : (i 1).val < 6144 := (i 1).isLt
  have hr : (i 0).val < 16384 := (i 0).isLt
  have e : idx_main_v19 i = ix3 ⟨(i 0).val / 4096, by omega⟩ ⟨(i 0).val % 4096, by omega⟩ ⟨(i 1).val, hi⟩ := funext fun a => by
    match a with
    | ⟨0, _⟩ => refine Fin.ext ?_; simp [ix3]; omega
    | ⟨1, _⟩ => refine Fin.ext ?_; simp [ix3]; omega
    | ⟨2, _⟩ => refine Fin.ext ?_; simp [ix3]; omega
  rw [e, wide_ref, product_ref]
  rfl

theorem gate_ref (r : Fin 16384) (n : Fin 16) :
    val_main_v20 (F := Ideal) x0 x1 x2 (ix2 r n)
      = ∑ k : Fin 1024, posNorm x0 x1 ⟨r.val / 4096, by omega⟩ ⟨r.val % 4096, by omega⟩ k * x2 (ix2 k ⟨6144 + n.val, by omega⟩) := by
  rw [val_main_v20_apply, val_main_v16_apply]
  have e : idx_main_v16 (idx_main_v20 (ix2 r n)) = ix3 ⟨r.val / 4096, by omega⟩ ⟨r.val % 4096, by omega⟩ ⟨6144 + n.val, by omega⟩ := funext fun a => by
    match a with
    | ⟨0, _⟩ => refine Fin.ext ?_; simp [ix3, ix2]; omega
    | ⟨1, _⟩ => refine Fin.ext ?_; simp [ix3, ix2]; omega
    | ⟨2, _⟩ => refine Fin.ext ?_; simp [ix3, ix2]
  rw [e, product_ref]

theorem second_ref (i : S16384x128.Idx) : val_main_v21 (F := Ideal) x0 x1 x2 i = gateAt x0 x1 x2 (i 0) (i 1) := by
  unfold val_main_v21 gateAt gateCol
  pointwise
  by_cases h : (i 1).val < 16
  · rw [dif_pos h]
    refine (gate_ref x0 x1 x2 (i 0) ⟨(i 1).val, h⟩).trans ?_
    exact Finset.sum_congr rfl fun k _ => by rw [dif_pos h]
  · rw [dif_neg h, val_main_call0_v0_apply, val_main_c_apply, zero_int]
    exact (Finset.sum_eq_zero fun k _ => by rw [dif_neg h, mul_zero]).symm

end Cert.Reference2Ideal.Layer

end
-- ==== Proof.InAClaim.lean ====
/- The claim about the wide projection's two results. -/
module

public import proofs.«01_k».proof.Defs
public import proofs.«01_k».proof.Proof.Claim
public import proofs.«01_k».proof.Proof.InAArgs
public import proofs.«01_k».proof.Proof.InARef
public import proofs.«01_k».proof.Proof.Gen.Reference2Ideal.Run
public import proofs.«01_k».proof.Proof.Gen.Pre_finite_small
public import Idealize.ShloMosaic.Lib.Claim
public import Idealize.ShloMosaic.Lib.ReduceAll

@[expose] public section

set_option maxRecDepth 16384
set_option maxHeartbeats 400000

noncomputable section

namespace Cert.Kernel2Ideal.Layer

open Idealize.ShloMosaic Idealize.ShloMosaic.TcCoe Idealize.SL.Sem
open Cert.Kernel2Ideal Cert.Kernel2Ideal.Gen Cert.Moba
open Cert.KernelIdeal.Moba (real_of_below)

/-- The precondition read as real numbers. -/
theorem all_real [Cert.Pre_finite_small.Facts] (x0 : FVec Ideal S4x4096x1024 .f32) (x1 : FVec Ideal S1024 .f32) (x2 : FVec Ideal S1024x11280 .f32)
    (h : Cert.Pre_finite_small.fn (F := Ideal) x0 x1 x2 = fun _ => 1#1) :
    (∀ i, IsReal (x1 i)) ∧ ∀ (k : Fin 1024) (n : Fin 16), IsReal (x2 (ix2 k ⟨6144 + n.val, by omega⟩)) := by
  have hj := congrFun h (fun a => a.elim0)
  dsimp only [Cert.Pre_finite_small.fn] at hj
  obtain ⟨h1, h2⟩ := IntOp.andi_eq_one.1 hj
  have : Subsingleton Cert.Pre_finite_small.S_.Idx := ⟨fun a b => funext fun k => k.elim0⟩
  refine ⟨fun i => real_of_below _ (Host.reduce_andi_all _ _ _ _ _ h1 i), fun k n => ?_⟩
  have hr := real_of_below _ (Host.reduce_andi_all _ _ _ _ _ h2 (ix2 k n))
  refine (congrArg IsReal ?_).mp hr
  pointwise

/-- The reference's first result, from the kernel's arguments. -/
def wide (m : (ℓ : Loc nD τ sig) → Buf (Elt Ideal) ℓ) (c : Dev nD) : FVec Ideal S16384x6144 .f32 :=
  Cert.Reference2Ideal.Read.val_main_v19 (F := Ideal) (m ((c.tc : Thread nD τ).loc main_arg0)) (m ((c.tc : Thread nD τ).loc main_arg1)) (m ((c.tc : Thread nD τ).loc main_arg2))

/-- The reference's second result. -/
def gates (m : (ℓ : Loc nD τ sig) → Buf (Elt Ideal) ℓ) (c : Dev nD) : FVec Ideal S16384x128 .f32 :=
  Cert.Reference2Ideal.Read.val_main_v21 (F := Ideal) (m ((c.tc : Thread nD τ).loc main_arg0)) (m ((c.tc : Thread nD τ).loc main_arg1)) (m ((c.tc : Thread nD τ).loc main_arg2))

theorem wide_same (m : (ℓ : Loc nD τ sig) → Buf (Elt Ideal) ℓ) (c : Dev nD) : (dats m 0 c).arrAt 4 cfg0.N = wide m c :=
  (wide_held m c).trans (funext fun i => (wide_entry m c i).trans (Cert.Reference2Ideal.Layer.first_ref _ _ _ i).symm)

theorem gates_same [Cert.Pre_finite_small.Facts] (m : (ℓ : Loc nD τ sig) → Buf (Elt Ideal) ℓ) (hpre : Cert.Pre_Kernel2Ideal m) (c : Dev nD) :
    (dats m 0 c).arrAt 5 cfg0.N = gates m c := by
  obtain ⟨h1, h2⟩ := all_real _ _ _ (hpre c)
  exact (side_held m c).trans (funext fun i => (gate_entry m c h1 h2 i).trans (Cert.Reference2Ideal.Layer.second_ref _ _ _ i).symm)

/-- Over the extended reals the kernel's two results are the reference's. -/
theorem algebraic [Cert.Pre_finite_small.Facts] : Cert.algebraic_Kernel2Ideal_Reference2Ideal := by
  intro m g m' g' hpre hag
  refine ⟨wide m, gates m, ?_, (θ_run Cert.Reference2Ideal.defs _ _).mono (fun r h c => ?_) (Cert.Reference2Ideal.Value.run (F := Ideal) m' g')⟩
  · run_from Gen.run_main m g & Gen.unchanged m g
    · exact wide_same m c
    · exact gates_same m hpre c
  · obtain ⟨hr0, hr1, hargs⟩ := h c
    obtain ⟨a0, a1, a2⟩ := hag c
    refine ⟨hr0.trans ((Cert.Reference2Ideal.Read.val_main_v19_eq _ _ _).trans ?_), hr1.trans ((Cert.Reference2Ideal.Read.val_main_v21_eq _ _ _).trans ?_), hargs⟩
    · rw [a0, a1, a2]
      rfl
    · rw [a0, a1, a2]
      rfl

end Cert.Kernel2Ideal.Layer

end
-- ==== Proof.QueryFrame.lean ====
/- The frame of the expert query kernel (`Kernel5Ideal`): a row block is normalised at its first grid point, kept in the scratch and
   the block of normalised rows is stored then; at the block's other points the kernel only multiplies the kept rows. -/
module

public import proofs.«01_k».proof.Proof.Gen.Kernel5Ideal.Frame
public import proofs.«01_k».proof.Proof.Gen.Kernel5Ideal.Skeleton
public import Idealize.ShloMosaic.Lib.Pipeline.TableIdle
public import Idealize.ShloMosaic.Lib.Claim

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points start a row block -/

/-- The kernel normalises at the first of a row block's 2 points. -/
theorem starts_iff : ∀ t : Fin cfg0.N, k0_cond1 (grid0.coords t) = 1#1 ↔ t.val % 2 = 0 :=
  (by decide +kernel : ∀ t : Fin grid0.N, k0_cond1 (grid0.coords t) = 1#1 ↔ t.val % 2 = 0)

/-- At the others it leaves the second output alone. -/
theorem idle_iff : ∀ t : Fin cfg0.N, cfg0.idle 4 (cfg0.grid.coords t) = !decide (t.val % 2 = 0) :=
  (by decide +kernel : ∀ t : Fin grid0.N, idle0 4 (grid0.coords t) = !decide (t.val % 2 = 0))

/-- The second output's buffer holds nothing yet exactly at the start of a row block. -/
theorem fresh_iff (n : ℕ) (h : n ≤ cfg0.N) : cfg0.fresh 4 n = decide (n % 2 = 0) :=
  cfg0.fresh_tab 4 (fun n => decide (n % 2 = 0)) rfl
    (by decide +kernel : ∀ t : Fin cfg0.N, decide ((t.val + 1) % 2 = 0)
      = ((cfg0.win 4).flush t || (cfg0.idle 4 (cfg0.grid.coords t) && decide (t.val % 2 = 0)))) n h

/-- The first point of `t`'s row block. -/
def start (t : Fin cfg0.N) : Fin cfg0.N := ⟨2 * (t.val / 2), lt_of_le_of_lt (Nat.mul_div_le _ _) t.isLt⟩

theorem start_starts (t : Fin cfg0.N) : (start t).val % 2 = 0 := Nat.mul_mod_right _ _

theorem start_self (t : Fin cfg0.N) (h : t.val % 2 = 0) : start t = t := by
  refine Fin.ext ?_; show 2 * (t.val / 2) = t.val; omega

theorem start_next (t : Fin cfg0.N) (h : ¬ t.val % 2 = 0) : start t = start ⟨t.val - 1, by omega⟩ := by
  refine Fin.ext ?_; show 2 * (t.val / 2) = 2 * ((t.val - 1) / 2); omega

/-! ## The buffers -/

abbrev mainView : View sig .tc .vmem S1024x1024 .f32 := (Memref.whole cc0_stg3_0 : Memref sig .tc .vmem S1024x1024 .f32).view
abbrev sideView : View sig .tc .vmem S1024x1024 .bf16 := (Memref.whole cc0_stg4_0 : Memref sig .tc .vmem S1024x1024 .bf16).view
abbrev scr : Memref sig .tc .vmem S1024x1024 .bf16 := Memref.whole cc0_scratch0
abbrev scrView : View sig .tc .vmem S1024x1024 .bf16 := scr.view
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .bf16 := win0_4.stage (cfg0.slots t 4)
abbrev hs4 (t : Fin cfg0.N) : (ms4 t).IsWhole := hstage0_4 ((cfg0.slots t 4).cast nbuf0_4)

/-- Before the first point the scratch holds anything. -/
theorem before_any (c : Dev nD) :
    (Pipeline.ΦA spec0 c : sProp 𝕄)
      = iprop((∃ d, owns (c : Thread nD τ) scr fullShare d) ∗ (∃ r, prngReg c r)) := by
  unfold Pipeline.ΦA; rw [scopedRest0_eq]; simp only [scr, owns_whole]; try rfl

/-! ## The body at the two kinds of point -/

set_option maxHeartbeats 2000000 in
/-- The body at the start of a row block: what it stores in the two outputs and the scratch. -/
noncomputable def runStart (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc : k0_cond1 i = 1#1) (x0 : Vec F S1024x1024 .f32) (x1 : Vec F S1x1024 .f32) (x2 : Vec F S1024x1024 .bf16) :
    Σ' (Lm : List (View.Piece (Elt F) S1024x1024 .f32)) (Ls : List (View.Piece (Elt F) S1024x1024 .bf16)), { Lc : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f Lm) ∗ (∃ f, arg6.view.loc (c : Thread nD τ) ↦[arg6.view.set]{fullShare} arg6.view.writes (Elt F) f Ls) ∗ (∃ f, arg7.view.loc (c : Thread nD τ) ↦[arg7.view.set]{fullShare} arg7.view.writes (Elt F) f Lc)) -∗ K ⟨⟩))
          ⊢ wp frame (wpE (defs₀ (F := F)) Variants.none c none) E (cc0_peer_query i arg2 harg2 arg3 harg3 arg4 harg4 arg5 harg5 arg6 harg6 arg7 harg7) K } := by
  refine ⟨?_, ?_, ?_, fun E K => ?run⟩
  case run =>
    simp only [cc0_peer_query_eq_skeleton]; unfold cc0_peer_query_skel
    unfold owns
    iintro ⟨⟨%f0, %hf0, H0⟩, ⟨%f1, %hf1, H1⟩, ⟨%f2, %hf2, H2⟩, ⟨%dm, %fm, -, Hm⟩, ⟨%ds, %fs, -, Hs⟩, ⟨%dc, %fc, -, Hc⟩, Hk⟩
    obtain rfl := harg2.eq_unread hf0; obtain rfl := harg3.eq_unread hf1; obtain rfl := harg4.eq_unread hf2
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [Hm]; · iexists _; iexact Hm
    isplitl [Hs]; · iexists _; iexact Hs
    iexists _; iexact Hc

set_option maxHeartbeats 2000000 in
/-- The body at another point: it stores the first output from the scratch and keeps the rest. -/
noncomputable def runNext (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc : ¬ k0_cond1 i = 1#1) (x0 : Vec F S1024x1024 .f32) (x1 : Vec F S1x1024 .f32) (x2 : Vec F S1024x1024 .bf16) (xs : Vec F S1024x1024 .bf16) (xc : Vec F S1024x1024 .bf16) :
    { Lm : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs ∗ owns (c : Thread nD τ) arg7 fullShare xc
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f Lm) ∗ owns (c : Thread nD τ) arg6 fullShare xs ∗ owns (c : Thread nD τ) arg7 fullShare xc) -∗ K ⟨⟩))
          ⊢ wp frame (wpE (defs₀ (F := F)) Variants.none c none) E (cc0_peer_query i arg2 harg2 arg3 harg3 arg4 harg4 arg5 harg5 arg6 harg6 arg7 harg7) K } := by
  refine ⟨?_, fun E K => ?run⟩
  case run =>
    simp only [cc0_peer_query_eq_skeleton]; unfold cc0_peer_query_skel
    unfold owns
    iintro ⟨⟨%f0, %hf0, H0⟩, ⟨%f1, %hf1, H1⟩, ⟨%f2, %hf2, H2⟩, ⟨%dm, %fm, -, Hm⟩, ⟨%fs, %hfs, Hs⟩, ⟨%fc, %hfc, Hc⟩, Hk⟩
    obtain rfl := harg2.eq_unread hf0; obtain rfl := harg3.eq_unread hf1; obtain rfl := harg4.eq_unread hf2; obtain rfl := harg6.eq_unread hfs; obtain rfl := harg7.eq_unread hfc
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [Hm]; · iexists _; iexact Hm
    isplitl [Hs]
    · iexists _; isplitr; · ipureintro; exact harg6.read_unread _
      iexact Hs
    iexists _; isplitr; · ipureintro; exact harg7.read_unread _
    iexact Hc

/-! ## What the stores leave -/

theorem start_covers_main (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc : k0_cond1 i = 1#1) (x0 : Vec F S1024x1024 .f32) (x1 : Vec F S1x1024 .f32) (x2 : Vec F S1024x1024 .bf16) (y : S1024x1024.Idx) :
    ∃ p ∈ (runStart c i arg2 harg2 arg3 harg3 arg4 harg4 arg5 harg5 arg6 harg6 arg7 harg7 hc x0 x1 x2).1, y ∈ p.1.set :=
  View.cover_of_tiledL (runStart c i arg2 harg2 arg3 harg3 arg4 harg4 arg5 harg5 arg6 harg6 arg7 harg7 hc x0 x1 x2).1 S1024x1024.size (by sl_kernel_rfl) y

theorem start_covers_side (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc : k0_cond1 i = 1#1) (x0 : Vec F S1024x1024 .f32) (x1 : Vec F S1x1024 .f32) (x2 : Vec F S1024x1024 .bf16) (y : S1024x1024.Idx) :
    ∃ p ∈ (runStart c i arg2 harg2 arg3 harg3 arg4 harg4 arg5 harg5 arg6 harg6 arg7 harg7 hc x0 x1 x2).2.1, y ∈ p.1.set :=
  View.cover_of_tiledL (runStart c i arg2 harg2 arg3 harg3 arg4 harg4 arg5 harg5 arg6 harg6 arg7 harg7 hc x0 x1 x2).2.1 S1024x1024.size (by sl_kernel_rfl) y

theorem start_covers_scr (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc : k0_cond1 i = 1#1) (x0 : Vec F S1024x1024 .f32) (x1 : Vec F S1x1024 .f32) (x2 : Vec F S1024x1024 .bf16) (y : S1024x1024.Idx) :
    ∃ p ∈ (runStart c i arg2 harg2 arg3 harg3 arg4 harg4 arg5 harg5 arg6 harg6 arg7 harg7 hc x0 x1 x2).2.2.1, y ∈ p.1.set :=
  View.cover_of_tiledL (runStart c i arg2 harg2 arg3 harg3 arg4 harg4 arg5 harg5 arg6 harg6 arg7 harg7 hc x0 x1 x2).2.2.1 S1024x1024.size (by sl_kernel_rfl) y

theorem next_covers_main (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (hc : ¬ k0_cond1 i = 1#1) (x0 : Vec F S1024x1024 .f32) (x1 : Vec F S1x1024 .f32) (x2 : Vec F S1024x1024 .bf16) (xs : Vec F S1024x1024 .bf16) (xc : Vec F S1024x1024 .bf16) (y : S1024x1024.Idx) :
    ∃ p ∈ (runNext c i arg2 harg2 arg3 harg3 arg4 harg4 arg5 harg5 arg6 harg6 arg7 harg7 hc x0 x1 x2 xs xc).1, y ∈ p.1.set :=
  View.cover_of_tiledL (runNext c i arg2 harg2 arg3 harg3 arg4 harg4 arg5 harg5 arg6 harg6 arg7 harg7 hc x0 x1 x2 xs xc).1 S1024x1024.size (by sl_kernel_rfl) y

/-- The first output's block after a starting point, the second's, and the kept rows. -/
def startMain (c : Dev nD) (t : Fin cfg0.N) (h : t.val % 2 = 0) : Vec F S1024x1024 .f32 :=
  mainView.read (Elt F) (mainView.writes (Elt F) mainView.junk (runStart c (grid0.coords t) (ms0 t) (hs0 t) (ms1 t) (hs1 t) (ms2 t) (hs2 t) (ms3 t) (hs3 t) (ms4 t) (hs4 t) scr (Memref.isWhole_whole _) ((starts_iff t).mpr h) (iblk m c 0 t) (iblk m c 1 t) (iblk m c 2 t)).1)
def startSide (c : Dev nD) (t : Fin cfg0.N) (h : t.val % 2 = 0) : Vec F S1024x1024 .bf16 :=
  sideView.read (Elt F) (sideView.writes (Elt F) sideView.junk (runStart c (grid0.coords t) (ms0 t) (hs0 t) (ms1 t) (hs1 t) (ms2 t) (hs2 t) (ms3 t) (hs3 t) (ms4 t) (hs4 t) scr (Memref.isWhole_whole _) ((starts_iff t).mpr h) (iblk m c 0 t) (iblk m c 1 t) (iblk m c 2 t)).2.1)
def startScr (c : Dev nD) (t : Fin cfg0.N) (h : t.val % 2 = 0) : Vec F S1024x1024 .bf16 :=
  scrView.read (Elt F) (scrView.writes (Elt F) scrView.junk (runStart c (grid0.coords t) (ms0 t) (hs0 t) (ms1 t) (hs1 t) (ms2 t) (hs2 t) (ms3 t) (hs3 t) (ms4 t) (hs4 t) scr (Memref.isWhole_whole _) ((starts_iff t).mpr h) (iblk m c 0 t) (iblk m c 1 t) (iblk m c 2 t)).2.2.1)

/-- What the second output and the scratch hold after any point: what the block's first point stored. -/
def sideAt (c : Dev nD) (t : Fin cfg0.N) : Vec F S1024x1024 .bf16 := startSide m c (start t) (start_starts t)
def scrAt (c : Dev nD) (t : Fin cfg0.N) : Vec F S1024x1024 .bf16 := startScr m c (start t) (start_starts t)

/-- The first output's block after another point. -/
def nextMain (c : Dev nD) (t : Fin cfg0.N) (h : ¬ t.val % 2 = 0) : Vec F S1024x1024 .f32 :=
  mainView.read (Elt F) (mainView.writes (Elt F) mainView.junk (runNext c (grid0.coords t) (ms0 t) (hs0 t) (ms1 t) (hs1 t) (ms2 t) (hs2 t) (ms3 t) (hs3 t) (ms4 t) (hs4 t) scr (Memref.isWhole_whole _) (fun e => h ((starts_iff t).mp e)) (iblk m c 0 t) (iblk m c 1 t) (iblk m c 2 t) (sideAt m c t) (scrAt m c t)).1)

def mainAt (c : Dev nD) (t : Fin cfg0.N) : Vec F S1024x1024 .f32 :=
  if h : t.val % 2 = 0 then startMain m c t h else nextMain m c t h

theorem startSide_congr (c : Dev nD) (s t : Fin cfg0.N) (e : s = t) (hs : s.val % 2 = 0) (ht : t.val % 2 = 0) :
    startSide m c s hs = startSide m c t ht := by subst e; rfl
theorem startScr_congr (c : Dev nD) (s t : Fin cfg0.N) (e : s = t) (hs : s.val % 2 = 0) (ht : t.val % 2 = 0) :
    startScr m c s hs = startScr m c t ht := by subst e; rfl

theorem sideAt_start (c : Dev nD) (t : Fin cfg0.N) (h : t.val % 2 = 0) : sideAt m c t = startSide m c t h :=
  startSide_congr m c _ _ (start_self t h) _ _
theorem scrAt_start (c : Dev nD) (t : Fin cfg0.N) (h : t.val % 2 = 0) : scrAt m c t = startScr m c t h :=
  startScr_congr m c _ _ (start_self t h) _ _
theorem sideAt_next (c : Dev nD) (t : Fin cfg0.N) (h : ¬ t.val % 2 = 0) : sideAt m c t = sideAt m c ⟨t.val - 1, by omega⟩ :=
  startSide_congr m c _ _ (start_next t h) _ _
theorem scrAt_next (c : Dev nD) (t : Fin cfg0.N) (h : ¬ t.val % 2 = 0) : scrAt m c t = scrAt m c ⟨t.val - 1, by omega⟩ :=
  startScr_congr m c _ _ (start_next t h) _ _

/-! ## The pipeline's proof data -/

/-- Between points: the scratch holds the kept rows, once there are some. -/
def keeps (c : Dev nD) : (n : ℕ) → n ≤ cfg0.N → sProp 𝕄
  | 0, _ => Pipeline.ΦA spec0 c
  | n + 1, hn => iprop(owns (c : Thread nD τ) scr fullShare (scrAt m c ⟨n, hn⟩) ∗ (∃ r, prngReg c r))

theorem keeps_pos (c : Dev nD) (n : ℕ) (h : n ≤ cfg0.N) (hz : n ≠ 0) :
    keeps m c n h = iprop(owns (c : Thread nD τ) scr fullShare (scrAt m c ⟨n - 1, by omega⟩) ∗ (∃ r, prngReg c r)) := by
  cases n with
  | zero => exact absurd rfl hz
  | succ n => rfl

/-- Before any point the scratch holds something. -/
theorem keeps_any (c : Dev nD) (n : ℕ) (h : n ≤ cfg0.N) :
    keeps m c n h ⊢ iprop((∃ d, owns (c : Thread nD τ) scr fullShare d) ∗ (∃ r, prngReg c r)) := by
  cases n with
  | zero => exact Entails.of_eq (before_any c)
  | succ n =>
    show iprop(owns (c : Thread nD τ) scr fullShare (scrAt m c ⟨n, h⟩) ∗ (∃ r, prngReg c r)) ⊢ _
    iintro ⟨H, Hg⟩
    isplitl [H]
    · iexists _; iexact H
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => mainAt m c t
    | ⟨4, _⟩ => sideAt m c t
  Φ t := keeps m c t.val (Nat.le_of_lt_succ t.isLt)
  q _ := fullShare
  owed _ := 0

theorem A_eq (c : Dev nD) (w : Fin cfg0.W) : (dats m 0 c).A w = V m c (Pipeline.arrRef spec0 w) := by dsimp only [dats]

theorem keeps_at (c : Dev nD) (t : Fin cfg0.N) : (dats m 0 c).Φ t.castSucc = keeps m c t.val (Nat.le_of_lt t.isLt) := by
  dsimp only [dats]; exact Pipeline.Dat.Φ_castSucc (keeps m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = mainAt m c t := by dsimp only [dats]
theorem after0_4 (c : Dev nD) (t : Fin cfg0.N) : (dats m 0 c).after 4 t = sideAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At another point the second output's buffer still holds what the first point stored. -/
theorem before_side (c : Dev nD) (t : Fin cfg0.N) (h : ¬ t.val % 2 = 0) (d) : (dats m 0 c).before 4 t d = sideAt m c t := by
  have e := Pipeline.Dat.before_out_traj (dats m 0 c) 4 rfl (fun _ _ => rfl)
    (fun s hs hi _ => by
      rw [after0_4, after0_4]
      refine sideAt_next m c s fun h0 => ?_
      rw [idle_iff, decide_eq_true h0] at hi
      exact absurd hi (by decide)) t.val t rfl d
  rw [fresh_iff t.val (Nat.le_of_lt t.isLt), if_neg (by rw [decide_eq_false h]; decide), after0_4] at e
  exact e.trans (sideAt_next m c t h).symm

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 3200000 in
theorem body_start (c : Dev nD) (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3, after0_4]
  rw [show (dats m 0 c).Φ t.succ
      = iprop(owns (c : Thread nD τ) scr fullShare (scrAt m c t) ∗ (∃ r, prngReg c r)) from rfl]
  rw [keeps_at m c t, scrAt_start m c t h, sideAt_start m c t h, show mainAt m c t = startMain m c t h from dif_pos h]
  refine (sep_mono (keeps_any m c _ _) .rfl).trans ?_
  unfold startMain startSide startScr
  iintro ⟨⟨Hc, Hg⟩, Ho, ⟨%d0, H0⟩, ⟨%d1, H1⟩, ⟨%d2, H2⟩, ⟨%dm, Hm⟩, ⟨%ds, Hs⟩⟩
  iapply ((runStart c (grid0.coords t) _ _ _ _ _ _ _ _ _ _ _ _ ((starts_iff t).mpr h) (iblk m c 0 t) (iblk m c 1 t) (iblk m c 2 t)).2.2.2 Set.univ _)
  isplitl [H0]; · iexact H0
  isplitl [H1]; · iexact H1
  isplitl [H2]; · iexact H2
  isplitl [Hm]; · iexists _; iexact Hm
  isplitl [Hs]; · iexists _; iexact Hs
  isplitl [Hc]; · iexact Hc
  iintro ⟨H0, H1, H2, ⟨%em, Hm⟩, ⟨%es, Hs⟩, ⟨%ec, Hc⟩⟩
  isplitl [Hc Hg]
  · isplitl [Hc]
    · unfold owns; iexists _; isplitr
      swap; · iexact Hc
      ipureintro; exact View.read_writes_of_cover _ _ _ _ _ (start_covers_scr c _ _ _ _ _ _ _ _ _ _ _ _ _ _ _ _ _)
    iexact Hg
  isplitl [Ho]; · iexact Ho
  isplitl [H0]; · iexact H0
  isplitl [H1]; · iexact H1
  isplitl [H2]; · iexact H2
  isplitl [Hm]
  · unfold owns; iexists _; isplitr
    swap; · iexact Hm
    ipureintro; exact View.read_writes_of_cover _ _ _ _ _ (start_covers_main c _ _ _ _ _ _ _ _ _ _ _ _ _ _ _ _ _)
  unfold owns; iexists _; isplitr
  swap; · iexact Hs
  ipureintro; exact View.read_writes_of_cover _ _ _ _ _ (start_covers_side c _ _ _ _ _ _ _ _ _ _ _ _ _ _ _ _ _)

set_option maxHeartbeats 3200000 in
theorem body_next (c : Dev nD) (t : Fin cfg0.N) (h : ¬ t.val % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before_side m c t h]
  rw [show (dats m 0 c).owesAt () t.succ = (dats m 0 c).owesAt () t.castSucc from rfl,
    after0_0, after0_1, after0_2, after0_3, after0_4]
  rw [show (dats m 0 c).Φ t.succ
      = iprop(owns (c : Thread nD τ) scr fullShare (scrAt m c t) ∗ (∃ r, prngReg c r)) from rfl]
  rw [keeps_at m c t, keeps_pos m c _ _ (fun e => h (by rw [e])), ← scrAt_next m c t h,
    show mainAt m c t = nextMain m c t h from dif_neg h]
  unfold nextMain
  iintro ⟨⟨Hc, Hg⟩, Ho, ⟨%d0, H0⟩, ⟨%d1, H1⟩, ⟨%d2, H2⟩, ⟨%dm, Hm⟩, ⟨%ds, Hs⟩⟩
  iapply ((runNext c (grid0.coords t) _ _ _ _ _ _ _ _ _ _ _ _ (fun e => h ((starts_iff t).mp e)) (iblk m c 0 t) (iblk m c 1 t) (iblk m c 2 t) (sideAt m c t) (scrAt m c t)).2 Set.univ _)
  isplitl [H0]; · iexact H0
  isplitl [H1]; · iexact H1
  isplitl [H2]; · iexact H2
  isplitl [Hm]; · iexists _; iexact Hm
  isplitl [Hs]; · iexact Hs
  isplitl [Hc]; · iexact Hc
  iintro ⟨H0, H1, H2, ⟨%em, Hm⟩, Hs, Hc⟩
  isplitl [Hc Hg]
  · isplitl [Hc]
    · iexact Hc
    iexact Hg
  isplitl [Ho]; · iexact Ho
  isplitl [H0]; · iexact H0
  isplitl [H1]; · iexact H1
  isplitl [H2]; · iexact H2
  isplitl [Hm]
  · unfold owns; iexists _; isplitr
    swap; · iexact Hm
    ipureintro; exact View.read_writes_of_cover _ _ _ _ _ (next_covers_main c _ _ _ _ _ _ _ _ _ _ _ _ _ _ _ _ _ _ _)
  iexact Hs

theorem body_at (c : Dev nD) (t : Fin cfg0.N) :
    bodyPre m c t ⊢ wp frame (wpE (defs₀ (F := F)) Variants.none c none) Set.univ (bodyAt0 t) (fun _ => bodyPost m c t) := by
  by_cases h : t.val % 2 = 0
  · exact body_start m c t h
  · exact body_next m c t h

/-- Holding what the first point stored is what the pipeline asks of the second output at every point. -/
theorem side_left (c : Dev nD) (t : Fin cfg0.N) :
    owns (c : Thread nD τ) (ms4 t) fullShare ((dats (F := F) m 0 c).after 4 t) ⊢ (dats (F := F) m 0 c).leavesExact 4 t := by
  unfold Pipeline.Dat.leavesExact
  cases hi : cfg0.idle 4 (cfg0.grid.coords t)
  · exact .rfl
  cases hf : (cfg0.win 4).flush t
  · have h : ¬ t.val % 2 = 0 := fun h0 => by
      rw [idle_iff, decide_eq_true h0] at hi
      exact absurd hi (by decide)
    simp only [before_side m c t h, after0_4]
    iintro H
    iexists (sideAt m c t)
    iexact H
  · exact .rfl

theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (body_at m c t) rfl .rfl fun _ => sep_mono .rfl (sep_mono .rfl (sep_mono .rfl (sep_mono .rfl (sep_mono .rfl (sep_mono .rfl (side_left m c t))))))

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  rw [show (dats m 0 c).Φ (Fin.last cfg0.N) = keeps m c cfg0.N (Nat.le_refl _) from rfl, before_any]
  exact keeps_any m c _ _

/-! ## The run -/

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- The arguments end as they were. -/
theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

end Cert.Kernel5Ideal.Gen

end
-- ==== Proof.Query.lean ====
/- The expert query call: what its two result arrays hold when it ends. -/
module

public import proofs.«01_k».proof.Proof.Layer
public import proofs.«01_k».proof.Proof.QueryFrame
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel5Ideal.Layer

open Idealize.ShloMosaic Idealize.ShloMosaic.TcCoe Idealize.SL.Sem
open Idealize.ShloMosaic.Pipeline (Dat)
open Cert.Kernel5Ideal Cert.Kernel5Ideal.Gen Cert.Layer

variable (m : (ℓ : Loc nD τ sig) → Buf (Elt Ideal) ℓ)

theorem idx : ∀ t : Fin cfg0.N,
    win0_0.index t = ![t.val / 2, 0] ∧ win0_1.index t = ![0, 0] ∧ win0_2.index t = ![0, t.val % 2] ∧ win0_3.index t = ![t.val / 2, t.val % 2]
      ∧ win0_4.index t = ![t.val / 2, 0] :=
  (by decide +kernel : ∀ t : Fin grid0.N, _)

/-- The normalised rows a pair of points shares. -/
def rows (c : Dev nD) (t : Fin cfg0.N) : FVec Ideal S1024x1024 .bf16 := fun y =>
  rowNorm (V m c main_arg0) (V m c main_v0) ⟨t.val / 2 * 1024 + (y 0).val, by have := (y 0).isLt; have : t.val < 32 := t.isLt; show _ < 16384; simp at *; omega⟩ (y 1)

theorem kept_at (c : Dev nD) (t : Fin cfg0.N) (y) : k0_pay2 (iblk m c 0 t) (iblk m c 1 t) y = rows m c t y := by
  unfold rows rowNorm
  unfold_payloads
  pointwise
  blk_point [iblk, V, idx t]

theorem shown_at (c : Dev nD) (t : Fin cfg0.N) (y) : k0_pay3 (iblk m c 0 t) (iblk m c 1 t) y = rows m c t y := by
  unfold rows rowNorm
  unfold_payloads
  pointwise
  blk_point [iblk, V, idx t]

theorem rows_run (c : Dev nD) (t : Fin cfg0.N) : rows m c (start t) = rows m c t := by
  funext y
  unfold rows
  exact congrArg (fun r => rowNorm (V m c main_arg0) (V m c main_v0) r (y 1))
    (Fin.ext (congrArg (fun q => q * 1024 + (y 0).val) (show 2 * (t.val / 2) / 2 = t.val / 2 by omega)))

theorem scrAt_eq (c : Dev nD) (t : Fin cfg0.N) : scrAt m c t = rows m c t := by
  rw [← rows_run]
  funext y
  unfold scrAt startScr
  frame_out
  exact kept_at m c (start t) y

theorem sideAt_eq (c : Dev nD) (t : Fin cfg0.N) : sideAt m c t = rows m c t := by
  rw [← rows_run]
  funext y
  unfold sideAt startSide
  frame_out
  exact shown_at m c (start t) y

/-- The first result array from the prepared arrays. -/
def product (X : FVec Ideal S16384x1024 .f32) (G : FVec Ideal S1x1024 .f32) (W : FVec Ideal S1024x2048 .bf16) : FVec Ideal S16384x2048 .f32 := fun i =>
  ∑ k : Fin 1024, rowNorm X G (i 0) k * W (ix2 k (i 1))

/-- The second. -/
def normed (X : FVec Ideal S16384x1024 .f32) (G : FVec Ideal S1x1024 .f32) : FVec Ideal S16384x1024 .bf16 := fun i => rowNorm X G (i 0) (i 1)

theorem product_at (c : Dev nD) (t : Fin cfg0.N) (y) :
    k0_pay4 (rows m c t) (iblk m c 2 t) y
      = product (V m c main_arg0) (V m c main_v0) (V m c main_v1) (((cfg0.win 3).blk t).view.emb y) := by
  unfold product rows
  unfold_payloads
  pointwise
  blk_point [iblk, V, idx t]

theorem normed_at (c : Dev nD) (t : Fin cfg0.N) (y) :
    rows m c t y = normed (V m c main_arg0) (V m c main_v0) (((cfg0.win 4).blk t).view.emb y) := by
  unfold normed rows
  blk_point [iblk, V, idx t]

theorem query_held (c : Dev nD) : (dats m 0 c).arrAt 3 cfg0.N = product (V m c main_arg0) (V m c main_v0) (V m c main_v1) := by
  refine (dats m 0 c).arrAt_eq_of_covers 3 _ (by decide +kernel) fun t hf y => ?_
  blk_simp
  rw [after0_3]
  unfold mainAt
  by_cases h : t.val % 2 = 0
  · rw [dif_pos h]; unfold startMain; frame_out
    have e : (k0_pay2 (iblk m c 0 t) (iblk m c 1 t)) = rows m c t := funext fun y => kept_at m c t y
    rw [e]
    exact product_at m c t y
  · rw [dif_neg h]; unfold nextMain; frame_out
    rw [scrAt_eq, read_unread_whole]
    exact product_at m c t y

theorem normed_held (c : Dev nD) : (dats m 0 c).arrAt 4 cfg0.N = normed (V m c main_arg0) (V m c main_v0) := by
  refine (dats m 0 c).arrAt_eq_of_covers 4 _ (by decide +kernel) fun t hf y => ?_
  blk_simp
  rw [after0_4, sideAt_eq]
  exact normed_at m c t y

/-! ### The prepared arrays -/

theorem gain_prepared (c : Dev nD) (k : Fin 1024) :
    (V m c main_v0 : FVec Ideal S1x1024 .f32) (ix2 0 k) = (m ((c : Thread nD τ).loc main_arg1) : FVec Ideal S1024 .f32) (ix1 k) := by
  unfold V
  after_results
  pointwise

theorem weights_prepared (c : Dev nD) (k : Fin 1024) (n : Fin 2048) :
    (V m c main_v1 : FVec Ideal S1024x2048 .bf16) (ix2 k n) = (m ((c : Thread nD τ).loc main_arg2) : FVec Ideal S1024x2048 .f32) (ix2 k n) := by
  unfold V
  after_results
  rfl

/-- Entry `k` of row `r` normalised, from the kernel's arguments. -/
def normOf (x : FVec Ideal S16384x1024 .f32) (g : FVec Ideal S1024 .f32) (r : Fin 16384) (k : Fin 1024) : EReal :=
  x (ix2 r k) * Ideal.rsqrt (Ideal.div (∑ q : Fin 1024, x (ix2 r q) * x (ix2 r q)) (Ideal.ofBits .f32 0x44800000#32)
      + Ideal.ofBits .f32 0x358637BD#32) * g (ix1 k)

theorem row_entry (c : Dev nD) (r : Fin 16384) (k : Fin 1024) :
    rowNorm (V m c main_arg0) (V m c main_v0) r k = normOf (m ((c : Thread nD τ).loc main_arg0)) (m ((c : Thread nD τ).loc main_arg1)) r k := by
  unfold rowNorm normOf
  rw [V_main_arg0, gain_prepared]

theorem product_entry (c : Dev nD) (i : S16384x2048.Idx) :
    product (V m c main_arg0) (V m c main_v0) (V m c main_v1) i
      = ∑ k : Fin 1024, normOf (m ((c : Thread nD τ).loc main_arg0)) (m ((c : Thread nD τ).loc main_arg1)) (i 0) k
        * (m ((c : Thread nD τ).loc main_arg2) : FVec Ideal S1024x2048 .f32) (ix2 k (i 1)) := by
  unfold product
  refine Finset.sum_congr rfl fun k _ => ?_
  exact congrArg₂ (fun a b : EReal => a * b) (row_entry m c (i 0) k) (weights_prepared m c k (i 1))

end Cert.Kernel5Ideal.Layer

end
-- ==== Proof.QueryClaim.lean ====
/- The expert query's reference entry by entry, and that the kernel's results are its results. -/
module

public import proofs.«01_k».proof.Defs
public import proofs.«01_k».proof.Proof.Query
public import proofs.«01_k».proof.Proof.Gen.Reference5Ideal.Read
public import proofs.«01_k».proof.Proof.Gen.Reference5Ideal.Run

@[expose] public section

set_option maxRecDepth 16384
set_option maxHeartbeats 400000

noncomputable section

namespace Cert.Kernel5Ideal.Layer

open Idealize.ShloMosaic Idealize.ShloMosaic.TcCoe Idealize.SL.Sem
open Cert.Kernel5Ideal Cert.Kernel5Ideal.Gen Cert.Layer

section reference
open Cert.Reference5Ideal.Read

variable (x0 : FVec Ideal S16384x1024 .f32) (x1 : FVec Ideal S1024 .f32) (x2 : FVec Ideal S1024x2048 .f32)

theorem normed_ref (r : Fin 16384) (k : Fin 1024) : val_main_v12 (F := Ideal) x0 x1 (ix2 r k) = normOf x0 x1 r k := by
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply]
  simp only [val_main_v0_apply, val_main_cst_apply, val_main_cst_0_apply, val_main_cst_1_apply]
  unfold normOf
  show (_ * Ideal.rsqrt (Ideal.div (Ideal.ofBits .f32 0x00000000#32 + _) _ + _)) * _ = _
  rw [zero_word, zero_add]
  have e : ∀ q : Fin 1024, idx_main_v1 (idx_main_v2 (idx_main_v8 (ix2 r k))) q = ix2 r q := fun q => funext fun a => by
    match a with
    | ⟨0, _⟩ => rfl
    | ⟨1, _⟩ => rfl
  have e1 : idx_main_v10 (idx_main_v11 (ix2 r k)) = ix1 k := funext fun a => by
    match a with
    | ⟨0, _⟩ => rfl
  simp only [e, e1]
  rfl

theorem query_ref (i : S16384x2048.Idx) :
    val_main_v13 (F := Ideal) x0 x1 x2 i = ∑ k : Fin 1024, normOf x0 x1 (i 0) k * x2 (ix2 k (i 1)) := by
  rw [val_main_v13_apply]
  refine Finset.sum_congr rfl fun k _ => ?_
  rw [show lidx_main_v13 i k = ix2 (i 0) k from funext fun a => by
    match a with
    | ⟨0, _⟩ => rfl
    | ⟨1, _⟩ => rfl,
    show ridx_main_v13 i k = ix2 k (i 1) from funext fun a => by
    match a with
    | ⟨0, _⟩ => rfl
    | ⟨1, _⟩ => rfl]
  exact congrArg (fun a : EReal => a * x2 (ix2 k (i 1))) (normed_ref x0 x1 (i 0) k)

theorem shown_ref (i : S16384x1024.Idx) : val_main_v14 (F := Ideal) x0 x1 i = normOf x0 x1 (i 0) (i 1) := by
  rw [val_main_v14_apply]
  show val_main_v12 (F := Ideal) x0 x1 i = _
  refine Eq.trans ?_ (normed_ref x0 x1 (i 0) (i 1))
  exact congrArg (val_main_v12 (F := Ideal) x0 x1) (funext fun a => by
    match a with
    | ⟨0, _⟩ => rfl
    | ⟨1, _⟩ => rfl)

end reference

/-- The reference's queries, from the kernel's arguments. -/
def queries (m : (ℓ : Loc nD τ sig) → Buf (Elt Ideal) ℓ) (c : Dev nD) : FVec Ideal S16384x2048 .f32 :=
  Cert.Reference5Ideal.Read.val_main_v13 (F := Ideal) (m ((c.tc : Thread nD τ).loc main_arg0)) (m ((c.tc : Thread nD τ).loc main_arg1)) (m ((c.tc : Thread nD τ).loc main_arg2))

/-- The reference's normalised rows. -/
def shown (m : (ℓ : Loc nD τ sig) → Buf (Elt Ideal) ℓ) (c : Dev nD) : FVec Ideal S16384x1024 .bf16 :=
  Cert.Reference5Ideal.Read.val_main_v14 (F := Ideal) (m ((c.tc : Thread nD τ).loc main_arg0)) (m ((c.tc : Thread nD τ).loc main_arg1))

theorem queries_same (m : (ℓ : Loc nD τ sig) → Buf (Elt Ideal) ℓ) (c : Dev nD) : (dats m 0 c).arrAt 3 cfg0.N = queries m c :=
  (query_held m c).trans (funext fun i => (product_entry m c i).trans (query_ref _ _ _ i).symm)

theorem shown_same (m : (ℓ : Loc nD τ sig) → Buf (Elt Ideal) ℓ) (c : Dev nD) : (dats m 0 c).arrAt 4 cfg0.N = shown m c :=
  (normed_held m c).trans (funext fun i => (row_entry m c (i 0) (i 1)).trans (shown_ref _ _ i).symm)

/-- Over the extended reals the kernel's results are the reference's. -/
theorem algebraic : Cert.algebraic_Kernel5Ideal_Reference5Ideal := by
  intro m g m' g' hpre hag
  refine ⟨queries m, shown m, ?_, (θ_run Cert.Reference5Ideal.defs _ _).mono (fun r h c => ?_) (Cert.Reference5Ideal.Value.run (F := Ideal) m' g')⟩
  · run_from Gen.run_main m g & Gen.unchanged m g
    · exact queries_same m c
    · exact shown_same m c
  · obtain ⟨hr0, hr1, hargs⟩ := h c
    obtain ⟨a0, a1, a2⟩ := hag c
    refine ⟨hr0.trans ((Cert.Reference5Ideal.Read.val_main_v13_eq _ _ _).trans ?_), hr1.trans ((Cert.Reference5Ideal.Read.val_main_v14_eq _ _).trans ?_), hargs⟩
    · rw [a0, a1, a2]
      rfl
    · rw [a0, a1]
      rfl

end Cert.Kernel5Ideal.Layer

end
-- ==== Proof.MemKV.lean ====
/- The memory's keys and values: what the call's result array holds when it ends, and that it is the reference's. -/
module

public import proofs.«01_k».proof.Defs
public import proofs.«01_k».proof.Proof.Layer
public import proofs.«01_k».proof.Proof.Gen.Kernel6Ideal.Frame
public import proofs.«01_k».proof.Proof.Gen.Reference6Ideal.Read
public import proofs.«01_k».proof.Proof.Gen.Reference6Ideal.Run
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384
set_option maxHeartbeats 400000

noncomputable section

namespace Cert.Kernel6Ideal.Layer

open Idealize.ShloMosaic Idealize.ShloMosaic.TcCoe Idealize.SL.Sem
open Idealize.ShloMosaic.Pipeline (Dat)
open Cert.Kernel6Ideal Cert.Kernel6Ideal.Gen
open Cert.Layer (zero_word)

/-- Entry `k` of memory row `r` normalised, from the prepared arrays. -/
def kvNorm (X : FVec Ideal S1024x1024 .f32) (G : FVec Ideal S1x1024 .f32) (r : Fin 1024) (k : Fin 1024) : EReal :=
  X (ix2 r k) * Ideal.rsqrt (Ideal.div (∑ q : Fin 1024, X (ix2 r q) * X (ix2 r q)) (Ideal.ofBits .f32 0x44800000#32)
      + Ideal.ofBits .f32 0x358637BD#32) * G (ix2 0 k)

/-- The same from the arguments. -/
def memNorm (x : FVec Ideal S4x256x1024 .f32) (g : FVec Ideal S1024 .f32) (b : Fin 4) (s : Fin 256) (k : Fin 1024) : EReal :=
  x (ix3 b s k) * Ideal.rsqrt (Ideal.div (∑ q : Fin 1024, x (ix3 b s q) * x (ix3 b s q)) (Ideal.ofBits .f32 0x44800000#32)
      + Ideal.ofBits .f32 0x358637BD#32) * g (ix1 k)

variable (m : (ℓ : Loc nD τ sig) → Buf (Elt Ideal) ℓ)

theorem idx : ∀ t : Fin cfg0.N,
    win0_0.index t = ![0, 0] ∧ win0_1.index t = ![0, 0] ∧ win0_2.index t = ![0, t.val] ∧ win0_3.index t = ![0, t.val] :=
  (by decide +kernel : ∀ t : Fin grid0.N, _)

/-- The normalised rows, the same at every point. -/
def rows (c : Dev nD) : FVec Ideal S1024x1024 .bf16 := fun y => kvNorm (V m c main_v0) (V m c main_v1) (y 0) (y 1)

theorem rows_at (c : Dev nD) (t : Fin cfg0.N) (y) : k0_pay1 (iblk m c 0 t) (iblk m c 1 t) y = rows m c y := by
  unfold rows kvNorm
  unfold_payloads
  pointwise
  blk_point [iblk, V, idx t]

theorem kept_rows (c : Dev nD) (t : Fin cfg0.N) (y) : (outsAt0 m c t.val t.isLt).2 y = rows m c y := by
  refine Pipeline.eq_of_write_hold_apply (fun n h => (outsAt0 m c n h).2) 4 (fun _ => rows m c) (fun t h y => ?_) (fun t h y => ?_) t y
  · rw [outsAt0_A m c t h]; dsimp only; unfold sout0_A_0; frame_out
    exact rows_at m c t y
  · rw [outsAt0_B m c t h]; rfl

/-- The call's result array from its prepared arrays. -/
def product (X : FVec Ideal S1024x1024 .f32) (G : FVec Ideal S1x1024 .f32) (W : FVec Ideal S1024x2048 .bf16) : FVec Ideal S1024x2048 .f32 := fun i =>
  ∑ k : Fin 1024, kvNorm X G (i 0) k * W (ix2 k (i 1))

theorem product_at (c : Dev nD) (t : Fin cfg0.N) (y) :
    k0_pay2 (rows m c) (iblk m c 2 t) y
      = product (V m c main_v0) (V m c main_v1) (V m c main_v2) (((cfg0.win 3).blk t).view.emb y) := by
  unfold product rows
  unfold_payloads
  pointwise
  blk_point [iblk, V, idx t]

theorem result_held (c : Dev nD) : (dats m 0 c).arrAt 3 cfg0.N = product (V m c main_v0) (V m c main_v1) (V m c main_v2) := by
  refine (dats m 0 c).arrAt_eq_of_covers 3 _ (by decide +kernel) fun t hf y => ?_
  blk_simp
  rw [after0_3]
  by_cases h : t.val % 4 = 0
  · rw [outsAt0_A m c t h]; dsimp only; unfold out0_A_3; frame_out
    have e : (k0_pay1 (iblk m c 0 t) (iblk m c 1 t)) = rows m c := funext fun y => rows_at m c t y
    rw [e]
    exact product_at m c t y
  · rw [outsAt0_B m c t h]; dsimp only; unfold out0_B_3; frame_out
    have e : (outsAt0 m c (t.val - 1) (Nat.lt_of_le_of_lt (Nat.sub_le _ _) t.isLt)).2 = rows m c :=
      funext fun y => kept_rows m c ⟨t.val - 1, Nat.lt_of_le_of_lt (Nat.sub_le _ _) t.isLt⟩ y
    rw [e, read_unread_whole]
    exact product_at m c t y

theorem rows_prepared (c : Dev nD) (r : Fin 1024) (k : Fin 1024) :
    (V m c main_v0 : FVec Ideal S1024x1024 .f32) (ix2 r k)
      = (m ((c : Thread nD τ).loc main_arg0) : FVec Ideal S4x256x1024 .f32) (ix3 ⟨r.val / 256, by omega⟩ ⟨r.val % 256, by omega⟩ k) := by
  unfold V
  after_results
  pointwise

theorem gain_prepared (c : Dev nD) (k : Fin 1024) :
    (V m c main_v1 : FVec Ideal S1x1024 .f32) (ix2 0 k) = (m ((c : Thread nD τ).loc main_arg1) : FVec Ideal S1024 .f32) (ix1 k) := by
  unfold V
  after_results
  pointwise

theorem weights_prepared (c : Dev nD) (k : Fin 1024) (n : Fin 2048) :
    (V m c main_v2 : FVec Ideal S1024x2048 .bf16) (ix2 k n) = (m ((c : Thread nD τ).loc main_arg2) : FVec Ideal S1024x2048 .f32) (ix2 k n) := by
  unfold V
  after_results
  rfl

theorem kvNorm_of (X : FVec Ideal S1024x1024 .f32) (G : FVec Ideal S1x1024 .f32) (x : FVec Ideal S4x256x1024 .f32) (g : FVec Ideal S1024 .f32)
    (hX : ∀ (r : Fin 1024) (k : Fin 1024), X (ix2 r k) = x (ix3 ⟨r.val / 256, by omega⟩ ⟨r.val % 256, by omega⟩ k))
    (hG : ∀ k : Fin 1024, G (ix2 0 k) = g (ix1 k)) (r : Fin 1024) (k : Fin 1024) :
    kvNorm X G r k = memNorm x g ⟨r.val / 256, by omega⟩ ⟨r.val % 256, by omega⟩ k := by
  unfold kvNorm memNorm
  simp only [hX, hG]

theorem row_entry (c : Dev nD) (r : Fin 1024) (k : Fin 1024) :
    kvNorm (V m c main_v0) (V m c main_v1) r k
      = memNorm (m ((c : Thread nD τ).loc main_arg0)) (m ((c : Thread nD τ).loc main_arg1)) ⟨r.val / 256, by omega⟩ ⟨r.val % 256, by omega⟩ k :=
  kvNorm_of _ _ _ _ (rows_prepared m c) (gain_prepared m c) r k

/-- One entry of the result from the arguments. -/
def kvAt (x : FVec Ideal S4x256x1024 .f32) (g : FVec Ideal S1024 .f32) (w : FVec Ideal S1024x2048 .f32) (r : Fin 1024) (n : Fin 2048) : EReal :=
  ∑ k : Fin 1024, memNorm x g ⟨r.val / 256, by omega⟩ ⟨r.val % 256, by omega⟩ k * w (ix2 k n)

theorem result_entry (c : Dev nD) (i : S1024x2048.Idx) :
    product (V m c main_v0) (V m c main_v1) (V m c main_v2) i
      = kvAt (m ((c : Thread nD τ).loc main_arg0)) (m ((c : Thread nD τ).loc main_arg1)) (m ((c : Thread nD τ).loc main_arg2)) (i 0) (i 1) := by
  unfold product kvAt
  refine Finset.sum_congr rfl fun k _ => ?_
  exact congrArg₂ (fun a b : EReal => a * b) (row_entry m c (i 0) k) (weights_prepared m c k (i 1))

section reference
open Cert.Reference6Ideal.Read

variable (x0 : FVec Ideal S4x256x1024 .f32) (x1 : FVec Ideal S1024 .f32) (x2 : FVec Ideal S1024x2048 .f32)

theorem normed_ref (b : Fin 4) (s : Fin 256) (k : Fin 1024) : val_main_v12 (F := Ideal) x0 x1 (ix3 b s k) = memNorm x0 x1 b s k := by
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply]
  simp only [val_main_v0_apply, val_main_cst_apply, val_main_cst_0_apply, val_main_cst_1_apply]
  unfold memNorm
  show (_ * Ideal.rsqrt (Ideal.div (Ideal.ofBits .f32 0x00000000#32 + _) _ + _)) * _ = _
  rw [zero_word, zero_add]
  have e : ∀ q : Fin 1024, idx_main_v1 (idx_main_v2 (idx_main_v8 (ix3 b s k))) q = ix3 b s q := fun q => funext fun a => by
    match a with
    | ⟨0, _⟩ => rfl
    | ⟨1, _⟩ => rfl
    | ⟨2, _⟩ => rfl
  have e1 : idx_main_v10 (idx_main_v11 (ix3 b s k)) = ix1 k := funext fun a => by
    match a with
    | ⟨0, _⟩ => rfl
  simp only [e, e1]
  rfl

theorem product_ref (b : Fin 4) (s : Fin 256) (n : Fin 2048) :
    val_main_v13 (F := Ideal) x0 x1 x2 (ix3 b s n) = ∑ k : Fin 1024, memNorm x0 x1 b s k * x2 (ix2 k n) := by
  rw [val_main_v13_apply]
  refine Finset.sum_congr rfl fun k _ => ?_
  rw [show lidx_main_v13 (ix3 b s n) k = ix3 b s k from funext fun a => by
    match a with
    | ⟨0, _⟩ => rfl
    | ⟨1, _⟩ => rfl
    | ⟨2, _⟩ => rfl,
    show ridx_main_v13 (ix3 b s n) k = ix2 k n from funext fun a => by
    match a with
    | ⟨0, _⟩ => rfl
    | ⟨1, _⟩ => rfl]
  exact congrArg (fun a : EReal => a * x2 (ix2 k n)) (normed_ref x0 x1 b s k)

theorem result_ref (i : S1024x2048.Idx) : val_main_v14 (F := Ideal) x0 x1 x2 i = kvAt x0 x1 x2 (i 0) (i 1) := by
  rw [val_main_v14_apply]
  have hi : (i 1).val < 2048 := (i 1).isLt
  have hr : (i 0).val < 1024 := (i 0).isLt
  have e : idx_main_v14 i = ix3 ⟨(i 0).val / 256, by omega⟩ ⟨(i 0).val % 256, by omega⟩ ⟨(i 1).val, hi⟩ := funext fun a => by
    match a with
    | ⟨0, _⟩ => refine Fin.ext ?_; simp [ix3]; omega
    | ⟨1, _⟩ => refine Fin.ext ?_; simp [ix3]; omega
    | ⟨2, _⟩ => refine Fin.ext ?_; simp [ix3]; omega
  rw [e, product_ref]
  rfl

end reference

/-- The reference's result, from the kernel's arguments. -/
def out (m : (ℓ : Loc nD τ sig) → Buf (Elt Ideal) ℓ) (c : Dev nD) : FVec Ideal S1024x2048 .f32 :=
  Cert.Reference6Ideal.Read.val_main_v14 (F := Ideal) (m ((c.tc : Thread nD τ).loc main_arg0)) (m ((c.tc : Thread nD τ).loc main_arg1)) (m ((c.tc : Thread nD τ).loc main_arg2))

theorem result_same (m : (ℓ : Loc nD τ sig) → Buf (Elt Ideal) ℓ) (c : Dev nD) : (dats m 0 c).arrAt 3 cfg0.N = out m c :=
  (result_held m c).trans (funext fun i => (result_entry m c i).trans (result_ref _ _ _ i).symm)

/-- Over the extended reals the kernel's result is the reference's. -/
theorem algebraic : Cert.algebraic_Kernel6Ideal_Reference6Ideal := by
  intro m g m' g' hpre hag
  refine ⟨out m, ?_, (θ_run Cert.Reference6Ideal.defs _ _).mono (fun r h c => ?_) (Cert.Reference6Ideal.Value.run (F := Ideal) m' g')⟩
  · run_from Gen.run_main m g & Gen.unchanged m g
    exact result_same m c
  · obtain ⟨hr, hargs⟩ := h c
    obtain ⟨a0, a1, a2⟩ := hag c
    refine ⟨hr.trans ((Cert.Reference6Ideal.Read.val_main_v14_eq _ _ _).trans ?_), hargs⟩
    rw [a0, a1, a2]
    rfl

end Cert.Kernel6Ideal.Layer

end
-- ==== Proof.MemAttn.lean ====
/- Attention over the memory: what the call's result array holds when it ends, from the arguments. -/
module

public import proofs.«01_k».proof.Proof.Layer
public import proofs.«01_k».proof.Proof.Gen.Kernel7Ideal.Frame
public import Idealize.ShloMosaic.Lib.Pipeline.ValueKit
public import Idealize.ShloMosaic.Lib.Pipeline.ReadBack

@[expose] public section

set_option maxRecDepth 16384
set_option maxHeartbeats 400000

noncomputable section

namespace Cert.MemAttn

open Idealize.ShloMosaic Idealize.ShloMosaic.TcCoe

/-- Entry `k` of a row of 256 over its root mean square, times the gain. -/
def unitRow (x g : Fin 256 → EReal) (k : Fin 256) : EReal :=
  x k * Ideal.rsqrt (Ideal.div (∑ q : Fin 256, x q * x q) (Ideal.ofBits .f32 0x43800000#32) + Ideal.ofBits .f32 0x358637BD#32) * g k

/-- The scaled product of a normalised query and a normalised key. -/
def scoreOf (q gq k gk : Fin 256 → EReal) : EReal :=
  (∑ j : Fin 256, unitRow q gq j * unitRow k gk j) * Ideal.ofBits .f32 0x3D800000#32

/-- Values weighed by the exponentials of scores, over the sum of the exponentials. -/
def weighed (s v : Fin 256 → EReal) : EReal :=
  Ideal.div (∑ t : Fin 256, Ideal.exp (s t - Finset.univ.sup s) * v t) (∑ t : Fin 256, Ideal.exp (s t - Finset.univ.sup s))

theorem least_word : Ideal.ofBits .f32 0xFF800000#32 = ⊥ := by
  simp [Ideal.ofBits, Ideal.ieee]

end Cert.MemAttn

namespace Cert.Kernel7Ideal.Layer

open Idealize.ShloMosaic Idealize.ShloMosaic.TcCoe Idealize.SL.Sem
open Idealize.ShloMosaic.Pipeline (Dat)
open Cert.Kernel7Ideal Cert.Kernel7Ideal.Gen Cert.MemAttn

/-- Head `h`'s query at position `s`. -/
def queryAt (x : FVec Ideal S4x4096x6144 .f32) (b : Fin 4) (h : Fin 4) (s : Fin 4096) (k : Fin 256) : EReal :=
  x (ix3 b s ⟨5120 + h.val * 256 + k.val, by omega⟩)

/-- Head `h`'s key at memory position `t`. -/
def keyAt (x : FVec Ideal S4x256x2048 .f32) (b : Fin 4) (h : Fin 4) (t : Fin 256) (k : Fin 256) : EReal :=
  x (ix3 b t ⟨h.val * 256 + k.val, by omega⟩)

/-- Lane `d` of head `h`'s values, over the memory positions. -/
def valueAt (x : FVec Ideal S4x256x2048 .f32) (b : Fin 4) (h : Fin 4) (d : Fin 256) (t : Fin 256) : EReal :=
  x (ix3 b t ⟨1024 + h.val * 256 + d.val, by omega⟩)

/-- The result at position `s`, head `h`, lane `d`. -/
def memAt (x : FVec Ideal S4x4096x6144 .f32) (kv : FVec Ideal S4x256x2048 .f32) (gq gk : Fin 256 → EReal) (b : Fin 4) (s : Fin 4096) (h : Fin 4) (d : Fin 256) : EReal :=
  weighed (fun t => scoreOf (queryAt x b h s) gq (keyAt kv b h t) gk) (valueAt kv b h d)

theorem score_point (v0 : Vec Ideal S1x1024x256 .f32) (v2 : Vec Ideal S1x256 .f32) (v17 : Vec Ideal S1x256x256 .f32) (v19 : Vec Ideal S1x256 .f32) (r : Fin 1024) (t : Fin 256) :
    k0_pay2 v0 v2 v17 v19 (ix2 r t)
      = scoreOf (fun k => v0 (ix3 0 r k)) (fun k => v2 (ix2 0 k)) (fun k => v17 (ix3 0 t k)) (fun k => v19 (ix2 0 k)) := by
  unfold scoreOf unitRow k0_pay2
  pointwise

theorem largest (y : FVec Ideal S1024x256 .f32) (r : Fin 1024) :
    multiReduction .maximumf [1] S1024 y 0xFF800000#32 reduces_S1024x256_S1024 (.inl rfl) rfl (ix1 r) = Finset.univ.sup fun t : Fin 256 => (y (ix2 r t) : EReal) := by
  pointwise
  show Finset.fold max (Ideal.ofBits .f32 0xFF800000#32) _ _ = _
  rw [least_word]
  rfl

theorem out_point (s : FVec Ideal S1024x256 .f32) (mx : FVec Ideal S1024 .f32) (v : Vec Ideal S1x256x256 .f32) (y : S1x1024x256.Idx) :
    k0_pay1 s mx v y
      = Ideal.div (∑ t : Fin 256, Ideal.exp (s (ix2 (y 1) t) - mx (ix1 (y 1))) * v (ix3 0 t (y 2))) (∑ t : Fin 256, Ideal.exp (s (ix2 (y 1) t) - mx (ix1 (y 1)))) := by
  unfold k0_pay1
  pointwise

theorem block_point (v0 : Vec Ideal S1x1024x256 .f32) (v2 : Vec Ideal S1x256 .f32) (v17 v45 : Vec Ideal S1x256x256 .f32) (v19 : Vec Ideal S1x256 .f32) (y : S1x1024x256.Idx) :
    k0_pay1 (k0_pay2 v0 v2 v17 v19) (k0_pay3 v0 v2 v17 v19) v45 y
      = weighed (fun t => scoreOf (fun k => v0 (ix3 0 (y 1) k)) (fun k => v2 (ix2 0 k)) (fun k => v17 (ix3 0 t k)) (fun k => v19 (ix2 0 k))) (fun t => v45 (ix3 0 t (y 2))) := by
  have e := fun t => score_point v0 v2 v17 v19 (y 1) t
  have em : k0_pay3 v0 v2 v17 v19 (ix1 (y 1)) = Finset.univ.sup fun t : Fin 256 => (k0_pay2 v0 v2 v17 v19 (ix2 (y 1) t) : EReal) := largest _ (y 1)
  refine (out_point _ _ _ y).trans ?_
  rw [em]
  unfold weighed
  simp only [e]

variable (m : (ℓ : Loc nD τ sig) → Buf (Elt Ideal) ℓ)

theorem idx : ∀ t : Fin cfg0.N,
    win0_0.index t = ![t.val / 16, t.val % 4, 20 + t.val / 4 % 4] ∧ win0_1.index t = ![t.val / 16, 0, t.val / 4 % 4]
      ∧ win0_2.index t = ![t.val / 16, 0, 4 + t.val / 4 % 4] ∧ win0_3.index t = ![0, 0] ∧ win0_4.index t = ![0, 0]
      ∧ win0_5.index t = ![t.val / 16, t.val % 4, t.val / 4 % 4] :=
  (by decide +kernel : ∀ t : Fin grid0.N, _)

def batch (t : Fin cfg0.N) : Fin 4 := ⟨t.val / 16, by have : t.val < 64 := t.isLt; omega⟩
def head (t : Fin cfg0.N) : Fin 4 := ⟨t.val / 4 % 4, by omega⟩
def posn (t : Fin cfg0.N) (r : Fin 1024) : Fin 4096 := ⟨t.val % 4 * 1024 + r.val, by omega⟩

theorem query_block (c : Dev nD) (t : Fin cfg0.N) (r : Fin 1024) (k : Fin 256) :
    (iblk m c 0 t : FVec Ideal S1x1024x256 .f32) (ix3 0 r k) = queryAt (m ((c : Thread nD τ).loc main_arg0)) (batch t) (head t) (posn t r) k := by
  unfold queryAt batch head posn
  rw [← V_main_arg0 m c]
  blk_point [iblk, V, idx t]

theorem key_block (c : Dev nD) (t : Fin cfg0.N) (u : Fin 256) (k : Fin 256) :
    (iblk m c 1 t : FVec Ideal S1x256x256 .f32) (ix3 0 u k) = keyAt (m ((c : Thread nD τ).loc main_arg1)) (batch t) (head t) u k := by
  unfold keyAt batch head
  rw [← V_main_arg1 m c]
  blk_point [iblk, V, idx t]

theorem value_block (c : Dev nD) (t : Fin cfg0.N) (u : Fin 256) (d : Fin 256) :
    (iblk m c 2 t : FVec Ideal S1x256x256 .f32) (ix3 0 u d) = valueAt (m ((c : Thread nD τ).loc main_arg1)) (batch t) (head t) d u := by
  unfold valueAt batch head
  rw [← V_main_arg1 m c]
  blk_point [iblk, V, idx t]

theorem query_gain (c : Dev nD) (t : Fin cfg0.N) (k : Fin 256) :
    (iblk m c 3 t : FVec Ideal S1x256 .f32) (ix2 0 k) = (m ((c : Thread nD τ).loc main_arg2) : FVec Ideal S256 .f32) (ix1 k) := by
  have e : (V m c main_v0 : FVec Ideal S1x256 .f32) (ix2 0 k) = (m ((c : Thread nD τ).loc main_arg2) : FVec Ideal S256 .f32) (ix1 k) := by
    unfold V
    after_results
    pointwise
  rw [← e]
  blk_point [iblk, V, idx t]

theorem key_gain (c : Dev nD) (t : Fin cfg0.N) (k : Fin 256) :
    (iblk m c 4 t : FVec Ideal S1x256 .f32) (ix2 0 k) = (m ((c : Thread nD τ).loc main_arg3) : FVec Ideal S256 .f32) (ix1 k) := by
  have e : (V m c main_v1 : FVec Ideal S1x256 .f32) (ix2 0 k) = (m ((c : Thread nD τ).loc main_arg3) : FVec Ideal S256 .f32) (ix1 k) := by
    unfold V
    after_results
    pointwise
  rw [← e]
  blk_point [iblk, V, idx t]

theorem position (t : Fin cfg0.N) (y : S1x1024x256.Idx) :
    (((cfg0.win 5).blk t).view.emb y : S4x4096x1024.Idx) = ix3 (batch t) (posn t (y 1)) ⟨(head t).val * 256 + (y 2).val, by have h : (y 2).val < 256 := (y 2).isLt; have := (head t).isLt; omega⟩ := by
  unfold batch head posn
  blk_point [idx t]

/-- The array at the end. -/
def memArr (x : FVec Ideal S4x4096x6144 .f32) (kv : FVec Ideal S4x256x2048 .f32) (gq gk : FVec Ideal S256 .f32) : FVec Ideal S4x4096x1024 .bf16 := fun i =>
  memAt x kv (fun k => gq (ix1 k)) (fun k => gk (ix1 k)) (i 0) (i 1) ⟨(i 2).val / 256, by have h : (i 2).val < 1024 := (i 2).isLt; omega⟩ ⟨(i 2).val % 256, by omega⟩

theorem memArr_at (x : FVec Ideal S4x4096x6144 .f32) (kv : FVec Ideal S4x256x2048 .f32) (gq gk : FVec Ideal S256 .f32) (b : Fin 4) (s : Fin 4096) (h : Fin 4) (d : Fin 256) (hc) :
    memArr x kv gq gk (ix3 b s ⟨h.val * 256 + d.val, hc⟩) = memAt x kv (fun k => gq (ix1 k)) (fun k => gk (ix1 k)) b s h d := by
  unfold memArr
  have e1 : (⟨(h.val * 256 + d.val) / 256, by omega⟩ : Fin 4) = h := Fin.ext (by show (h.val * 256 + d.val) / 256 = h.val; omega)
  have e2 : (⟨(h.val * 256 + d.val) % 256, by omega⟩ : Fin 256) = d := Fin.ext (by show (h.val * 256 + d.val) % 256 = d.val; omega)
  exact congrArg₂ (fun a b' => memAt x kv (fun k => gq (ix1 k)) (fun k => gk (ix1 k)) b s a b') e1 e2

theorem result_at (c : Dev nD) (t : Fin cfg0.N) (y : S1x1024x256.Idx) :
    k0_pay1 (k0_pay2 (iblk m c 0 t) (iblk m c 3 t) (iblk m c 1 t) (iblk m c 4 t)) (k0_pay3 (iblk m c 0 t) (iblk m c 3 t) (iblk m c 1 t) (iblk m c 4 t)) (iblk m c 2 t) y
      = memArr (m ((c : Thread nD τ).loc main_arg0)) (m ((c : Thread nD τ).loc main_arg1)) (m ((c : Thread nD τ).loc main_arg2)) (m ((c : Thread nD τ).loc main_arg3))
          (((cfg0.win 5).blk t).view.emb y) := by
  refine (block_point _ _ _ _ _ y).trans (Eq.trans ?_ ((congrArg _ (position t y)).trans (memArr_at _ _ _ _ (batch t) (posn t (y 1)) (head t) (y 2) _)).symm)
  unfold memAt
  have eq : (fun k => (iblk m c 0 t : FVec Ideal S1x1024x256 .f32) (ix3 0 (y 1) k)) = queryAt (m ((c : Thread nD τ).loc main_arg0)) (batch t) (head t) (posn t (y 1)) :=
    funext fun k => query_block m c t (y 1) k
  have ek : ∀ u : Fin 256, (fun k => (iblk m c 1 t : FVec Ideal S1x256x256 .f32) (ix3 0 u k)) = keyAt (m ((c : Thread nD τ).loc main_arg1)) (batch t) (head t) u :=
    fun u => funext fun k => key_block m c t u k
  have ev : (fun u => (iblk m c 2 t : FVec Ideal S1x256x256 .f32) (ix3 0 u (y 2))) = valueAt (m ((c : Thread nD τ).loc main_arg1)) (batch t) (head t) (y 2) :=
    funext fun u => value_block m c t u (y 2)
  have g1 : (fun k => (iblk m c 3 t : FVec Ideal S1x256 .f32) (ix2 0 k)) = fun k => (m ((c : Thread nD τ).loc main_arg2) : FVec Ideal S256 .f32) (ix1 k) :=
    funext fun k => query_gain m c t k
  have g2 : (fun k => (iblk m c 4 t : FVec Ideal S1x256 .f32) (ix2 0 k)) = fun k => (m ((c : Thread nD τ).loc main_arg3) : FVec Ideal S256 .f32) (ix1 k) :=
    funext fun k => key_gain m c t k
  exact congrArg₂ weighed (funext fun u => by
    refine (congrArg (fun a => scoreOf a _ _ _) eq).trans ?_
    refine (congrArg (fun a => scoreOf _ a _ _) g1).trans ?_
    refine (congrArg (fun a => scoreOf _ _ a _) (ek u)).trans ?_
    exact congrArg (fun a => scoreOf _ _ _ a) g2) ev

theorem result_held (c : Dev nD) : (dats m 0 c).arrAt 5 cfg0.N
    = memArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; unfold out0_5; frame_out
  exact result_at m c t y

end Cert.Kernel7Ideal.Layer

end
-- ==== Proof.MemAttnRef.lean ====
/- The reference of the attention over the memory, entry by entry. -/
module

public import proofs.«01_k».proof.Proof.MemAttn
public import proofs.«01_k».proof.Proof.Gen.Reference7Ideal.Read

@[expose] public section

set_option maxRecDepth 16384
set_option maxHeartbeats 400000

noncomputable section

namespace Cert.Reference7Ideal.Layer

open Idealize.ShloMosaic Idealize.ShloMosaic.TcCoe Idealize.SL.Sem
open Cert.Reference7Ideal Cert.Reference7Ideal.Read Cert.MemAttn
open Cert.Layer (zero_word)
open Cert.Kernel7Ideal.Layer (queryAt keyAt valueAt)

variable (x0 : FVec Ideal S4x4096x6144 .f32) (x1 : FVec Ideal S4x256x2048 .f32) (x2 x3 : FVec Ideal S256 .f32)

theorem split_q (b h : Fin 4) (s : Fin 4096) (k : Fin 256) : val_main_v4 (F := Ideal) x0 (ix4 b h s k) = queryAt x0 b h s k := by
  rw [val_main_v4_apply, val_main_v3_apply, val_main_v0_apply]
  refine congrArg x0 (funext fun a => ?_)
  match a with
  | ⟨0, _⟩ => exact Fin.ext (by simp [ix4, ix3] <;> omega)
  | ⟨1, _⟩ => exact Fin.ext (by simp [ix4, ix3] <;> omega)
  | ⟨2, _⟩ => exact Fin.ext (by simp [ix4, ix3] <;> omega)

theorem split_k (b h : Fin 4) (t : Fin 256) (k : Fin 256) : val_main_v19 (F := Ideal) x1 (ix4 b h t k) = keyAt x1 b h t k := by
  rw [val_main_v19_apply, val_main_v18_apply, val_main_v1_apply]
  refine congrArg x1 (funext fun a => ?_)
  match a with
  | ⟨0, _⟩ => exact Fin.ext (by simp [ix4, ix3] <;> omega)
  | ⟨1, _⟩ => exact Fin.ext (by simp [ix4, ix3] <;> omega)
  | ⟨2, _⟩ => exact Fin.ext (by simp [ix4, ix3] <;> omega)

theorem split_v (b h : Fin 4) (t : Fin 256) (d : Fin 256) : val_main_v34 (F := Ideal) x1 (ix4 b h t d) = valueAt x1 b h d t := by
  rw [val_main_v34_apply, val_main_v33_apply, val_main_v2_apply]
  refine congrArg x1 (funext fun a => ?_)
  match a with
  | ⟨0, _⟩ => exact Fin.ext (by simp [ix4, ix3] <;> omega)
  | ⟨1, _⟩ => exact Fin.ext (by simp [ix4, ix3] <;> omega)
  | ⟨2, _⟩ => exact Fin.ext (by simp [ix4, ix3] <;> omega)

theorem normed_q (b h : Fin 4) (s : Fin 4096) (k : Fin 256) :
    val_main_v17 (F := Ideal) x0 x2 (ix4 b h s k) = unitRow (queryAt x0 b h s) (fun k => x2 (ix1 k)) k := by
  rw [val_main_v17_apply, val_main_v14_apply, val_main_v13_apply, val_main_v12_apply, val_main_v11_apply, val_main_v9_apply, val_main_v7_apply,
    val_main_v6_apply, val_main_v8_apply, val_main_v10_apply, val_main_v16_apply, val_main_v15_apply]
  simp only [val_main_v5_apply, val_main_cst_apply, val_main_cst_0_apply, val_main_cst_1_apply]
  unfold unitRow
  show (_ * Ideal.rsqrt (Ideal.div (Ideal.ofBits .f32 0x00000000#32 + _) _ + _)) * _ = _
  rw [zero_word, zero_add]
  have e : ∀ q : Fin 256, idx_main_v6 (idx_main_v7 (idx_main_v13 (ix4 b h s k))) q = ix4 b h s q := fun q => funext fun a => by
    match a with
    | ⟨0, _⟩ => rfl
    | ⟨1, _⟩ => rfl
    | ⟨2, _⟩ => rfl
    | ⟨3, _⟩ => rfl
  have e1 : idx_main_v15 (idx_main_v16 (ix4 b h s k)) = ix1 k := funext fun a => by
    match a with
    | ⟨0, _⟩ => rfl
  simp only [e, e1, split_q]
  rfl

theorem normed_k (b h : Fin 4) (t : Fin 256) (k : Fin 256) :
    val_main_v32 (F := Ideal) x1 x3 (ix4 b h t k) = unitRow (keyAt x1 b h t) (fun k => x3 (ix1 k)) k := by
  rw [val_main_v32_apply, val_main_v29_apply, val_main_v28_apply, val_main_v27_apply, val_main_v26_apply, val_main_v24_apply, val_main_v22_apply,
    val_main_v21_apply, val_main_v23_apply, val_main_v25_apply, val_main_v31_apply, val_main_v30_apply]
  simp only [val_main_v20_apply, val_main_cst_2_apply, val_main_cst_3_apply, val_main_cst_4_apply]
  unfold unitRow
  show (_ * Ideal.rsqrt (Ideal.div (Ideal.ofBits .f32 0x00000000#32 + _) _ + _)) * _ = _
  rw [zero_word, zero_add]
  have e : ∀ q : Fin 256, idx_main_v21 (idx_main_v22 (idx_main_v28 (ix4 b h t k))) q = ix4 b h t q := fun q => funext fun a => by
    match a with
    | ⟨0, _⟩ => rfl
    | ⟨1, _⟩ => rfl
    | ⟨2, _⟩ => rfl
    | ⟨3, _⟩ => rfl
  have e1 : idx_main_v30 (idx_main_v31 (ix4 b h t k)) = ix1 k := funext fun a => by
    match a with
    | ⟨0, _⟩ => rfl
  simp only [e, e1, split_k]
  rfl

/-- A query's score against memory position `t`. -/
def scoreAt (b h : Fin 4) (s : Fin 4096) (t : Fin 256) : EReal :=
  scoreOf (queryAt x0 b h s) (fun k => x2 (ix1 k)) (keyAt x1 b h t) (fun k => x3 (ix1 k))

theorem score_ref (b h : Fin 4) (s : Fin 4096) (t : Fin 256) : val_main_v37 (F := Ideal) x0 x1 x2 x3 (ix4 b h s t) = scoreAt x0 x1 x2 x3 b h s t := by
  rw [val_main_v37_apply, val_main_v35_apply, val_main_v36_apply]
  unfold scoreAt scoreOf
  have e : ∀ k : Fin 256, val_main_v17 (F := Ideal) x0 x2 (lidx_main_v35 (ix4 b h s t) k) * val_main_v32 (F := Ideal) x1 x3 (ridx_main_v35 (ix4 b h s t) k)
      = unitRow (queryAt x0 b h s) (fun k => x2 (ix1 k)) k * unitRow (keyAt x1 b h t) (fun k => x3 (ix1 k)) k := fun k => by
    rw [show lidx_main_v35 (ix4 b h s t) k = ix4 b h s k from (funext fun a => Fin.ext (match a with | ⟨0, _⟩ => rfl | ⟨1, _⟩ => rfl | ⟨2, _⟩ => rfl | ⟨3, _⟩ => rfl)),
      show ridx_main_v35 (ix4 b h s t) k = ix4 b h t k from (funext fun a => Fin.ext (match a with | ⟨0, _⟩ => rfl | ⟨1, _⟩ => rfl | ⟨2, _⟩ => rfl | ⟨3, _⟩ => rfl)),
      normed_q, normed_k]
  rw [Finset.sum_congr rfl fun k _ => e k]
  rfl

theorem largest (y : FVec Ideal S4x4x4096x256 .f32) (b h : Fin 4) (s : Fin 4096) :
    Host.reduce FloatOps.maximumf y (val_main_cst_6 (F := Ideal)) Gen.reducesTo_S4x4x4096x256_S4x4x4096_d3 Gen.h_S_ (ix3 b h s)
      = Finset.univ.sup fun t : Fin 256 => (y (ix4 b h s t) : EReal) := by
  unfold val_main_cst_6
  pointwise
  show Finset.fold max (Ideal.ofBits .f32 0xFF800000#32) _ _ = _
  rw [least_word]
  rfl

theorem top_ref (b h : Fin 4) (s : Fin 4096) :
    val_main_v40 (F := Ideal) x0 x1 x2 x3 (ix3 b h s) = Finset.univ.sup (scoreAt x0 x1 x2 x3 b h s) := by
  rw [val_main_v40_apply, val_main_v39_apply]
  unfold val_main_v38
  rw [largest, Finset.sup_congr rfl fun t _ => score_ref x0 x1 x2 x3 b h s t]
  show max (Ideal.ofBits .f32 0xFF800000#32) _ = _
  rw [least_word, max_eq_right bot_le]

theorem weight_ref (b h : Fin 4) (s : Fin 4096) (t : Fin 256) :
    val_main_v44 (F := Ideal) x0 x1 x2 x3 (ix4 b h s t)
      = Ideal.exp (scoreAt x0 x1 x2 x3 b h s t - Finset.univ.sup (scoreAt x0 x1 x2 x3 b h s)) := by
  rw [val_main_v44_apply, val_main_v43_apply, val_main_v42_apply, val_main_v41_apply, score_ref, ← top_ref]
  rw [show idx_main_v41 (idx_main_v42 (ix4 b h s t)) = ix3 b h s from (funext fun a => Fin.ext (match a with | ⟨0, _⟩ => rfl | ⟨1, _⟩ => rfl | ⟨2, _⟩ => rfl))]
  rfl

/-- The reference's result at position `s`, head `h`, lane `d`. -/
def outAt (b : Fin 4) (s : Fin 4096) (h : Fin 4) (d : Fin 256) : EReal :=
  ∑ t : Fin 256, Ideal.div (Ideal.exp (scoreAt x0 x1 x2 x3 b h s t - Finset.univ.sup (scoreAt x0 x1 x2 x3 b h s)))
      (∑ t' : Fin 256, Ideal.exp (scoreAt x0 x1 x2 x3 b h s t' - Finset.univ.sup (scoreAt x0 x1 x2 x3 b h s)))
    * valueAt x1 b h d t

theorem out_ref (b h : Fin 4) (s : Fin 4096) (d : Fin 256) : val_main_v49 (F := Ideal) x0 x1 x2 x3 (ix4 b h s d) = outAt x0 x1 x2 x3 b s h d := by
  rw [val_main_v49_apply]
  unfold outAt
  refine Finset.sum_congr rfl fun t _ => ?_
  rw [show lidx_main_v49 (ix4 b h s d) t = ix4 b h s t from (funext fun a => Fin.ext (match a with | ⟨0, _⟩ => rfl | ⟨1, _⟩ => rfl | ⟨2, _⟩ => rfl | ⟨3, _⟩ => rfl)),
    show ridx_main_v49 (ix4 b h s d) t = ix4 b h t d from (funext fun a => Fin.ext (match a with | ⟨0, _⟩ => rfl | ⟨1, _⟩ => rfl | ⟨2, _⟩ => rfl | ⟨3, _⟩ => rfl)),
    split_v, val_main_v48_apply, val_main_v47_apply, val_main_v46_apply, val_main_v45_apply, weight_ref]
  have e : ∀ t' : Fin 256, val_main_v44 (F := Ideal) x0 x1 x2 x3 (idx_main_v45 (idx_main_v46 (idx_main_v47 (ix4 b h s t))) t')
      = Ideal.exp (scoreAt x0 x1 x2 x3 b h s t' - Finset.univ.sup (scoreAt x0 x1 x2 x3 b h s)) := fun t' => by
    rw [← weight_ref]
    exact congrArg _ (funext fun a => Fin.ext (match a with | ⟨0, _⟩ => rfl | ⟨1, _⟩ => rfl | ⟨2, _⟩ => rfl | ⟨3, _⟩ => rfl))
  rw [Finset.sum_congr rfl fun t' _ => e t']
  show Ideal.div _ (Ideal.ofBits .f32 0x00000000#32 + _) * _ = _
  rw [zero_word, zero_add]

/-- The reference's array. -/
theorem result_ref (b : Fin 4) (s : Fin 4096) (c : Fin 1024) :
    val_main_v52 (F := Ideal) x0 x1 x2 x3 (ix3 b s c) = outAt x0 x1 x2 x3 b s ⟨c.val / 256, by omega⟩ ⟨c.val % 256, by omega⟩ := by
  rw [val_main_v52_apply, val_main_v51_apply, val_main_v50_apply, ← out_ref]
  refine congrArg (val_main_v49 (F := Ideal) x0 x1 x2 x3) (funext fun a => ?_)
  match a with
  | ⟨0, _⟩ => exact Fin.ext (by simp [ix4, ix3] <;> omega)
  | ⟨1, _⟩ => exact Fin.ext (by simp [ix4, ix3] <;> omega)
  | ⟨2, _⟩ => exact Fin.ext (by simp [ix4, ix3] <;> omega)
  | ⟨3, _⟩ => exact Fin.ext (by simp [ix4, ix3] <;> omega)

end Cert.Reference7Ideal.Layer

end
-- ==== Proof.MemAttnClaim.lean ====
/- The claim about the attention over the memory. -/
module

public import proofs.«01_k».proof.Defs
public import proofs.«01_k».proof.Proof.Claim
public import proofs.«01_k».proof.Proof.MemAttnRef
public import proofs.«01_k».proof.Proof.Gen.Reference7Ideal.Run
public import proofs.«01_k».proof.Proof.Gen.Pre_finite_mem
public import Idealize.ShloMosaic.Lib.Claim
public import Idealize.ShloMosaic.Lib.ReduceAll

@[expose] public section

set_option maxRecDepth 16384
set_option maxHeartbeats 400000

noncomputable section

namespace Cert.MemAttn

open Idealize.ShloMosaic Cert.Moba

theorem word_256 : Ideal.ofBits .f32 0x43800000#32 = ((256 : ℝ) : EReal) := by
  simp [Ideal.ofBits, Ideal.ieee, -EReal.coe_mul]; norm_num

theorem word_scale : IsReal (Ideal.ofBits .f32 0x3D800000#32) := by
  refine ⟨1 / 16, ?_⟩
  simp [Ideal.ofBits, Ideal.ieee, -EReal.coe_mul]; norm_num

theorem unitRow_real (x g : Fin 256 → EReal) (hg : ∀ k, IsReal (g k)) (k : Fin 256) : IsReal (unitRow x g k) := by
  unfold unitRow
  obtain ⟨e, he, h⟩ := word_eps
  rw [word_256, h]
  exact (scaled_real x k 256 e (by norm_num) he).mul (hg k)

/-- A score is real whatever the query and the key are. -/
theorem scoreOf_real (q gq k gk : Fin 256 → EReal) (hq : ∀ j, IsReal (gq j)) (hk : ∀ j, IsReal (gk j)) : IsReal (scoreOf q gq k gk) := by
  unfold scoreOf
  refine IsReal.mul ?_ word_scale
  obtain ⟨f, hf⟩ := IsReal.exists_fun fun j => (unitRow_real q gq hq j).mul (unitRow_real k gk hk j)
  exact ⟨∑ j, f j, by rw [coe_sum_real]; exact Finset.sum_congr rfl fun j _ => hf j⟩

/-- One division of the weighted sum is the sum weighted by the divided exponentials. -/
theorem weighed_eq (s v : Fin 256 → EReal) (hs : ∀ t, IsReal (s t)) :
    weighed s v = ∑ t : Fin 256, Ideal.div (Ideal.exp (s t - Finset.univ.sup s)) (∑ t' : Fin 256, Ideal.exp (s t' - Finset.univ.sup s)) * v t := by
  obtain ⟨w, hw⟩ := IsReal.exists_fun hs
  have e : s = seen w (fun _ => True) 1 := funext fun t => by rw [hw t]; unfold seen; rw [if_pos trivial, mul_one]
  obtain ⟨p, h0, hpos, hE, -⟩ := weights w (fun _ => True) ⟨0, trivial⟩ 1 one_pos
  unfold weighed
  rw [e]
  simp only [hE, ← coe_sum_real]
  have hne : (∑ t, p t) ≠ 0 := hpos.ne'
  rw [Ideal.div_coe hne, sum_mul_real _ _ _ (by positivity)]
  refine Finset.sum_congr rfl fun t _ => ?_
  rw [Ideal.div_coe hne]
  ac_rfl

end Cert.MemAttn

namespace Cert.Kernel7Ideal.Layer

open Idealize.ShloMosaic Idealize.ShloMosaic.TcCoe Idealize.SL.Sem
open Cert.Kernel7Ideal Cert.Kernel7Ideal.Gen Cert.Moba Cert.MemAttn
open Cert.KernelIdeal.Moba (real_of_below)

/-- The precondition read as real numbers. -/
theorem all_real [Cert.Pre_finite_mem.Facts] (x0 : FVec Ideal S4x4096x6144 .f32) (x1 : FVec Ideal S4x256x2048 .f32) (x2 x3 : FVec Ideal S256 .f32)
    (h : Cert.Pre_finite_mem.fn (F := Ideal) x0 x1 x2 x3 = fun _ => 1#1) : (∀ i, IsReal (x2 i)) ∧ (∀ i, IsReal (x3 i)) := by
  have hj := congrFun h (fun a => a.elim0)
  dsimp only [Cert.Pre_finite_mem.fn] at hj
  obtain ⟨h1, h2⟩ := IntOp.andi_eq_one.1 hj
  have : Subsingleton Cert.Pre_finite_mem.S_.Idx := ⟨fun a b => funext fun k => k.elim0⟩
  exact ⟨fun i => real_of_below _ (Host.reduce_andi_all _ _ _ _ _ h1 i), fun i => real_of_below _ (Host.reduce_andi_all _ _ _ _ _ h2 i)⟩

theorem arrays_same (x0 : FVec Ideal S4x4096x6144 .f32) (x1 : FVec Ideal S4x256x2048 .f32) (x2 x3 : FVec Ideal S256 .f32)
    (h2 : ∀ i, IsReal (x2 i)) (h3 : ∀ i, IsReal (x3 i)) :
    memArr x0 x1 x2 x3 = Cert.Reference7Ideal.Read.val_main_v52 (F := Ideal) x0 x1 x2 x3 := by
  funext i
  have ei : i = ix3 (i 0) (i 1) (i 2) := funext fun a => by
    match a with
    | ⟨0, _⟩ => rfl
    | ⟨1, _⟩ => rfl
    | ⟨2, _⟩ => rfl
  refine Eq.trans ?_ ((congrArg _ ei).trans (Cert.Reference7Ideal.Layer.result_ref x0 x1 x2 x3 (i 0) (i 1) (i 2))).symm
  unfold memArr memAt Cert.Reference7Ideal.Layer.outAt
  exact weighed_eq _ _ fun t => scoreOf_real _ _ _ _ (fun k => h2 _) (fun k => h3 _)

/-- The reference's result, from the kernel's arguments. -/
def out (m : (ℓ : Loc nD τ sig) → Buf (Elt Ideal) ℓ) (c : Dev nD) : FVec Ideal S4x4096x1024 .bf16 :=
  Cert.Reference7Ideal.Read.val_main_v52 (F := Ideal) (m ((c.tc : Thread nD τ).loc main_arg0)) (m ((c.tc : Thread nD τ).loc main_arg1))
    (m ((c.tc : Thread nD τ).loc main_arg2)) (m ((c.tc : Thread nD τ).loc main_arg3))

theorem result_same [Cert.Pre_finite_mem.Facts] (m : (ℓ : Loc nD τ sig) → Buf (Elt Ideal) ℓ) (hpre : Cert.Pre_Kernel7Ideal m) (c : Dev nD) :
    (dats m 0 c).arrAt 5 cfg0.N = out m c := by
  obtain ⟨h2, h3⟩ := all_real _ _ _ _ (hpre c)
  exact (result_held m c).trans (arrays_same _ _ _ _ h2 h3)

/-- Over the extended reals the kernel's result is the reference's. -/
theorem algebraic [Cert.Pre_finite_mem.Facts] : Cert.algebraic_Kernel7Ideal_Reference7Ideal := by
  intro m g m' g' hpre hag
  refine ⟨out m, ?_, (θ_run Cert.Reference7Ideal.defs _ _).mono (fun r h c => ?_) (Cert.Reference7Ideal.Value.run (F := Ideal) m' g')⟩
  · run_from Gen.run_main m g & Gen.unchanged m g
    exact result_same m hpre c
  · obtain ⟨hr, hargs⟩ := h c
    obtain ⟨a0, a1, a2, a3⟩ := hag c
    refine ⟨hr.trans ((Cert.Reference7Ideal.Read.val_main_v52_eq _ _).trans ?_), hargs⟩
    rw [a0, a1, a2, a3]
    rfl

end Cert.Kernel7Ideal.Layer

end
-- ==== Proof.DnPrep.lean ====
/- DeltaNet's short convolution: what the call's result array holds when it ends, from the arguments. -/
module

public import proofs.«01_k».proof.Proof.Layer
public import proofs.«01_k».proof.Proof.Gen.Kernel8Ideal.Frame
public import Idealize.ShloMosaic.Lib.Pipeline.ValueKit
public import Idealize.ShloMosaic.Lib.Pipeline.ReadBack

@[expose] public section

set_option maxRecDepth 16384
set_option maxHeartbeats 400000

noncomputable section

namespace Cert.DnPrep

open Idealize.ShloMosaic Idealize.ShloMosaic.TcCoe

/-- A channel `d` positions earlier; zero before the first position. -/
def back (x : Fin 4096 → EReal) (d : ℕ) (s : Fin 4096) : EReal := if d ≤ s.val then x ⟨s.val - d, by omega⟩ else 0

/-- The causal convolution of a channel with four taps. -/
def conv (x : Fin 4096 → EReal) (w : Fin 4 → EReal) (s : Fin 4096) : EReal := w 3 * x s + w 0 * back x 3 s + w 1 * back x 2 s + w 2 * back x 1 s

def silu (z : EReal) : EReal := z * Ideal.logistic z

/-- One over the length of a head's row. -/
def invNorm (y : Fin 128 → EReal) : EReal := Ideal.rsqrt ((∑ q : Fin 128, y q * y q) + Ideal.ofBits .f32 0x358637BD#32)

/-- Entry `k` of head `n`'s row: queries over their length and scaled, keys over their length, values as they are. -/
def headRow (n : ℕ) (y : Fin 128 → EReal) (k : Fin 128) : EReal :=
  y k * (if n < 8 then invNorm y * Ideal.ofBits .f32 0x3DB504F3#32 else if n < 16 then invNorm y else Ideal.ofBits .f32 0x3F800000#32)

end Cert.DnPrep

namespace Cert.Kernel8Ideal.Layer

open Idealize.ShloMosaic Idealize.ShloMosaic.TcCoe Idealize.SL.Sem
open Idealize.ShloMosaic.Pipeline (Dat)
open Cert.Kernel8Ideal Cert.Kernel8Ideal.Gen Cert.DnPrep
open Cert.Layer (zero_word)

/-- The scratch after its two stores, read at row `o`: rows of the second store from row 8 on, of the first before. -/
theorem scratch_load {sp : Space} (v : View sig .tc sp S4104x128 .f32) (A : FVec Ideal S8x128 .f32) (B : FVec Ideal S4096x128 .f32) (o : ℕ) (ho : o ≤ 8) (inbB) (inbA) (inb)
    (r : Fin 4096) (k : Fin 128) :
    v.readCov (Val := Elt Ideal) [⟨Rect.unit (s := S4104x128) ![8, 0] ![4096, 128] inbB, B⟩, ⟨Rect.unit (s := S4104x128) ![0, 0] ![8, 128] inbA, A⟩]
      (Rect.unit (s := S4104x128) ![o, 0] ![4096, 128] inb).toLoadRect (ix2 r k)
      = if h : 8 ≤ o + r.val then B (ix2 ⟨o + r.val - 8, by omega⟩ k) else A (ix2 ⟨o + r.val, by omega⟩ k) := by
  rw [View.readCov_eq_canon']
  show View.canon (Val := Elt Ideal) (e := .f32) _ ((Rect.unit (s := S4104x128) ![o, 0] ![4096, 128] inb).toLoadRect.idx (ix2 r k)) = _
  split
  · rename_i h
    have e : (Rect.unit (s := S4104x128) ![o, 0] ![4096, 128] inb).toLoadRect.idx (ix2 r k)
        = (Rect.unit (s := S4104x128) ![8, 0] ![4096, 128] inbB).emb (ix2 ⟨o + r.val - 8, by omega⟩ k) := funext fun a => Fin.ext (by
      fin_cases a
      · show o + 1 * r.val = 8 + 1 * (o + r.val - 8)
        omega
      · rfl)
    refine (congrArg _ e).trans ?_
    exact View.canon_cons_emb (Val := Elt Ideal) (e := .f32) (Rect.unit (s := S4104x128) ![8, 0] ![4096, 128] inbB) B _ _
  · rename_i h
    have e : (Rect.unit (s := S4104x128) ![o, 0] ![4096, 128] inb).toLoadRect.idx (ix2 r k)
        = (Rect.unit (s := S4104x128) ![0, 0] ![8, 128] inbA).emb (ix2 ⟨o + r.val, by omega⟩ k) := funext fun a => Fin.ext (by
      fin_cases a
      · show o + 1 * r.val = 0 + 1 * (o + r.val)
        omega
      · rfl)
    refine (congrArg _ e).trans ?_
    have hn : (Rect.unit (s := S4104x128) ![0, 0] ![8, 128] inbA).emb (ix2 ⟨o + r.val, by omega⟩ k) ∉ (Rect.unit (s := S4104x128) ![8, 0] ![4096, 128] inbB).set := by
      intro hm
      have h1 : 8 ≤ 0 + 1 * (o + r.val) := (Rect.mem_set_unit.mp hm 0).1
      omega
    refine (View.canon_cons_of_not_mem (Val := Elt Ideal) (e := .f32) ⟨Rect.unit (s := S4104x128) ![8, 0] ![4096, 128] inbB, B⟩ [⟨Rect.unit (s := S4104x128) ![0, 0] ![8, 128] inbA, A⟩] hn).trans ?_
    exact View.canon_cons_emb (Val := Elt Ideal) (e := .f32) (Rect.unit (s := S4104x128) ![0, 0] ![8, 128] inbA) A [] _

/-- The same with the zeros and the block the kernel stores. -/
theorem shifted {sp : Space} (v : View sig .tc sp S4104x128 .f32) (x : FVec Ideal S1x4096x128 .f32) (o d : ℕ) (ho : o + d = 8) (inbB) (inbA) (inb) (r : Fin 4096) (k : Fin 128) :
    v.readCov (Val := Elt Ideal) [⟨Rect.unit (s := S4104x128) ![8, 0] ![4096, 128] inbB, k0_pay4 (F := Ideal) x⟩, ⟨Rect.unit (s := S4104x128) ![0, 0] ![8, 128] inbA, k0_pay3 (F := Ideal)⟩]
      (Rect.unit (s := S4104x128) ![o, 0] ![4096, 128] inb).toLoadRect (ix2 r k)
      = back (fun s => x (ix3 0 s k)) d r := by
  refine (scratch_load v _ _ o (by omega) inbB inbA inb r k).trans ?_
  unfold back
  by_cases h : d ≤ r.val
  · rw [dif_pos (by omega), if_pos h]
    have e : (⟨o + r.val - 8, by omega⟩ : Fin 4096) = ⟨r.val - d, by omega⟩ := Fin.ext (by show o + r.val - 8 = r.val - d; omega)
    rw [e]
    unfold k0_pay4 k0_pay2
    pointwise
  · rw [dif_neg (by omega), if_neg h]
    unfold k0_pay3
    pointwise

theorem conv_point (x : Vec Ideal S1x4096x128 .f32) (w : Vec Ideal S4x128 .f32) (a b c : Vec Ideal S4096x128 .f32) (r : Fin 4096) (k : Fin 128) :
    k0_pay5 x w a b c (ix2 r k)
      = silu (w (ix2 3 k) * x (ix3 0 r k) + w (ix2 0 k) * a (ix2 r k) + w (ix2 1 k) * b (ix2 r k) + w (ix2 2 k) * c (ix2 r k)) := by
  unfold silu k0_pay5 k0_pay2
  pointwise

theorem norm_point (x : Vec Ideal S1x4096x128 .f32) (w : Vec Ideal S4x128 .f32) (a b c : Vec Ideal S4096x128 .f32) (r : Fin 4096) :
    k0_pay6 x w a b c (ix2 r 0) = invNorm fun q => k0_pay5 x w a b c (ix2 r q) := by
  unfold invNorm k0_pay6
  generalize k0_pay5 x w a b c = y
  pointwise

theorem below_8 : ∀ n : Fin 24, Scalar.cmpi .slt (BitVec.ofNat 32 n.val) 8#32 = if n.val < 8 then 1#1 else 0#1 := by decide +kernel
theorem below_16 : ∀ n : Fin 24, Scalar.cmpi .slt (BitVec.ofNat 32 n.val) 16#32 = if n.val < 16 then 1#1 else 0#1 := by decide +kernel

theorem head_point (n : Fin 24) (y : FVec Ideal S4096x128 .f32) (v : FVec Ideal S4096x1 .f32) (i : S1x4096x128.Idx) :
    k0_pay1 (BitVec.ofNat 32 n.val) y v (Scalar.cmpi .slt (BitVec.ofNat 32 n.val) 8#32) i
      = y (ix2 (i 1) (i 2)) * (if n.val < 8 then v (ix2 (i 1) 0) * Ideal.ofBits .f32 0x3DB504F3#32 else if n.val < 16 then v (ix2 (i 1) 0) else Ideal.ofBits .f32 0x3F800000#32) := by
  unfold k0_pay1
  rw [below_8, below_16]
  by_cases h : n.val < 8
  · simp only [if_pos h]
    pointwise
  · simp only [if_neg h]
    by_cases h' : n.val < 16
    · simp only [if_pos h']
      pointwise
    · simp only [if_neg h']
      pointwise

variable (m : (ℓ : Loc nD τ sig) → Buf (Elt Ideal) ℓ)

theorem idx : ∀ t : Fin cfg0.N,
    win0_0.index t = ![t.val / 24, 0, 16 + t.val % 24] ∧ win0_1.index t = ![0, t.val % 24] ∧ win0_2.index t = ![t.val / 24, 0, t.val % 24] :=
  (by decide +kernel : ∀ t : Fin grid0.N, _)

theorem second : ∀ t : Fin cfg0.N, (grid0.coords t 1).val = t.val % 24 :=
  (by decide +kernel : ∀ t : Fin grid0.N, _)

def batch (t : Fin cfg0.N) : Fin 4 := ⟨t.val / 24, by have : t.val < 96 := t.isLt; omega⟩
def head (t : Fin cfg0.N) : Fin 24 := ⟨t.val % 24, by omega⟩

/-- Lane `k` of head `n`, over the positions. -/
def channel (x : FVec Ideal S4x4096x6144 .f32) (b : Fin 4) (n : Fin 24) (k : Fin 128) (s : Fin 4096) : EReal :=
  x (ix3 b s ⟨2048 + n.val * 128 + k.val, by omega⟩)

/-- Its taps. -/
def taps (w : FVec Ideal S4x3072 .f32) (n : Fin 24) (k : Fin 128) (j : Fin 4) : EReal := w (ix2 j ⟨n.val * 128 + k.val, by omega⟩)

/-- Head `n`'s row at a position, before its length is divided out. -/
def rowAt (x : FVec Ideal S4x4096x6144 .f32) (w : FVec Ideal S4x3072 .f32) (b : Fin 4) (s : Fin 4096) (n : Fin 24) (k : Fin 128) : EReal :=
  silu (conv (channel x b n k) (taps w n k) s)

theorem channel_block (c : Dev nD) (t : Fin cfg0.N) (s : Fin 4096) (k : Fin 128) :
    (iblk m c 0 t : FVec Ideal S1x4096x128 .f32) (ix3 0 s k) = channel (m ((c : Thread nD τ).loc main_arg0)) (batch t) (head t) k s := by
  unfold channel batch head
  rw [← V_main_arg0 m c]
  blk_point [iblk, V, idx t]

theorem taps_block (c : Dev nD) (t : Fin cfg0.N) (j : Fin 4) (k : Fin 128) :
    (iblk m c 1 t : FVec Ideal S4x128 .f32) (ix2 j k) = taps (m ((c : Thread nD τ).loc main_arg1)) (head t) k j := by
  unfold taps head
  rw [← V_main_arg1 m c]
  blk_point [iblk, V, idx t]

theorem position (t : Fin cfg0.N) (y : S1x4096x128.Idx) :
    (((cfg0.win 2).blk t).view.emb y : S4x4096x3072.Idx) = ix3 (batch t) (y 1) ⟨(head t).val * 128 + (y 2).val, by have h : (y 2).val < 128 := (y 2).isLt; have := (head t).isLt; omega⟩ := by
  unfold batch head
  blk_point [idx t]

/-- The array at the end. -/
def prepArr (x : FVec Ideal S4x4096x6144 .f32) (w : FVec Ideal S4x3072 .f32) : FVec Ideal S4x4096x3072 .f32 := fun i =>
  headRow ((i 2).val / 128) (rowAt x w (i 0) (i 1) ⟨(i 2).val / 128, by have h : (i 2).val < 3072 := (i 2).isLt; omega⟩) ⟨(i 2).val % 128, by omega⟩

theorem prepArr_at (x : FVec Ideal S4x4096x6144 .f32) (w : FVec Ideal S4x3072 .f32) (b : Fin 4) (s : Fin 4096) (n : Fin 24) (k : Fin 128) (hc) :
    prepArr x w (ix3 b s ⟨n.val * 128 + k.val, hc⟩) = headRow n.val (rowAt x w b s n) k := by
  unfold prepArr
  have e1 : (⟨(n.val * 128 + k.val) / 128, by omega⟩ : Fin 24) = n := Fin.ext (by show (n.val * 128 + k.val) / 128 = n.val; omega)
  have e2 : (⟨(n.val * 128 + k.val) % 128, by omega⟩ : Fin 128) = k := Fin.ext (by show (n.val * 128 + k.val) % 128 = k.val; omega)
  exact congrArg₂ (fun (a : Fin 24) d => headRow a.val (rowAt x w b s a) d) e1 e2

/-- The block a grid point leaves, its three shifted loads given. -/
theorem block_held (c : Dev nD) (t : Fin cfg0.N) (p1 p2 p3 : Vec Ideal S4096x128 .f32)
    (h3 : ∀ r k, p3 (ix2 r k) = back (fun s => (iblk m c 0 t : FVec Ideal S1x4096x128 .f32) (ix3 0 s k)) 3 r)
    (h2 : ∀ r k, p2 (ix2 r k) = back (fun s => (iblk m c 0 t : FVec Ideal S1x4096x128 .f32) (ix3 0 s k)) 2 r)
    (h1 : ∀ r k, p1 (ix2 r k) = back (fun s => (iblk m c 0 t : FVec Ideal S1x4096x128 .f32) (ix3 0 s k)) 1 r)
    (y : S1x4096x128.Idx) :
    k0_pay1 (BitVec.ofNat 32 (grid0.coords t 1).val) (k0_pay5 (iblk m c 0 t) (iblk m c 1 t) p3 p2 p1) (k0_pay6 (iblk m c 0 t) (iblk m c 1 t) p3 p2 p1)
        (Scalar.cmpi .slt (BitVec.ofNat 32 (grid0.coords t 1).val) 8#32) y
      = prepArr (m ((c : Thread nD τ).loc main_arg0)) (m ((c : Thread nD τ).loc main_arg1)) (((cfg0.win 2).blk t).view.emb y) := by
  have ey : ∀ q : Fin 128, k0_pay5 (iblk m c 0 t) (iblk m c 1 t) p3 p2 p1 (ix2 (y 1) q)
      = rowAt (m ((c : Thread nD τ).loc main_arg0)) (m ((c : Thread nD τ).loc main_arg1)) (batch t) (y 1) (head t) q := fun q => by
    have ex : (fun s => (iblk m c 0 t : FVec Ideal S1x4096x128 .f32) (ix3 0 s q)) = channel (m ((c : Thread nD τ).loc main_arg0)) (batch t) (head t) q :=
      funext fun s => channel_block m c t s q
    refine (conv_point _ _ _ _ _ (y 1) q).trans ?_
    unfold rowAt conv
    refine congrArg silu ?_
    refine congrArg₂ (· + ·) (congrArg₂ (· + ·) (congrArg₂ (· + ·) (congrArg₂ (· * ·) ?_ ?_) (congrArg₂ (· * ·) ?_ ?_)) (congrArg₂ (· * ·) ?_ ?_)) (congrArg₂ (· * ·) ?_ ?_)
    · exact taps_block m c t 3 q
    · exact channel_block m c t (y 1) q
    · exact taps_block m c t 0 q
    · exact (h3 (y 1) q).trans (congrArg (fun z => back z 3 (y 1)) ex)
    · exact taps_block m c t 1 q
    · exact (h2 (y 1) q).trans (congrArg (fun z => back z 2 (y 1)) ex)
    · exact taps_block m c t 2 q
    · exact (h1 (y 1) q).trans (congrArg (fun z => back z 1 (y 1)) ex)
  have en : (grid0.coords t 1).val = (head t).val := second t
  rw [en]
  refine (head_point (head t) _ _ y).trans (Eq.trans ?_ ((congrArg _ (position t y)).trans (prepArr_at _ _ (batch t) (y 1) (head t) (y 2) _)).symm)
  unfold headRow
  have ev := (norm_point (iblk m c 0 t) (iblk m c 1 t) p3 p2 p1 (y 1)).trans (congrArg invNorm (funext ey))
  rw [ev]
  exact congrArg (· * _) (ey (y 2))

theorem result_held (c : Dev nD) : (dats m 0 c).arrAt 2 cfg0.N
    = prepArr (m ((c : Thread nD τ).loc main_arg0)) (m ((c : Thread nD τ).loc main_arg1)) := by
  refine (dats m 0 c).arrAt_eq_of_covers 2 _ (by decide +kernel) fun t hf y => ?_
  blk_simp
  rw [after0_2]; unfold outsAt0 out0_A_2; frame_out
  exact block_held m c t _ _ _ (fun r k => shifted _ _ 5 3 rfl _ _ _ r k) (fun r k => shifted _ _ 6 2 rfl _ _ _ r k) (fun r k => shifted _ _ 7 1 rfl _ _ _ r k) y

end Cert.Kernel8Ideal.Layer

end
-- ==== Proof.DnPrepRef.lean ====
/- The reference of DeltaNet's short convolution, entry by entry. -/
module

public import proofs.«01_k».proof.Proof.DnPrep
public import proofs.«01_k».proof.Proof.Gen.Reference8Ideal.Read
public import Idealize.ShloMosaic.Lib.KernelVsHost

@[expose] public section

set_option maxRecDepth 16384
set_option maxHeartbeats 400000

noncomputable section

namespace Cert.DnPrep

open Idealize.ShloMosaic Idealize.ShloMosaic.TcCoe

theorem one_word : Ideal.ofBits .f32 0x3F800000#32 = 1 := by
  simp [Ideal.ofBits, Ideal.ieee, -EReal.coe_mul]
  norm_num

theorem zero_int : (FloatOps.sitofp (F := Ideal) .f32 (0#32) : EReal) = 0 := by
  show ((((0#32 : BitVec 32).toInt : ℤ) : ℝ) : EReal) = 0
  simp

end Cert.DnPrep

namespace Cert.Reference8Ideal.Layer

open Idealize.ShloMosaic Idealize.ShloMosaic.TcCoe Idealize.SL.Sem
open Cert.Reference8Ideal Cert.Reference8Ideal.Gen Cert.Reference8Ideal.Read Cert.DnPrep
open Cert.Layer (zero_word)
open Cert.Kernel8Ideal.Layer (channel taps rowAt)

variable (x0 : FVec Ideal S4x4096x6144 .f32) (x1 : FVec Ideal S4x3072 .f32)

/-- Column `c` of the convolved part, over the positions. -/
def column (b : Fin 4) (c : Fin 3072) (s : Fin 4096) : EReal := x0 (ix3 b s ⟨2048 + c.val, by omega⟩)

/-- The padded input at row `e + s` with `e + d = 3` is the column `d` positions earlier. -/
theorem padded (b : Fin 4) (c : Fin 3072) (s : Fin 4096) (e d : ℕ) (h : e + d = 3) (j : S4x4099x3072.Idx)
    (h0 : (j 0).val = b.val) (h1 : (j 1).val = e + s.val) (h2 : (j 2).val = c.val) :
    val_main_v1 (F := Ideal) x0 j = back (column x0 b c) d s := by
  unfold back val_main_v1
  by_cases hd : d ≤ s.val
  · rw [if_pos hd]
    refine (pad_apply_of_inside _ _ _ _ _ _ _ j (ix3 b ⟨s.val - d, by omega⟩ c) ?_).trans ?_
    · intro a
      match a with
      | ⟨0, _⟩ => exact h0.trans (by show b.val = 0 + b.val * (0 + 1); omega)
      | ⟨1, _⟩ => exact h1.trans (by show e + s.val = 3 + (s.val - d) * (0 + 1); omega)
      | ⟨2, _⟩ => exact h2.trans (by show c.val = 0 + c.val * (0 + 1); omega)
    · rw [val_main_v0_apply]
      refine congrArg x0 (funext fun a => ?_)
      match a with
      | ⟨0, _⟩ => rfl
      | ⟨1, _⟩ => rfl
      | ⟨2, _⟩ => rfl
  · rw [if_neg hd]
    refine (pad_apply_of_not_inside _ _ _ _ _ _ _ j 1 ?_).trans zero_int
    rintro ⟨hlo, -⟩
    have hlo' : 3 ≤ (j 1).val := hlo
    omega

theorem back_zero (x : Fin 4096 → EReal) (s : Fin 4096) : back x 0 s = x s := by
  unfold back
  rw [if_pos (Nat.zero_le _)]
  rfl

theorem tap0 (b : Fin 4) (s : Fin 4096) (c : Fin 3072) : val_main_v6 (F := Ideal) x1 (ix3 b s c) = x1 (ix2 0 c) := by
  rw [val_main_v6_apply, val_main_v5_apply, val_main_v3_apply, val_main_v2_apply]
  refine congrArg x1 (funext fun a => ?_)
  match a with
  | ⟨0, _⟩ => rfl
  | ⟨1, _⟩ => exact Fin.ext (by simp [ix2, ix3] <;> omega)

theorem tap1 (b : Fin 4) (s : Fin 4096) (c : Fin 3072) : val_main_v14 (F := Ideal) x1 (ix3 b s c) = x1 (ix2 1 c) := by
  rw [val_main_v14_apply, val_main_v13_apply, val_main_v11_apply, val_main_v10_apply]
  refine congrArg x1 (funext fun a => ?_)
  match a with
  | ⟨0, _⟩ => rfl
  | ⟨1, _⟩ => exact Fin.ext (by simp [ix2, ix3] <;> omega)

theorem tap2 (b : Fin 4) (s : Fin 4096) (c : Fin 3072) : val_main_v21 (F := Ideal) x1 (ix3 b s c) = x1 (ix2 2 c) := by
  rw [val_main_v21_apply, val_main_v20_apply, val_main_v18_apply, val_main_v17_apply]
  refine congrArg x1 (funext fun a => ?_)
  match a with
  | ⟨0, _⟩ => rfl
  | ⟨1, _⟩ => exact Fin.ext (by simp [ix2, ix3] <;> omega)

theorem tap3 (b : Fin 4) (s : Fin 4096) (c : Fin 3072) : val_main_v28 (F := Ideal) x1 (ix3 b s c) = x1 (ix2 3 c) := by
  rw [val_main_v28_apply, val_main_v27_apply, val_main_v25_apply, val_main_v24_apply]
  refine congrArg x1 (funext fun a => ?_)
  match a with
  | ⟨0, _⟩ => rfl
  | ⟨1, _⟩ => exact Fin.ext (by simp [ix2, ix3] <;> omega)

theorem conv_ref (b : Fin 4) (s : Fin 4096) (c : Fin 3072) :
    val_main_v30 (F := Ideal) x0 x1 (ix3 b s c) = conv (column x0 b c) (fun j => x1 (ix2 j c)) s := by
  rw [val_main_v30_apply, val_main_v29_apply, val_main_v23_apply, val_main_v22_apply, val_main_v16_apply, val_main_v15_apply, val_main_v9_apply, val_main_v7_apply,
    val_main_v8_apply, val_main_cst_apply, tap0, tap1, tap2, tap3, val_main_v4_apply, val_main_v12_apply, val_main_v19_apply, val_main_v26_apply,
    padded x0 b c s 0 3 rfl (idx_main_v4 (ix3 b s c)) rfl (Nat.zero_add _).symm rfl, padded x0 b c s 1 2 rfl (idx_main_v12 (ix3 b s c)) rfl rfl rfl,
    padded x0 b c s 2 1 rfl (idx_main_v19 (ix3 b s c)) rfl rfl rfl, padded x0 b c s 3 0 rfl (idx_main_v26 (ix3 b s c)) rfl rfl rfl, back_zero]
  show ((Ideal.ofBits .f32 0x00000000#32 + x1 (ix2 0 c) * back (column x0 b c) 3 s) + x1 (ix2 1 c) * back (column x0 b c) 2 s) + x1 (ix2 2 c) * back (column x0 b c) 1 s
      + x1 (ix2 3 c) * column x0 b c s = _
  rw [zero_word, zero_add]
  unfold conv
  beta_reduce
  ac_rfl

theorem silu_ref (b : Fin 4) (s : Fin 4096) (c : Fin 3072) :
    val_main_v31 (F := Ideal) x0 x1 (ix3 b s c) = silu (conv (column x0 b c) (fun j => x1 (ix2 j c)) s) := by
  rw [val_main_v31_apply, val_main_call1_v5_apply, val_main_call1_v4_apply, val_main_call1_cst_0_apply, val_main_call1_v3_apply, val_main_call1_v2_apply,
    val_main_call1_cst_apply, val_main_call1_v1_apply, val_main_call1_v0_apply, conv_ref]
  generalize conv (column x0 b c) (fun j => x1 (ix2 j c)) s = z
  show z * Ideal.div (Ideal.ofBits .f32 0x3F800000#32) (Ideal.ofBits .f32 0x3F800000#32 + Ideal.exp (-z)) = _
  rw [one_word]
  rfl

/-- A column of head `n`'s row. -/
theorem row_ref (b : Fin 4) (s : Fin 4096) (n : Fin 24) (k : Fin 128) (j : S4x4096x3072.Idx)
    (h0 : (j 0).val = b.val) (h1 : (j 1).val = s.val) (h2 : (j 2).val = n.val * 128 + k.val) :
    val_main_v31 (F := Ideal) x0 x1 j = rowAt x0 x1 b s n k := by
  have ej : j = ix3 b s ⟨n.val * 128 + k.val, by omega⟩ := funext fun a => by
    match a with
    | ⟨0, _⟩ => exact Fin.ext h0
    | ⟨1, _⟩ => exact Fin.ext h1
    | ⟨2, _⟩ => exact Fin.ext h2
  refine (congrArg _ ej).trans ((silu_ref x0 x1 b s _).trans ?_)
  unfold rowAt
  have ec : column x0 b ⟨n.val * 128 + k.val, by omega⟩ = channel x0 b n k := funext fun s' =>
    congrArg (fun q => x0 (ix3 b s' q)) (Fin.ext (by show 2048 + (n.val * 128 + k.val) = 2048 + n.val * 128 + k.val; omega))
  exact congrArg (fun z => silu (conv z _ s)) ec

theorem query_ref (b : Fin 4) (h : Fin 8) (s : Fin 4096) (k : Fin 128) :
    val_main_v36 (F := Ideal) x0 x1 (ix4 b h s k) = rowAt x0 x1 b s ⟨h.val, by omega⟩ k := by
  rw [val_main_v36_apply, val_main_v35_apply, val_main_v32_apply]
  refine row_ref x0 x1 b s _ k _ ?_ ?_ ?_ <;> simp [ix4, ix3] <;> omega

theorem key_ref (b : Fin 4) (h : Fin 8) (s : Fin 4096) (k : Fin 128) :
    val_main_v48 (F := Ideal) x0 x1 (ix4 b h s k) = rowAt x0 x1 b s ⟨8 + h.val, by omega⟩ k := by
  rw [val_main_v48_apply, val_main_v47_apply, val_main_v33_apply]
  refine row_ref x0 x1 b s _ k _ ?_ ?_ ?_ <;> simp [ix4, ix3] <;> omega

theorem query_normed (b : Fin 4) (h : Fin 8) (s : Fin 4096) (k : Fin 128) :
    val_main_v46 (F := Ideal) x0 x1 (ix4 b h s k) = headRow h.val (rowAt x0 x1 b s ⟨h.val, by omega⟩) k := by
  rw [val_main_v46_apply, val_main_v45_apply, val_main_cst_2_apply, val_main_v44_apply, val_main_v43_apply, val_main_v42_apply, val_main_v41_apply, val_main_v39_apply,
    val_main_v38_apply, val_main_v40_apply, val_main_cst_1_apply]
  simp only [val_main_v37_apply, val_main_cst_0_apply]
  have e : ∀ q : Fin 128, idx_main_v38 (idx_main_v39 (idx_main_v43 (ix4 b h s k))) q = ix4 b h s q := fun q => funext fun a => by
    match a with
    | ⟨0, _⟩ => rfl
    | ⟨1, _⟩ => rfl
    | ⟨2, _⟩ => rfl
    | ⟨3, _⟩ => rfl
  simp only [e, query_ref]
  unfold headRow invNorm
  rw [if_pos h.isLt]
  show (_ * Ideal.rsqrt ((Ideal.ofBits .f32 0x00000000#32 + _) + _)) * _ = _
  rw [zero_word, zero_add, mul_assoc]
  rfl

theorem key_normed (b : Fin 4) (h : Fin 8) (s : Fin 4096) (k : Fin 128) :
    val_main_v56 (F := Ideal) x0 x1 (ix4 b h s k) = headRow (8 + h.val) (rowAt x0 x1 b s ⟨8 + h.val, by omega⟩) k := by
  rw [val_main_v56_apply, val_main_v55_apply, val_main_v54_apply, val_main_v53_apply, val_main_v51_apply,
    val_main_v50_apply, val_main_v52_apply, val_main_cst_4_apply]
  simp only [val_main_v49_apply, val_main_cst_3_apply]
  have e : ∀ q : Fin 128, idx_main_v50 (idx_main_v51 (idx_main_v55 (ix4 b h s k))) q = ix4 b h s q := fun q => funext fun a => by
    match a with
    | ⟨0, _⟩ => rfl
    | ⟨1, _⟩ => rfl
    | ⟨2, _⟩ => rfl
    | ⟨3, _⟩ => rfl
  simp only [e, key_ref]
  unfold headRow invNorm
  rw [if_neg (by omega), if_pos (by omega)]
  show _ * Ideal.rsqrt ((Ideal.ofBits .f32 0x00000000#32 + _) + _) = _
  rw [zero_word, zero_add]
  rfl

theorem queries (b : Fin 4) (s : Fin 4096) (c : Fin 1024) :
    val_main_v58 (F := Ideal) x0 x1 (ix3 b s c) = headRow (c.val / 128) (rowAt x0 x1 b s ⟨c.val / 128, by omega⟩) ⟨c.val % 128, by omega⟩ := by
  rw [val_main_v58_apply, val_main_v57_apply]
  refine Eq.trans (congrArg (val_main_v46 (F := Ideal) x0 x1) (funext fun a => ?_)) (query_normed x0 x1 b ⟨c.val / 128, by omega⟩ s ⟨c.val % 128, by omega⟩)
  match a with
  | ⟨0, _⟩ => exact Fin.ext (by simp [ix4, ix3] <;> omega)
  | ⟨1, _⟩ => exact Fin.ext (by simp [ix4, ix3] <;> omega)
  | ⟨2, _⟩ => exact Fin.ext (by simp [ix4, ix3] <;> omega)
  | ⟨3, _⟩ => exact Fin.ext (by simp [ix4, ix3] <;> omega)

theorem keys (b : Fin 4) (s : Fin 4096) (c : Fin 1024) :
    val_main_v60 (F := Ideal) x0 x1 (ix3 b s c) = headRow (8 + c.val / 128) (rowAt x0 x1 b s ⟨8 + c.val / 128, by omega⟩) ⟨c.val % 128, by omega⟩ := by
  rw [val_main_v60_apply, val_main_v59_apply]
  refine Eq.trans (congrArg (val_main_v56 (F := Ideal) x0 x1) (funext fun a => ?_)) (key_normed x0 x1 b ⟨c.val / 128, by omega⟩ s ⟨c.val % 128, by omega⟩)
  match a with
  | ⟨0, _⟩ => exact Fin.ext (by simp [ix4, ix3] <;> omega)
  | ⟨1, _⟩ => exact Fin.ext (by simp [ix4, ix3] <;> omega)
  | ⟨2, _⟩ => exact Fin.ext (by simp [ix4, ix3] <;> omega)
  | ⟨3, _⟩ => exact Fin.ext (by simp [ix4, ix3] <;> omega)

theorem values (b : Fin 4) (s : Fin 4096) (c : Fin 1024) :
    val_main_v34 (F := Ideal) x0 x1 (ix3 b s c) = headRow (16 + c.val / 128) (rowAt x0 x1 b s ⟨16 + c.val / 128, by omega⟩) ⟨c.val % 128, by omega⟩ := by
  rw [val_main_v34_apply]
  unfold headRow
  rw [if_neg (by omega), if_neg (by omega), one_word, mul_one]
  exact row_ref x0 x1 b s _ _ _ rfl rfl (by show 2048 + c.val = (16 + c.val / 128) * 128 + c.val % 128; omega)

theorem joined (A B C : FVec Ideal S4x4096x1024 .f32) (b : Fin 4) (s : Fin 4096) (n : Fin 3072) :
    (concatenate S4x4096x3072 2 [⟨S4x4096x1024, A⟩, ⟨S4x4096x1024, B⟩, ⟨S4x4096x1024, C⟩]
      concatenates_S4x4096x1024_S4x4096x1024_S4x4096x1024_S4x4096x3072_d2 : FVec Ideal S4x4096x3072 .f32) (ix3 b s n)
      = if h1 : n.val < 1024 then A (ix3 b s ⟨n.val, h1⟩) else if h2 : n.val < 2048 then B (ix3 b s ⟨n.val - 1024, by omega⟩) else C (ix3 b s ⟨n.val - 2048, by omega⟩) := by
  pointwise
  by_cases h1 : n.val < 1024
  · rw [dif_pos h1, dif_pos h1]
  · rw [dif_neg h1, dif_neg h1]
    by_cases h2 : n.val < 2048
    · rw [dif_pos (show n.val - 1024 < 1024 by omega), dif_pos h2]
    · rw [dif_neg (show ¬ n.val - 1024 < 1024 by omega), dif_neg h2]
      exact congrArg C (congrArg (ix3 b s) (Fin.ext (by dsimp only; omega)))

theorem head_same (b : Fin 4) (s : Fin 4096) (n n' : Fin 24) (k k' : Fin 128) (hn : n = n') (hk : k = k') :
    headRow n.val (rowAt x0 x1 b s n) k = headRow n'.val (rowAt x0 x1 b s n') k' := by
  rw [hn, hk]

/-- The reference's array. -/
theorem result_ref (b : Fin 4) (s : Fin 4096) (c : Fin 3072) :
    val_main_v61 (F := Ideal) x0 x1 (ix3 b s c) = headRow (c.val / 128) (rowAt x0 x1 b s ⟨c.val / 128, by omega⟩) ⟨c.val % 128, by omega⟩ := by
  unfold val_main_v61
  refine (joined _ _ _ b s c).trans ?_
  by_cases h1 : c.val < 1024
  · rw [dif_pos h1, queries]
  · rw [dif_neg h1]
    by_cases h2 : c.val < 2048
    · rw [dif_pos h2, keys]
      exact head_same x0 x1 b s ⟨8 + (c.val - 1024) / 128, by omega⟩ ⟨c.val / 128, by omega⟩ _ _ (Fin.ext (by show 8 + (c.val - 1024) / 128 = c.val / 128; omega))
        (Fin.ext (by show (c.val - 1024) % 128 = c.val % 128; omega))
    · rw [dif_neg h2, values]
      exact head_same x0 x1 b s ⟨16 + (c.val - 2048) / 128, by omega⟩ ⟨c.val / 128, by omega⟩ _ _ (Fin.ext (by show 16 + (c.val - 2048) / 128 = c.val / 128; omega))
        (Fin.ext (by show (c.val - 2048) % 128 = c.val % 128; omega))

end Cert.Reference8Ideal.Layer

end
-- ==== Proof.DnPrepClaim.lean ====
/- The claim about DeltaNet's short convolution. -/
module

public import proofs.«01_k».proof.Defs
public import proofs.«01_k».proof.Proof.DnPrepRef
public import proofs.«01_k».proof.Proof.Gen.Reference8Ideal.Run
public import Idealize.ShloMosaic.Lib.Claim

@[expose] public section

set_option maxRecDepth 16384
set_option maxHeartbeats 400000

noncomputable section

namespace Cert.Kernel8Ideal.Layer

open Idealize.ShloMosaic Idealize.ShloMosaic.TcCoe Idealize.SL.Sem
open Cert.Kernel8Ideal Cert.Kernel8Ideal.Gen Cert.DnPrep

theorem arrays_same (x0 : FVec Ideal S4x4096x6144 .f32) (x1 : FVec Ideal S4x3072 .f32) :
    prepArr x0 x1 = Cert.Reference8Ideal.Read.val_main_v61 (F := Ideal) x0 x1 := by
  funext i
  have ei : i = ix3 (i 0) (i 1) (i 2) := funext fun a => by
    match a with
    | ⟨0, _⟩ => rfl
    | ⟨1, _⟩ => rfl
    | ⟨2, _⟩ => rfl
  exact ((congrArg _ ei).trans (Cert.Reference8Ideal.Layer.result_ref x0 x1 (i 0) (i 1) (i 2))).symm

/-- The reference's result, from the kernel's arguments. -/
def out (m : (ℓ : Loc nD τ sig) → Buf (Elt Ideal) ℓ) (c : Dev nD) : FVec Ideal S4x4096x3072 .f32 :=
  Cert.Reference8Ideal.Read.val_main_v61 (F := Ideal) (m ((c.tc : Thread nD τ).loc main_arg0)) (m ((c.tc : Thread nD τ).loc main_arg1))

theorem result_same (m : (ℓ : Loc nD τ sig) → Buf (Elt Ideal) ℓ) (c : Dev nD) : (dats m 0 c).arrAt 2 cfg0.N = out m c :=
  (result_held m c).trans (arrays_same _ _)

/-- Over the extended reals the kernel's result is the reference's. -/
theorem algebraic : Cert.algebraic_Kernel8Ideal_Reference8Ideal := by
  intro m g m' g' _ hag
  refine ⟨out m, ?_, (θ_run Cert.Reference8Ideal.defs _ _).mono (fun r h c => ?_) (Cert.Reference8Ideal.Value.run (F := Ideal) m' g')⟩
  · run_from Gen.run_main m g & Gen.unchanged m g
    exact result_same m c
  · obtain ⟨hr, hargs⟩ := h c
    obtain ⟨a0, a1⟩ := hag c
    refine ⟨hr.trans ((Cert.Reference8Ideal.Read.val_main_v61_eq _ _).trans ?_), hargs⟩
    rw [a0, a1]
    rfl

end Cert.Kernel8Ideal.Layer

end
-- ==== Proof.lean ====
/- The certificate: each program ends with its arguments as launched and its semaphores at zero, the two named
   constants of the first idealised kernel are the words it was written with, and over the extended reals every kernel's results
   are its reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite_small
public import proofs.«01_k».proof.Proof.Gen.Pre_finite_mem
public import proofs.«01_k».proof.Proof.Claim
public import proofs.«01_k».proof.Proof.InBClaim
public import proofs.«01_k».proof.Proof.MergeClaim
public import proofs.«01_k».proof.Proof.InAFrameBits
public import proofs.«01_k».proof.Proof.InAClaim
public import proofs.«01_k».proof.Proof.QueryFrameBits
public import proofs.«01_k».proof.Proof.QueryClaim
public import proofs.«01_k».proof.Proof.MemKV
public import proofs.«01_k».proof.Proof.MemAttnClaim
public import proofs.«01_k».proof.Proof.DnPrepClaim
public import Idealize.ShloMosaic.Adequacy
public import Idealize.ShloMosaic.Init

@[expose] public section

noncomputable section

namespace Cert.Proof

open Idealize.ShloMosaic Idealize.SL.Sem Cert.Kernel

/-- The kernel's two named constants stand for the words it was compiled with. -/
theorem preserved : Cert.preserves_Kernel_KernelIdeal :=
  ⟨IdealRules.named_const.statement Cert.KernelIdeal.κ "scale2" .f32 0x3E0293EE#32 _ rfl,
    IdealRules.named_const.statement Cert.KernelIdeal.κ "neg" .f32 0xF149F2CA#32 _ rfl⟩

/-- The reference ends with its arguments as launched. -/
theorem reference_frame [Cert.Pre_finite.Facts] : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- The narrow projections' reference ends with its arguments as launched. -/
theorem narrow_reference_frame : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The merging's reference ends with its arguments as launched. -/
theorem merge_reference_frame : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- The wide projection's reference ends with its arguments as launched. -/
theorem wide_reference_frame [Cert.Pre_finite_small.Facts] : Cert.quiescent_Reference2Ideal := fun m g _ =>
  (θ_run Cert.Reference2Ideal.defs _ _).mono (fun r h => ⟨fun c => (h c).2.2, sem_eq_zero_of_no_sems (by decide) r.2⟩)
    (Cert.Reference2Ideal.Value.run (F := Ideal) m g)

/-- The expert query's reference ends with its arguments as launched. -/
theorem query_reference_frame : Cert.quiescent_Reference5Ideal := fun m g _ =>
  (θ_run Cert.Reference5Ideal.defs _ _).mono (fun r h => ⟨fun c => (h c).2.2, sem_eq_zero_of_no_sems (by decide) r.2⟩)
    (Cert.Reference5Ideal.Value.run (F := Ideal) m g)

/-- The reference of the memory's keys and values ends with its arguments as launched. -/
theorem memory_reference_frame : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- The memory attention's reference ends with its arguments as launched. -/
theorem attention_reference_frame [Cert.Pre_finite_mem.Facts] : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- The convolution's reference ends with its arguments as launched. -/
theorem convolution_reference_frame : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite.Gen.facts, Cert.Pre_finite_small.Gen.facts, Cert.Pre_finite_mem.Gen.facts,
  fun m ρ _ => Cert.Kernel.Gen.frame m ρ, fun m ρ _ => Cert.Kernel.Gen.frame m ρ,
  fun m ρ _ => Cert.KernelIdeal.Gen.frame m ρ, fun m ρ _ => Cert.KernelIdeal.Gen.frame m ρ,
  reference_frame,
  fun m ρ _ => Cert.Kernel2.Gen.frame m ρ, fun m ρ _ => Cert.Kernel2.Gen.frame m ρ,
  fun m ρ _ => Cert.Kernel2Ideal.Gen.frame m ρ, fun m ρ _ => Cert.Kernel2Ideal.Gen.frame m ρ, wide_reference_frame,
  fun m ρ _ => Cert.Kernel3.Gen.frame m ρ, fun m ρ _ => Cert.Kernel3Ideal.Gen.frame m ρ, narrow_reference_frame,
  fun m ρ _ => Cert.Kernel4.Gen.frame m ρ, fun m ρ _ => Cert.Kernel4Ideal.Gen.frame m ρ, merge_reference_frame,
  fun m ρ _ => Cert.Kernel5.Gen.frame m ρ, fun m ρ _ => Cert.Kernel5Ideal.Gen.frame m ρ, query_reference_frame,
  fun m ρ _ => Cert.Kernel6.Gen.frame m ρ, fun m ρ _ => Cert.Kernel6Ideal.Gen.frame m ρ, memory_reference_frame,
  fun m ρ _ => Cert.Kernel7.Gen.frame m ρ, fun m ρ _ => Cert.Kernel7.Gen.frame m ρ,
  fun m ρ _ => Cert.Kernel7Ideal.Gen.frame m ρ, fun m ρ _ => Cert.Kernel7Ideal.Gen.frame m ρ, attention_reference_frame,
  fun m ρ _ => Cert.Kernel8.Gen.frame m ρ, fun m ρ _ => Cert.Kernel8Ideal.Gen.frame m ρ, convolution_reference_frame,
  preserved, Cert.KernelIdeal.Moba.algebraic, trivial, Cert.Kernel2Ideal.Layer.algebraic, trivial, Cert.Kernel3Ideal.Layer.algebraic,
  trivial, Cert.Kernel4Ideal.Layer.algebraic, trivial, Cert.Kernel5Ideal.Layer.algebraic,
  trivial, Cert.Kernel6Ideal.Layer.algebraic, trivial, Cert.Kernel7Ideal.Layer.algebraic,
  trivial, Cert.Kernel8Ideal.Layer.algebraic⟩

end Cert.Proof

end
